-- ==== Defs.lean ====
def Pre_GruA (m : (ℓ : Loc Cert.GruA.nD Cert.GruA.τ Cert.GruA.sig) → Buf (Elt Bits) ℓ) : Prop :=
  True

def Pre_GruAIdeal (m : (ℓ : Loc Cert.GruAIdeal.nD Cert.GruAIdeal.τ Cert.GruAIdeal.sig) → Buf (Elt Ideal) ℓ) : Prop :=
  True

def Pre_GruARefIdeal (m : (ℓ : Loc Cert.GruARefIdeal.nD Cert.GruARefIdeal.τ Cert.GruARefIdeal.sig) → Buf (Elt Ideal) ℓ) : Prop :=
  True

def Pre_GruB (m : (ℓ : Loc Cert.GruB.nD Cert.GruB.τ Cert.GruB.sig) → Buf (Elt Bits) ℓ) : Prop :=
  True

def Pre_GruBIdeal (m : (ℓ : Loc Cert.GruBIdeal.nD Cert.GruBIdeal.τ Cert.GruBIdeal.sig) → Buf (Elt Ideal) ℓ) : Prop :=
  True

def Pre_GruBRefIdeal (m : (ℓ : Loc Cert.GruBRefIdeal.nD Cert.GruBRefIdeal.τ Cert.GruBRefIdeal.sig) → Buf (Elt Ideal) ℓ) : Prop :=
  True

def Pre_MatA (m : (ℓ : Loc Cert.MatA.nD Cert.MatA.τ Cert.MatA.sig) → Buf (Elt Bits) ℓ) : Prop :=
  True

def Pre_MatAIdeal (m : (ℓ : Loc Cert.MatAIdeal.nD Cert.MatAIdeal.τ Cert.MatAIdeal.sig) → Buf (Elt Ideal) ℓ) : Prop :=
  True

def Pre_MatARefIdeal (m : (ℓ : Loc Cert.MatARefIdeal.nD Cert.MatARefIdeal.τ Cert.MatARefIdeal.sig) → Buf (Elt Ideal) ℓ) : Prop :=
  True

def Pre_MatB (m : (ℓ : Loc Cert.MatB.nD Cert.MatB.τ Cert.MatB.sig) → Buf (Elt Bits) ℓ) : Prop :=
  True

def Pre_MatBIdeal (m : (ℓ : Loc Cert.MatBIdeal.nD Cert.MatBIdeal.τ Cert.MatBIdeal.sig) → Buf (Elt Ideal) ℓ) : Prop :=
  True

def Pre_MatBRefIdeal (m : (ℓ : Loc Cert.MatBRefIdeal.nD Cert.MatBRefIdeal.τ Cert.MatBRefIdeal.sig) → Buf (Elt Ideal) ℓ) : Prop :=
  True

def Pre_AddMat (m : (ℓ : Loc Cert.AddMat.nD Cert.AddMat.τ Cert.AddMat.sig) → Buf (Elt Bits) ℓ) : Prop :=
  True

def Pre_AddMatIdeal (m : (ℓ : Loc Cert.AddMatIdeal.nD Cert.AddMatIdeal.τ Cert.AddMatIdeal.sig) → Buf (Elt Ideal) ℓ) : Prop :=
  True

def Pre_AddMatRefIdeal (m : (ℓ : Loc Cert.AddMatRefIdeal.nD Cert.AddMatRefIdeal.τ Cert.AddMatRefIdeal.sig) → Buf (Elt Ideal) ℓ) : Prop :=
  True

def Pre_PairHead [hPre_pairs_in_range : Cert.Pre_pairs_in_range.Facts] (m : (ℓ : Loc Cert.PairHead.nD Cert.PairHead.τ Cert.PairHead.sig) → Buf (Elt Bits) ℓ) : Prop :=
  ∀ c : Dev Cert.PairHead.nD,
    (Cert.Pre_pairs_in_range.fn (F := Bits) (m ((c.tc : Thread Cert.PairHead.nD Cert.PairHead.τ).loc Cert.PairHead.main_arg0)) (m ((c.tc : Thread Cert.PairHead.nD Cert.PairHead.τ).loc Cert.PairHead.main_arg1)) (m ((c.tc : Thread Cert.PairHead.nD Cert.PairHead.τ).loc Cert.PairHead.main_arg2)) (m ((c.tc : Thread Cert.PairHead.nD Cert.PairHead.τ).loc Cert.PairHead.main_arg3)) (m ((c.tc : Thread Cert.PairHead.nD Cert.PairHead.τ).loc Cert.PairHead.main_arg4)) (m ((c.tc : Thread Cert.PairHead.nD Cert.PairHead.τ).loc Cert.PairHead.main_arg5))) = (fun _ => 1#1)

def Pre_PairHeadIdeal [hPre_pairs_in_range : Cert.Pre_pairs_in_range.Facts] (m : (ℓ : Loc Cert.PairHeadIdeal.nD Cert.PairHeadIdeal.τ Cert.PairHeadIdeal.sig) → Buf (Elt Ideal) ℓ) : Prop :=
  ∀ c : Dev Cert.PairHeadIdeal.nD,
    (Cert.Pre_pairs_in_range.fn (F := Ideal) (m ((c.tc : Thread Cert.PairHeadIdeal.nD Cert.PairHeadIdeal.τ).loc Cert.PairHeadIdeal.main_arg0)) (m ((c.tc : Thread Cert.PairHeadIdeal.nD Cert.PairHeadIdeal.τ).loc Cert.PairHeadIdeal.main_arg1)) (m ((c.tc : Thread Cert.PairHeadIdeal.nD Cert.PairHeadIdeal.τ).loc Cert.PairHeadIdeal.main_arg2)) (m ((c.tc : Thread Cert.PairHeadIdeal.nD Cert.PairHeadIdeal.τ).loc Cert.PairHeadIdeal.main_arg3)) (m ((c.tc : Thread Cert.PairHeadIdeal.nD Cert.PairHeadIdeal.τ).loc Cert.PairHeadIdeal.main_arg4)) (m ((c.tc : Thread Cert.PairHeadIdeal.nD Cert.PairHeadIdeal.τ).loc Cert.PairHeadIdeal.main_arg5))) = (fun _ => 1#1)

def Pre_PairHeadRefIdeal [hPre_pairs_in_range : Cert.Pre_pairs_in_range.Facts] (m : (ℓ : Loc Cert.PairHeadRefIdeal.nD Cert.PairHeadRefIdeal.τ Cert.PairHeadRefIdeal.sig) → Buf (Elt Ideal) ℓ) : Prop :=
  ∀ c : Dev Cert.PairHeadRefIdeal.nD,
    (Cert.Pre_pairs_in_range.fn (F := Ideal) (m ((c.tc : Thread Cert.PairHeadRefIdeal.nD Cert.PairHeadRefIdeal.τ).loc Cert.PairHeadRefIdeal.main_arg0)) (m ((c.tc : Thread Cert.PairHeadRefIdeal.nD Cert.PairHeadRefIdeal.τ).loc Cert.PairHeadRefIdeal.main_arg1)) (m ((c.tc : Thread Cert.PairHeadRefIdeal.nD Cert.PairHeadRefIdeal.τ).loc Cert.PairHeadRefIdeal.main_arg2)) (m ((c.tc : Thread Cert.PairHeadRefIdeal.nD Cert.PairHeadRefIdeal.τ).loc Cert.PairHeadRefIdeal.main_arg3)) (m ((c.tc : Thread Cert.PairHeadRefIdeal.nD Cert.PairHeadRefIdeal.τ).loc Cert.PairHeadRefIdeal.main_arg4)) (m ((c.tc : Thread Cert.PairHeadRefIdeal.nD Cert.PairHeadRefIdeal.τ).loc Cert.PairHeadRefIdeal.main_arg5))) = (fun _ => 1#1)

def Pre_SegA [hPre_inner_in_range : Cert.Pre_inner_in_range.Facts] (m : (ℓ : Loc Cert.SegA.nD Cert.SegA.τ Cert.SegA.sig) → Buf (Elt Bits) ℓ) : Prop :=
  ∀ c : Dev Cert.SegA.nD,
    (Cert.Pre_inner_in_range.fn (F := Bits) (m ((c.tc : Thread Cert.SegA.nD Cert.SegA.τ).loc Cert.SegA.main_arg0)) (m ((c.tc : Thread Cert.SegA.nD Cert.SegA.τ).loc Cert.SegA.main_arg1))) = (fun _ => 1#1)

def Pre_SegAIdeal [hPre_inner_in_range : Cert.Pre_inner_in_range.Facts] (m : (ℓ : Loc Cert.SegAIdeal.nD Cert.SegAIdeal.τ Cert.SegAIdeal.sig) → Buf (Elt Ideal) ℓ) : Prop :=
  ∀ c : Dev Cert.SegAIdeal.nD,
    (Cert.Pre_inner_in_range.fn (F := Ideal) (m ((c.tc : Thread Cert.SegAIdeal.nD Cert.SegAIdeal.τ).loc Cert.SegAIdeal.main_arg0)) (m ((c.tc : Thread Cert.SegAIdeal.nD Cert.SegAIdeal.τ).loc Cert.SegAIdeal.main_arg1))) = (fun _ => 1#1)

def Pre_SegARefIdeal [hPre_inner_in_range : Cert.Pre_inner_in_range.Facts] (m : (ℓ : Loc Cert.SegARefIdeal.nD Cert.SegARefIdeal.τ Cert.SegARefIdeal.sig) → Buf (Elt Ideal) ℓ) : Prop :=
  ∀ c : Dev Cert.SegARefIdeal.nD,
    (Cert.Pre_inner_in_range.fn (F := Ideal) (m ((c.tc : Thread Cert.SegARefIdeal.nD Cert.SegARefIdeal.τ).loc Cert.SegARefIdeal.main_arg0)) (m ((c.tc : Thread Cert.SegARefIdeal.nD Cert.SegARefIdeal.τ).loc Cert.SegARefIdeal.main_arg1))) = (fun _ => 1#1)

def Pre_SegB [hPre_edges_in_range : Cert.Pre_edges_in_range.Facts] (m : (ℓ : Loc Cert.SegB.nD Cert.SegB.τ Cert.SegB.sig) → Buf (Elt Bits) ℓ) : Prop :=
  ∀ c : Dev Cert.SegB.nD,
    (Cert.Pre_edges_in_range.fn (F := Bits) (m ((c.tc : Thread Cert.SegB.nD Cert.SegB.τ).loc Cert.SegB.main_arg0)) (m ((c.tc : Thread Cert.SegB.nD Cert.SegB.τ).loc Cert.SegB.main_arg1))) = (fun _ => 1#1)

def Pre_SegBIdeal [hPre_edges_in_range : Cert.Pre_edges_in_range.Facts] (m : (ℓ : Loc Cert.SegBIdeal.nD Cert.SegBIdeal.τ Cert.SegBIdeal.sig) → Buf (Elt Ideal) ℓ) : Prop :=
  ∀ c : Dev Cert.SegBIdeal.nD,
    (Cert.Pre_edges_in_range.fn (F := Ideal) (m ((c.tc : Thread Cert.SegBIdeal.nD Cert.SegBIdeal.τ).loc Cert.SegBIdeal.main_arg0)) (m ((c.tc : Thread Cert.SegBIdeal.nD Cert.SegBIdeal.τ).loc Cert.SegBIdeal.main_arg1))) = (fun _ => 1#1)

def Pre_SegBRefIdeal [hPre_edges_in_range : Cert.Pre_edges_in_range.Facts] (m : (ℓ : Loc Cert.SegBRefIdeal.nD Cert.SegBRefIdeal.τ Cert.SegBRefIdeal.sig) → Buf (Elt Ideal) ℓ) : Prop :=
  ∀ c : Dev Cert.SegBRefIdeal.nD,
    (Cert.Pre_edges_in_range.fn (F := Ideal) (m ((c.tc : Thread Cert.SegBRefIdeal.nD Cert.SegBRefIdeal.τ).loc Cert.SegBRefIdeal.main_arg0)) (m ((c.tc : Thread Cert.SegBRefIdeal.nD Cert.SegBRefIdeal.τ).loc Cert.SegBRefIdeal.main_arg1))) = (fun _ => 1#1)

def Pre_BnProj [hPre_features_finite : Cert.Pre_features_finite.Facts] (m : (ℓ : Loc Cert.BnProj.nD Cert.BnProj.τ Cert.BnProj.sig) → Buf (Elt Bits) ℓ) : Prop :=
  ∀ c : Dev Cert.BnProj.nD,
    (Cert.Pre_features_finite.fn (F := Bits) (m ((c.tc : Thread Cert.BnProj.nD Cert.BnProj.τ).loc Cert.BnProj.main_arg0)) (m ((c.tc : Thread Cert.BnProj.nD Cert.BnProj.τ).loc Cert.BnProj.main_arg1)) (m ((c.tc : Thread Cert.BnProj.nD Cert.BnProj.τ).loc Cert.BnProj.main_arg2)) (m ((c.tc : Thread Cert.BnProj.nD Cert.BnProj.τ).loc Cert.BnProj.main_arg3)) (m ((c.tc : Thread Cert.BnProj.nD Cert.BnProj.τ).loc Cert.BnProj.main_arg4)) (m ((c.tc : Thread Cert.BnProj.nD Cert.BnProj.τ).loc Cert.BnProj.main_arg5)) (m ((c.tc : Thread Cert.BnProj.nD Cert.BnProj.τ).loc Cert.BnProj.main_arg6)) (m ((c.tc : Thread Cert.BnProj.nD Cert.BnProj.τ).loc Cert.BnProj.main_arg7)) (m ((c.tc : Thread Cert.BnProj.nD Cert.BnProj.τ).loc Cert.BnProj.main_arg8)) (m ((c.tc : Thread Cert.BnProj.nD Cert.BnProj.τ).loc Cert.BnProj.main_arg9)) (m ((c.tc : Thread Cert.BnProj.nD Cert.BnProj.τ).loc Cert.BnProj.main_arg10))) = (fun _ => 1#1)

def Pre_BnProjIdeal [hPre_features_finite : Cert.Pre_features_finite.Facts] (m : (ℓ : Loc Cert.BnProjIdeal.nD Cert.BnProjIdeal.τ Cert.BnProjIdeal.sig) → Buf (Elt Ideal) ℓ) : Prop :=
  ∀ c : Dev Cert.BnProjIdeal.nD,
    (Cert.Pre_features_finite.fn (F := Ideal) (m ((c.tc : Thread Cert.BnProjIdeal.nD Cert.BnProjIdeal.τ).loc Cert.BnProjIdeal.main_arg0)) (m ((c.tc : Thread Cert.BnProjIdeal.nD Cert.BnProjIdeal.τ).loc Cert.BnProjIdeal.main_arg1)) (m ((c.tc : Thread Cert.BnProjIdeal.nD Cert.BnProjIdeal.τ).loc Cert.BnProjIdeal.main_arg2)) (m ((c.tc : Thread Cert.BnProjIdeal.nD Cert.BnProjIdeal.τ).loc Cert.BnProjIdeal.main_arg3)) (m ((c.tc : Thread Cert.BnProjIdeal.nD Cert.BnProjIdeal.τ).loc Cert.BnProjIdeal.main_arg4)) (m ((c.tc : Thread Cert.BnProjIdeal.nD Cert.BnProjIdeal.τ).loc Cert.BnProjIdeal.main_arg5)) (m ((c.tc : Thread Cert.BnProjIdeal.nD Cert.BnProjIdeal.τ).loc Cert.BnProjIdeal.main_arg6)) (m ((c.tc : Thread Cert.BnProjIdeal.nD Cert.BnProjIdeal.τ).loc Cert.BnProjIdeal.main_arg7)) (m ((c.tc : Thread Cert.BnProjIdeal.nD Cert.BnProjIdeal.τ).loc Cert.BnProjIdeal.main_arg8)) (m ((c.tc : Thread Cert.BnProjIdeal.nD Cert.BnProjIdeal.τ).loc Cert.BnProjIdeal.main_arg9)) (m ((c.tc : Thread Cert.BnProjIdeal.nD Cert.BnProjIdeal.τ).loc Cert.BnProjIdeal.main_arg10))) = (fun _ => 1#1)

def Pre_BnProjRefIdeal [hPre_features_finite : Cert.Pre_features_finite.Facts] (m : (ℓ : Loc Cert.BnProjRefIdeal.nD Cert.BnProjRefIdeal.τ Cert.BnProjRefIdeal.sig) → Buf (Elt Ideal) ℓ) : Prop :=
  ∀ c : Dev Cert.BnProjRefIdeal.nD,
    (Cert.Pre_features_finite.fn (F := Ideal) (m ((c.tc : Thread Cert.BnProjRefIdeal.nD Cert.BnProjRefIdeal.τ).loc Cert.BnProjRefIdeal.main_arg0)) (m ((c.tc : Thread Cert.BnProjRefIdeal.nD Cert.BnProjRefIdeal.τ).loc Cert.BnProjRefIdeal.main_arg1)) (m ((c.tc : Thread Cert.BnProjRefIdeal.nD Cert.BnProjRefIdeal.τ).loc Cert.BnProjRefIdeal.main_arg2)) (m ((c.tc : Thread Cert.BnProjRefIdeal.nD Cert.BnProjRefIdeal.τ).loc Cert.BnProjRefIdeal.main_arg3)) (m ((c.tc : Thread Cert.BnProjRefIdeal.nD Cert.BnProjRefIdeal.τ).loc Cert.BnProjRefIdeal.main_arg4)) (m ((c.tc : Thread Cert.BnProjRefIdeal.nD Cert.BnProjRefIdeal.τ).loc Cert.BnProjRefIdeal.main_arg5)) (m ((c.tc : Thread Cert.BnProjRefIdeal.nD Cert.BnProjRefIdeal.τ).loc Cert.BnProjRefIdeal.main_arg6)) (m ((c.tc : Thread Cert.BnProjRefIdeal.nD Cert.BnProjRefIdeal.τ).loc Cert.BnProjRefIdeal.main_arg7)) (m ((c.tc : Thread Cert.BnProjRefIdeal.nD Cert.BnProjRefIdeal.τ).loc Cert.BnProjRefIdeal.main_arg8)) (m ((c.tc : Thread Cert.BnProjRefIdeal.nD Cert.BnProjRefIdeal.τ).loc Cert.BnProjRefIdeal.main_arg9)) (m ((c.tc : Thread Cert.BnProjRefIdeal.nD Cert.BnProjRefIdeal.τ).loc Cert.BnProjRefIdeal.main_arg10))) = (fun _ => 1#1)

def Pre_Att1 [hPre_att1_in_range : Cert.Pre_att1_in_range.Facts] (m : (ℓ : Loc Cert.Att1.nD Cert.Att1.τ Cert.Att1.sig) → Buf (Elt Bits) ℓ) : Prop :=
  ∀ c : Dev Cert.Att1.nD,
    (Cert.Pre_att1_in_range.fn (F := Bits) (m ((c.tc : Thread Cert.Att1.nD Cert.Att1.τ).loc Cert.Att1.main_arg0)) (m ((c.tc : Thread Cert.Att1.nD Cert.Att1.τ).loc Cert.Att1.main_arg1)) (m ((c.tc : Thread Cert.Att1.nD Cert.Att1.τ).loc Cert.Att1.main_arg2)) (m ((c.tc : Thread Cert.Att1.nD Cert.Att1.τ).loc Cert.Att1.main_arg3)) (m ((c.tc : Thread Cert.Att1.nD Cert.Att1.τ).loc Cert.Att1.main_arg4)) (m ((c.tc : Thread Cert.Att1.nD Cert.Att1.τ).loc Cert.Att1.main_arg5))) = (fun _ => 1#1)

def Pre_Att1Ideal [hPre_att1_in_range : Cert.Pre_att1_in_range.Facts] (m : (ℓ : Loc Cert.Att1Ideal.nD Cert.Att1Ideal.τ Cert.Att1Ideal.sig) → Buf (Elt Ideal) ℓ) : Prop :=
  ∀ c : Dev Cert.Att1Ideal.nD,
    (Cert.Pre_att1_in_range.fn (F := Ideal) (m ((c.tc : Thread Cert.Att1Ideal.nD Cert.Att1Ideal.τ).loc Cert.Att1Ideal.main_arg0)) (m ((c.tc : Thread Cert.Att1Ideal.nD Cert.Att1Ideal.τ).loc Cert.Att1Ideal.main_arg1)) (m ((c.tc : Thread Cert.Att1Ideal.nD Cert.Att1Ideal.τ).loc Cert.Att1Ideal.main_arg2)) (m ((c.tc : Thread Cert.Att1Ideal.nD Cert.Att1Ideal.τ).loc Cert.Att1Ideal.main_arg3)) (m ((c.tc : Thread Cert.Att1Ideal.nD Cert.Att1Ideal.τ).loc Cert.Att1Ideal.main_arg4)) (m ((c.tc : Thread Cert.Att1Ideal.nD Cert.Att1Ideal.τ).loc Cert.Att1Ideal.main_arg5))) = (fun _ => 1#1)

def Pre_Att1RefIdeal [hPre_att1_in_range : Cert.Pre_att1_in_range.Facts] (m : (ℓ : Loc Cert.Att1RefIdeal.nD Cert.Att1RefIdeal.τ Cert.Att1RefIdeal.sig) → Buf (Elt Ideal) ℓ) : Prop :=
  ∀ c : Dev Cert.Att1RefIdeal.nD,
    (Cert.Pre_att1_in_range.fn (F := Ideal) (m ((c.tc : Thread Cert.Att1RefIdeal.nD Cert.Att1RefIdeal.τ).loc Cert.Att1RefIdeal.main_arg0)) (m ((c.tc : Thread Cert.Att1RefIdeal.nD Cert.Att1RefIdeal.τ).loc Cert.Att1RefIdeal.main_arg1)) (m ((c.tc : Thread Cert.Att1RefIdeal.nD Cert.Att1RefIdeal.τ).loc Cert.Att1RefIdeal.main_arg2)) (m ((c.tc : Thread Cert.Att1RefIdeal.nD Cert.Att1RefIdeal.τ).loc Cert.Att1RefIdeal.main_arg3)) (m ((c.tc : Thread Cert.Att1RefIdeal.nD Cert.Att1RefIdeal.τ).loc Cert.Att1RefIdeal.main_arg4)) (m ((c.tc : Thread Cert.Att1RefIdeal.nD Cert.Att1RefIdeal.τ).loc Cert.Att1RefIdeal.main_arg5))) = (fun _ => 1#1)

def Pre_Att2 [hPre_att2_in_range : Cert.Pre_att2_in_range.Facts] (m : (ℓ : Loc Cert.Att2.nD Cert.Att2.τ Cert.Att2.sig) → Buf (Elt Bits) ℓ) : Prop :=
  ∀ c : Dev Cert.Att2.nD,
    (Cert.Pre_att2_in_range.fn (F := Bits) (m ((c.tc : Thread Cert.Att2.nD Cert.Att2.τ).loc Cert.Att2.main_arg0)) (m ((c.tc : Thread Cert.Att2.nD Cert.Att2.τ).loc Cert.Att2.main_arg1)) (m ((c.tc : Thread Cert.Att2.nD Cert.Att2.τ).loc Cert.Att2.main_arg2))) = (fun _ => 1#1)

def Pre_Att2Ideal [hPre_att2_in_range : Cert.Pre_att2_in_range.Facts] (m : (ℓ : Loc Cert.Att2Ideal.nD Cert.Att2Ideal.τ Cert.Att2Ideal.sig) → Buf (Elt Ideal) ℓ) : Prop :=
  ∀ c : Dev Cert.Att2Ideal.nD,
    (Cert.Pre_att2_in_range.fn (F := Ideal) (m ((c.tc : Thread Cert.Att2Ideal.nD Cert.Att2Ideal.τ).loc Cert.Att2Ideal.main_arg0)) (m ((c.tc : Thread Cert.Att2Ideal.nD Cert.Att2Ideal.τ).loc Cert.Att2Ideal.main_arg1)) (m ((c.tc : Thread Cert.Att2Ideal.nD Cert.Att2Ideal.τ).loc Cert.Att2Ideal.main_arg2))) = (fun _ => 1#1)

def Pre_Att2RefIdeal [hPre_att2_in_range : Cert.Pre_att2_in_range.Facts] (m : (ℓ : Loc Cert.Att2RefIdeal.nD Cert.Att2RefIdeal.τ Cert.Att2RefIdeal.sig) → Buf (Elt Ideal) ℓ) : Prop :=
  ∀ c : Dev Cert.Att2RefIdeal.nD,
    (Cert.Pre_att2_in_range.fn (F := Ideal) (m ((c.tc : Thread Cert.Att2RefIdeal.nD Cert.Att2RefIdeal.τ).loc Cert.Att2RefIdeal.main_arg0)) (m ((c.tc : Thread Cert.Att2RefIdeal.nD Cert.Att2RefIdeal.τ).loc Cert.Att2RefIdeal.main_arg1)) (m ((c.tc : Thread Cert.Att2RefIdeal.nD Cert.Att2RefIdeal.τ).loc Cert.Att2RefIdeal.main_arg2))) = (fun _ => 1#1)

def Pre_Mean (m : (ℓ : Loc Cert.Mean.nD Cert.Mean.τ Cert.Mean.sig) → Buf (Elt Bits) ℓ) : Prop :=
  True

def Pre_MeanIdeal (m : (ℓ : Loc Cert.MeanIdeal.nD Cert.MeanIdeal.τ Cert.MeanIdeal.sig) → Buf (Elt Ideal) ℓ) : Prop :=
  True

def Pre_MeanRefIdeal (m : (ℓ : Loc Cert.MeanRefIdeal.nD Cert.MeanRefIdeal.τ Cert.MeanRefIdeal.sig) → Buf (Elt Ideal) ℓ) : Prop :=
  True

def quiescent_GruA [hGruA : Cert.GruA.Facts] : Prop :=
  ∀ (m : (ℓ : Loc Cert.GruA.nD Cert.GruA.τ Cert.GruA.sig) → Buf (Elt Bits) ℓ) (g : Dev Cert.GruA.nD → PrngReg), Pre_GruA m →
    θ_run (Cert.GruA.defs (F := Bits)) (onTc (τ := Cert.GruA.τ) (Cert.GruA.main (F := Bits))) ⟨m, fun _ => 0, g⟩ (fun r => (∀ c : Dev Cert.GruA.nD,
      r.2.mem ((c.tc : Thread Cert.GruA.nD Cert.GruA.τ).loc Cert.GruA.main_arg0) = m ((c.tc : Thread Cert.GruA.nD Cert.GruA.τ).loc Cert.GruA.main_arg0)
      ∧ r.2.mem ((c.tc : Thread Cert.GruA.nD Cert.GruA.τ).loc Cert.GruA.main_arg1) = m ((c.tc : Thread Cert.GruA.nD Cert.GruA.τ).loc Cert.GruA.main_arg1)
      ∧ r.2.mem ((c.tc : Thread Cert.GruA.nD Cert.GruA.τ).loc Cert.GruA.main_arg2) = m ((c.tc : Thread Cert.GruA.nD Cert.GruA.τ).loc Cert.GruA.main_arg2)
      ∧ r.2.mem ((c.tc : Thread Cert.GruA.nD Cert.GruA.τ).loc Cert.GruA.main_arg3) = m ((c.tc : Thread Cert.GruA.nD Cert.GruA.τ).loc Cert.GruA.main_arg3)
      ∧ r.2.mem ((c.tc : Thread Cert.GruA.nD Cert.GruA.τ).loc Cert.GruA.main_arg4) = m ((c.tc : Thread Cert.GruA.nD Cert.GruA.τ).loc Cert.GruA.main_arg4)
      ∧ r.2.mem ((c.tc : Thread Cert.GruA.nD Cert.GruA.τ).loc Cert.GruA.main_arg5) = m ((c.tc : Thread Cert.GruA.nD Cert.GruA.τ).loc Cert.GruA.main_arg5))
      ∧ r.2.sem = fun _ => 0)

def quiescent_GruAIdeal [hGruAIdeal : Cert.GruAIdeal.Facts] : Prop :=
  ∀ (m : (ℓ : Loc Cert.GruAIdeal.nD Cert.GruAIdeal.τ Cert.GruAIdeal.sig) → Buf (Elt Ideal) ℓ) (g : Dev Cert.GruAIdeal.nD → PrngReg), Pre_GruAIdeal m →
    θ_run (Cert.GruAIdeal.defs (F := Ideal)) (onTc (τ := Cert.GruAIdeal.τ) (Cert.GruAIdeal.main (F := Ideal))) ⟨m, fun _ => 0, g⟩ (fun r => (∀ c : Dev Cert.GruAIdeal.nD,
      r.2.mem ((c.tc : Thread Cert.GruAIdeal.nD Cert.GruAIdeal.τ).loc Cert.GruAIdeal.main_arg0) = m ((c.tc : Thread Cert.GruAIdeal.nD Cert.GruAIdeal.τ).loc Cert.GruAIdeal.main_arg0)
      ∧ r.2.mem ((c.tc : Thread Cert.GruAIdeal.nD Cert.GruAIdeal.τ).loc Cert.GruAIdeal.main_arg1) = m ((c.tc : Thread Cert.GruAIdeal.nD Cert.GruAIdeal.τ).loc Cert.GruAIdeal.main_arg1)
      ∧ r.2.mem ((c.tc : Thread Cert.GruAIdeal.nD Cert.GruAIdeal.τ).loc Cert.GruAIdeal.main_arg2) = m ((c.tc : Thread Cert.GruAIdeal.nD Cert.GruAIdeal.τ).loc Cert.GruAIdeal.main_arg2)
      ∧ r.2.mem ((c.tc : Thread Cert.GruAIdeal.nD Cert.GruAIdeal.τ).loc Cert.GruAIdeal.main_arg3) = m ((c.tc : Thread Cert.GruAIdeal.nD Cert.GruAIdeal.τ).loc Cert.GruAIdeal.main_arg3)
      ∧ r.2.mem ((c.tc : Thread Cert.GruAIdeal.nD Cert.GruAIdeal.τ).loc Cert.GruAIdeal.main_arg4) = m ((c.tc : Thread Cert.GruAIdeal.nD Cert.GruAIdeal.τ).loc Cert.GruAIdeal.main_arg4)
      ∧ r.2.mem ((c.tc : Thread Cert.GruAIdeal.nD Cert.GruAIdeal.τ).loc Cert.GruAIdeal.main_arg5) = m ((c.tc : Thread Cert.GruAIdeal.nD Cert.GruAIdeal.τ).loc Cert.GruAIdeal.main_arg5))
      ∧ r.2.sem = fun _ => 0)

def quiescent_GruARefIdeal [hGruARefIdeal : Cert.GruARefIdeal.Facts] : Prop :=
  ∀ (m : (ℓ : Loc Cert.GruARefIdeal.nD Cert.GruARefIdeal.τ Cert.GruARefIdeal.sig) → Buf (Elt Ideal) ℓ) (g : Dev Cert.GruARefIdeal.nD → PrngReg), Pre_GruARefIdeal m →
    θ_run (Cert.GruARefIdeal.defs (F := Ideal)) (onTc (τ := Cert.GruARefIdeal.τ) (Cert.GruARefIdeal.main (F := Ideal))) ⟨m, fun _ => 0, g⟩ (fun r => (∀ c : Dev Cert.GruARefIdeal.nD,
      r.2.mem ((c.tc : Thread Cert.GruARefIdeal.nD Cert.GruARefIdeal.τ).loc Cert.GruARefIdeal.main_arg0) = m ((c.tc : Thread Cert.GruARefIdeal.nD Cert.GruARefIdeal.τ).loc Cert.GruARefIdeal.main_arg0)
      ∧ r.2.mem ((c.tc : Thread Cert.GruARefIdeal.nD Cert.GruARefIdeal.τ).loc Cert.GruARefIdeal.main_arg1) = m ((c.tc : Thread Cert.GruARefIdeal.nD Cert.GruARefIdeal.τ).loc Cert.GruARefIdeal.main_arg1)
      ∧ r.2.mem ((c.tc : Thread Cert.GruARefIdeal.nD Cert.GruARefIdeal.τ).loc Cert.GruARefIdeal.main_arg2) = m ((c.tc : Thread Cert.GruARefIdeal.nD Cert.GruARefIdeal.τ).loc Cert.GruARefIdeal.main_arg2)
      ∧ r.2.mem ((c.tc : Thread Cert.GruARefIdeal.nD Cert.GruARefIdeal.τ).loc Cert.GruARefIdeal.main_arg3) = m ((c.tc : Thread Cert.GruARefIdeal.nD Cert.GruARefIdeal.τ).loc Cert.GruARefIdeal.main_arg3)
      ∧ r.2.mem ((c.tc : Thread Cert.GruARefIdeal.nD Cert.GruARefIdeal.τ).loc Cert.GruARefIdeal.main_arg4) = m ((c.tc : Thread Cert.GruARefIdeal.nD Cert.GruARefIdeal.τ).loc Cert.GruARefIdeal.main_arg4)
      ∧ r.2.mem ((c.tc : Thread Cert.GruARefIdeal.nD Cert.GruARefIdeal.τ).loc Cert.GruARefIdeal.main_arg5) = m ((c.tc : Thread Cert.GruARefIdeal.nD Cert.GruARefIdeal.τ).loc Cert.GruARefIdeal.main_arg5))
      ∧ r.2.sem = fun _ => 0)

def quiescent_GruB [hGruB : Cert.GruB.Facts] : Prop :=
  ∀ (m : (ℓ : Loc Cert.GruB.nD Cert.GruB.τ Cert.GruB.sig) → Buf (Elt Bits) ℓ) (g : Dev Cert.GruB.nD → PrngReg), Pre_GruB m →
    θ_run (Cert.GruB.defs (F := Bits)) (onTc (τ := Cert.GruB.τ) (Cert.GruB.main (F := Bits))) ⟨m, fun _ => 0, g⟩ (fun r => (∀ c : Dev Cert.GruB.nD,
      r.2.mem ((c.tc : Thread Cert.GruB.nD Cert.GruB.τ).loc Cert.GruB.main_arg0) = m ((c.tc : Thread Cert.GruB.nD Cert.GruB.τ).loc Cert.GruB.main_arg0)
      ∧ r.2.mem ((c.tc : Thread Cert.GruB.nD Cert.GruB.τ).loc Cert.GruB.main_arg1) = m ((c.tc : Thread Cert.GruB.nD Cert.GruB.τ).loc Cert.GruB.main_arg1)
      ∧ r.2.mem ((c.tc : Thread Cert.GruB.nD Cert.GruB.τ).loc Cert.GruB.main_arg2) = m ((c.tc : Thread Cert.GruB.nD Cert.GruB.τ).loc Cert.GruB.main_arg2)
      ∧ r.2.mem ((c.tc : Thread Cert.GruB.nD Cert.GruB.τ).loc Cert.GruB.main_arg3) = m ((c.tc : Thread Cert.GruB.nD Cert.GruB.τ).loc Cert.GruB.main_arg3)
      ∧ r.2.mem ((c.tc : Thread Cert.GruB.nD Cert.GruB.τ).loc Cert.GruB.main_arg4) = m ((c.tc : Thread Cert.GruB.nD Cert.GruB.τ).loc Cert.GruB.main_arg4)
      ∧ r.2.mem ((c.tc : Thread Cert.GruB.nD Cert.GruB.τ).loc Cert.GruB.main_arg5) = m ((c.tc : Thread Cert.GruB.nD Cert.GruB.τ).loc Cert.GruB.main_arg5))
      ∧ r.2.sem = fun _ => 0)

def quiescent_GruBIdeal [hGruBIdeal : Cert.GruBIdeal.Facts] : Prop :=
  ∀ (m : (ℓ : Loc Cert.GruBIdeal.nD Cert.GruBIdeal.τ Cert.GruBIdeal.sig) → Buf (Elt Ideal) ℓ) (g : Dev Cert.GruBIdeal.nD → PrngReg), Pre_GruBIdeal m →
    θ_run (Cert.GruBIdeal.defs (F := Ideal)) (onTc (τ := Cert.GruBIdeal.τ) (Cert.GruBIdeal.main (F := Ideal))) ⟨m, fun _ => 0, g⟩ (fun r => (∀ c : Dev Cert.GruBIdeal.nD,
      r.2.mem ((c.tc : Thread Cert.GruBIdeal.nD Cert.GruBIdeal.τ).loc Cert.GruBIdeal.main_arg0) = m ((c.tc : Thread Cert.GruBIdeal.nD Cert.GruBIdeal.τ).loc Cert.GruBIdeal.main_arg0)
      ∧ r.2.mem ((c.tc : Thread Cert.GruBIdeal.nD Cert.GruBIdeal.τ).loc Cert.GruBIdeal.main_arg1) = m ((c.tc : Thread Cert.GruBIdeal.nD Cert.GruBIdeal.τ).loc Cert.GruBIdeal.main_arg1)
      ∧ r.2.mem ((c.tc : Thread Cert.GruBIdeal.nD Cert.GruBIdeal.τ).loc Cert.GruBIdeal.main_arg2) = m ((c.tc : Thread Cert.GruBIdeal.nD Cert.GruBIdeal.τ).loc Cert.GruBIdeal.main_arg2)
      ∧ r.2.mem ((c.tc : Thread Cert.GruBIdeal.nD Cert.GruBIdeal.τ).loc Cert.GruBIdeal.main_arg3) = m ((c.tc : Thread Cert.GruBIdeal.nD Cert.GruBIdeal.τ).loc Cert.GruBIdeal.main_arg3)
      ∧ r.2.mem ((c.tc : Thread Cert.GruBIdeal.nD Cert.GruBIdeal.τ).loc Cert.GruBIdeal.main_arg4) = m ((c.tc : Thread Cert.GruBIdeal.nD Cert.GruBIdeal.τ).loc Cert.GruBIdeal.main_arg4)
      ∧ r.2.mem ((c.tc : Thread Cert.GruBIdeal.nD Cert.GruBIdeal.τ).loc Cert.GruBIdeal.main_arg5) = m ((c.tc : Thread Cert.GruBIdeal.nD Cert.GruBIdeal.τ).loc Cert.GruBIdeal.main_arg5))
      ∧ r.2.sem = fun _ => 0)

def quiescent_GruBRefIdeal [hGruBRefIdeal : Cert.GruBRefIdeal.Facts] : Prop :=
  ∀ (m : (ℓ : Loc Cert.GruBRefIdeal.nD Cert.GruBRefIdeal.τ Cert.GruBRefIdeal.sig) → Buf (Elt Ideal) ℓ) (g : Dev Cert.GruBRefIdeal.nD → PrngReg), Pre_GruBRefIdeal m →
    θ_run (Cert.GruBRefIdeal.defs (F := Ideal)) (onTc (τ := Cert.GruBRefIdeal.τ) (Cert.GruBRefIdeal.main (F := Ideal))) ⟨m, fun _ => 0, g⟩ (fun r => (∀ c : Dev Cert.GruBRefIdeal.nD,
      r.2.mem ((c.tc : Thread Cert.GruBRefIdeal.nD Cert.GruBRefIdeal.τ).loc Cert.GruBRefIdeal.main_arg0) = m ((c.tc : Thread Cert.GruBRefIdeal.nD Cert.GruBRefIdeal.τ).loc Cert.GruBRefIdeal.main_arg0)
      ∧ r.2.mem ((c.tc : Thread Cert.GruBRefIdeal.nD Cert.GruBRefIdeal.τ).loc Cert.GruBRefIdeal.main_arg1) = m ((c.tc : Thread Cert.GruBRefIdeal.nD Cert.GruBRefIdeal.τ).loc Cert.GruBRefIdeal.main_arg1)
      ∧ r.2.mem ((c.tc : Thread Cert.GruBRefIdeal.nD Cert.GruBRefIdeal.τ).loc Cert.GruBRefIdeal.main_arg2) = m ((c.tc : Thread Cert.GruBRefIdeal.nD Cert.GruBRefIdeal.τ).loc Cert.GruBRefIdeal.main_arg2)
      ∧ r.2.mem ((c.tc : Thread Cert.GruBRefIdeal.nD Cert.GruBRefIdeal.τ).loc Cert.GruBRefIdeal.main_arg3) = m ((c.tc : Thread Cert.GruBRefIdeal.nD Cert.GruBRefIdeal.τ).loc Cert.GruBRefIdeal.main_arg3)
      ∧ r.2.mem ((c.tc : Thread Cert.GruBRefIdeal.nD Cert.GruBRefIdeal.τ).loc Cert.GruBRefIdeal.main_arg4) = m ((c.tc : Thread Cert.GruBRefIdeal.nD Cert.GruBRefIdeal.τ).loc Cert.GruBRefIdeal.main_arg4)
      ∧ r.2.mem ((c.tc : Thread Cert.GruBRefIdeal.nD Cert.GruBRefIdeal.τ).loc Cert.GruBRefIdeal.main_arg5) = m ((c.tc : Thread Cert.GruBRefIdeal.nD Cert.GruBRefIdeal.τ).loc Cert.GruBRefIdeal.main_arg5))
      ∧ r.2.sem = fun _ => 0)

def quiescent_MatA [hMatA : Cert.MatA.Facts] : Prop :=
  ∀ (m : (ℓ : Loc Cert.MatA.nD Cert.MatA.τ Cert.MatA.sig) → Buf (Elt Bits) ℓ) (g : Dev Cert.MatA.nD → PrngReg), Pre_MatA m →
    θ_run (Cert.MatA.defs (F := Bits)) (onTc (τ := Cert.MatA.τ) (Cert.MatA.main (F := Bits))) ⟨m, fun _ => 0, g⟩ (fun r => (∀ c : Dev Cert.MatA.nD,
      r.2.mem ((c.tc : Thread Cert.MatA.nD Cert.MatA.τ).loc Cert.MatA.main_arg0) = m ((c.tc : Thread Cert.MatA.nD Cert.MatA.τ).loc Cert.MatA.main_arg0)
      ∧ r.2.mem ((c.tc : Thread Cert.MatA.nD Cert.MatA.τ).loc Cert.MatA.main_arg1) = m ((c.tc : Thread Cert.MatA.nD Cert.MatA.τ).loc Cert.MatA.main_arg1))
      ∧ r.2.sem = fun _ => 0)

def quiescent_MatAIdeal [hMatAIdeal : Cert.MatAIdeal.Facts] : Prop :=
  ∀ (m : (ℓ : Loc Cert.MatAIdeal.nD Cert.MatAIdeal.τ Cert.MatAIdeal.sig) → Buf (Elt Ideal) ℓ) (g : Dev Cert.MatAIdeal.nD → PrngReg), Pre_MatAIdeal m →
    θ_run (Cert.MatAIdeal.defs (F := Ideal)) (onTc (τ := Cert.MatAIdeal.τ) (Cert.MatAIdeal.main (F := Ideal))) ⟨m, fun _ => 0, g⟩ (fun r => (∀ c : Dev Cert.MatAIdeal.nD,
      r.2.mem ((c.tc : Thread Cert.MatAIdeal.nD Cert.MatAIdeal.τ).loc Cert.MatAIdeal.main_arg0) = m ((c.tc : Thread Cert.MatAIdeal.nD Cert.MatAIdeal.τ).loc Cert.MatAIdeal.main_arg0)
      ∧ r.2.mem ((c.tc : Thread Cert.MatAIdeal.nD Cert.MatAIdeal.τ).loc Cert.MatAIdeal.main_arg1) = m ((c.tc : Thread Cert.MatAIdeal.nD Cert.MatAIdeal.τ).loc Cert.MatAIdeal.main_arg1))
      ∧ r.2.sem = fun _ => 0)

def quiescent_MatARefIdeal [hMatARefIdeal : Cert.MatARefIdeal.Facts] : Prop :=
  ∀ (m : (ℓ : Loc Cert.MatARefIdeal.nD Cert.MatARefIdeal.τ Cert.MatARefIdeal.sig) → Buf (Elt Ideal) ℓ) (g : Dev Cert.MatARefIdeal.nD → PrngReg), Pre_MatARefIdeal m →
    θ_run (Cert.MatARefIdeal.defs (F := Ideal)) (onTc (τ := Cert.MatARefIdeal.τ) (Cert.MatARefIdeal.main (F := Ideal))) ⟨m, fun _ => 0, g⟩ (fun r => (∀ c : Dev Cert.MatARefIdeal.nD,
      r.2.mem ((c.tc : Thread Cert.MatARefIdeal.nD Cert.MatARefIdeal.τ).loc Cert.MatARefIdeal.main_arg0) = m ((c.tc : Thread Cert.MatARefIdeal.nD Cert.MatARefIdeal.τ).loc Cert.MatARefIdeal.main_arg0)
      ∧ r.2.mem ((c.tc : Thread Cert.MatARefIdeal.nD Cert.MatARefIdeal.τ).loc Cert.MatARefIdeal.main_arg1) = m ((c.tc : Thread Cert.MatARefIdeal.nD Cert.MatARefIdeal.τ).loc Cert.MatARefIdeal.main_arg1))
      ∧ r.2.sem = fun _ => 0)

def quiescent_MatB [hMatB : Cert.MatB.Facts] : Prop :=
  ∀ (m : (ℓ : Loc Cert.MatB.nD Cert.MatB.τ Cert.MatB.sig) → Buf (Elt Bits) ℓ) (g : Dev Cert.MatB.nD → PrngReg), Pre_MatB m →
    θ_run (Cert.MatB.defs (F := Bits)) (onTc (τ := Cert.MatB.τ) (Cert.MatB.main (F := Bits))) ⟨m, fun _ => 0, g⟩ (fun r => (∀ c : Dev Cert.MatB.nD,
      r.2.mem ((c.tc : Thread Cert.MatB.nD Cert.MatB.τ).loc Cert.MatB.main_arg0) = m ((c.tc : Thread Cert.MatB.nD Cert.MatB.τ).loc Cert.MatB.main_arg0)
      ∧ r.2.mem ((c.tc : Thread Cert.MatB.nD Cert.MatB.τ).loc Cert.MatB.main_arg1) = m ((c.tc : Thread Cert.MatB.nD Cert.MatB.τ).loc Cert.MatB.main_arg1))
      ∧ r.2.sem = fun _ => 0)

def quiescent_MatBIdeal [hMatBIdeal : Cert.MatBIdeal.Facts] : Prop :=
  ∀ (m : (ℓ : Loc Cert.MatBIdeal.nD Cert.MatBIdeal.τ Cert.MatBIdeal.sig) → Buf (Elt Ideal) ℓ) (g : Dev Cert.MatBIdeal.nD → PrngReg), Pre_MatBIdeal m →
    θ_run (Cert.MatBIdeal.defs (F := Ideal)) (onTc (τ := Cert.MatBIdeal.τ) (Cert.MatBIdeal.main (F := Ideal))) ⟨m, fun _ => 0, g⟩ (fun r => (∀ c : Dev Cert.MatBIdeal.nD,
      r.2.mem ((c.tc : Thread Cert.MatBIdeal.nD Cert.MatBIdeal.τ).loc Cert.MatBIdeal.main_arg0) = m ((c.tc : Thread Cert.MatBIdeal.nD Cert.MatBIdeal.τ).loc Cert.MatBIdeal.main_arg0)
      ∧ r.2.mem ((c.tc : Thread Cert.MatBIdeal.nD Cert.MatBIdeal.τ).loc Cert.MatBIdeal.main_arg1) = m ((c.tc : Thread Cert.MatBIdeal.nD Cert.MatBIdeal.τ).loc Cert.MatBIdeal.main_arg1))
      ∧ r.2.sem = fun _ => 0)

def quiescent_MatBRefIdeal [hMatBRefIdeal : Cert.MatBRefIdeal.Facts] : Prop :=
  ∀ (m : (ℓ : Loc Cert.MatBRefIdeal.nD Cert.MatBRefIdeal.τ Cert.MatBRefIdeal.sig) → Buf (Elt Ideal) ℓ) (g : Dev Cert.MatBRefIdeal.nD → PrngReg), Pre_MatBRefIdeal m →
    θ_run (Cert.MatBRefIdeal.defs (F := Ideal)) (onTc (τ := Cert.MatBRefIdeal.τ) (Cert.MatBRefIdeal.main (F := Ideal))) ⟨m, fun _ => 0, g⟩ (fun r => (∀ c : Dev Cert.MatBRefIdeal.nD,
      r.2.mem ((c.tc : Thread Cert.MatBRefIdeal.nD Cert.MatBRefIdeal.τ).loc Cert.MatBRefIdeal.main_arg0) = m ((c.tc : Thread Cert.MatBRefIdeal.nD Cert.MatBRefIdeal.τ).loc Cert.MatBRefIdeal.main_arg0)
      ∧ r.2.mem ((c.tc : Thread Cert.MatBRefIdeal.nD Cert.MatBRefIdeal.τ).loc Cert.MatBRefIdeal.main_arg1) = m ((c.tc : Thread Cert.MatBRefIdeal.nD Cert.MatBRefIdeal.τ).loc Cert.MatBRefIdeal.main_arg1))
      ∧ r.2.sem = fun _ => 0)

def quiescent_AddMat [hAddMat : Cert.AddMat.Facts] : Prop :=
  ∀ (m : (ℓ : Loc Cert.AddMat.nD Cert.AddMat.τ Cert.AddMat.sig) → Buf (Elt Bits) ℓ) (g : Dev Cert.AddMat.nD → PrngReg), Pre_AddMat m →
    θ_run (Cert.AddMat.defs (F := Bits)) (onTc (τ := Cert.AddMat.τ) (Cert.AddMat.main (F := Bits))) ⟨m, fun _ => 0, g⟩ (fun r => (∀ c : Dev Cert.AddMat.nD,
      r.2.mem ((c.tc : Thread Cert.AddMat.nD Cert.AddMat.τ).loc Cert.AddMat.main_arg0) = m ((c.tc : Thread Cert.AddMat.nD Cert.AddMat.τ).loc Cert.AddMat.main_arg0)
      ∧ r.2.mem ((c.tc : Thread Cert.AddMat.nD Cert.AddMat.τ).loc Cert.AddMat.main_arg1) = m ((c.tc : Thread Cert.AddMat.nD Cert.AddMat.τ).loc Cert.AddMat.main_arg1)
      ∧ r.2.mem ((c.tc : Thread Cert.AddMat.nD Cert.AddMat.τ).loc Cert.AddMat.main_arg2) = m ((c.tc : Thread Cert.AddMat.nD Cert.AddMat.τ).loc Cert.AddMat.main_arg2))
      ∧ r.2.sem = fun _ => 0)

def quiescent_AddMatIdeal [hAddMatIdeal : Cert.AddMatIdeal.Facts] : Prop :=
  ∀ (m : (ℓ : Loc Cert.AddMatIdeal.nD Cert.AddMatIdeal.τ Cert.AddMatIdeal.sig) → Buf (Elt Ideal) ℓ) (g : Dev Cert.AddMatIdeal.nD → PrngReg), Pre_AddMatIdeal m →
    θ_run (Cert.AddMatIdeal.defs (F := Ideal)) (onTc (τ := Cert.AddMatIdeal.τ) (Cert.AddMatIdeal.main (F := Ideal))) ⟨m, fun _ => 0, g⟩ (fun r => (∀ c : Dev Cert.AddMatIdeal.nD,
      r.2.mem ((c.tc : Thread Cert.AddMatIdeal.nD Cert.AddMatIdeal.τ).loc Cert.AddMatIdeal.main_arg0) = m ((c.tc : Thread Cert.AddMatIdeal.nD Cert.AddMatIdeal.τ).loc Cert.AddMatIdeal.main_arg0)
      ∧ r.2.mem ((c.tc : Thread Cert.AddMatIdeal.nD Cert.AddMatIdeal.τ).loc Cert.AddMatIdeal.main_arg1) = m ((c.tc : Thread Cert.AddMatIdeal.nD Cert.AddMatIdeal.τ).loc Cert.AddMatIdeal.main_arg1)
      ∧ r.2.mem ((c.tc : Thread Cert.AddMatIdeal.nD Cert.AddMatIdeal.τ).loc Cert.AddMatIdeal.main_arg2) = m ((c.tc : Thread Cert.AddMatIdeal.nD Cert.AddMatIdeal.τ).loc Cert.AddMatIdeal.main_arg2))
      ∧ r.2.sem = fun _ => 0)

def quiescent_AddMatRefIdeal [hAddMatRefIdeal : Cert.AddMatRefIdeal.Facts] : Prop :=
  ∀ (m : (ℓ : Loc Cert.AddMatRefIdeal.nD Cert.AddMatRefIdeal.τ Cert.AddMatRefIdeal.sig) → Buf (Elt Ideal) ℓ) (g : Dev Cert.AddMatRefIdeal.nD → PrngReg), Pre_AddMatRefIdeal m →
    θ_run (Cert.AddMatRefIdeal.defs (F := Ideal)) (onTc (τ := Cert.AddMatRefIdeal.τ) (Cert.AddMatRefIdeal.main (F := Ideal))) ⟨m, fun _ => 0, g⟩ (fun r => (∀ c : Dev Cert.AddMatRefIdeal.nD,
      r.2.mem ((c.tc : Thread Cert.AddMatRefIdeal.nD Cert.AddMatRefIdeal.τ).loc Cert.AddMatRefIdeal.main_arg0) = m ((c.tc : Thread Cert.AddMatRefIdeal.nD Cert.AddMatRefIdeal.τ).loc Cert.AddMatRefIdeal.main_arg0)
      ∧ r.2.mem ((c.tc : Thread Cert.AddMatRefIdeal.nD Cert.AddMatRefIdeal.τ).loc Cert.AddMatRefIdeal.main_arg1) = m ((c.tc : Thread Cert.AddMatRefIdeal.nD Cert.AddMatRefIdeal.τ).loc Cert.AddMatRefIdeal.main_arg1)
      ∧ r.2.mem ((c.tc : Thread Cert.AddMatRefIdeal.nD Cert.AddMatRefIdeal.τ).loc Cert.AddMatRefIdeal.main_arg2) = m ((c.tc : Thread Cert.AddMatRefIdeal.nD Cert.AddMatRefIdeal.τ).loc Cert.AddMatRefIdeal.main_arg2))
      ∧ r.2.sem = fun _ => 0)

def quiescent_PairHead [hPairHead : Cert.PairHead.Facts] [hPre_pairs_in_range : Cert.Pre_pairs_in_range.Facts] : Prop :=
  ∀ (m : (ℓ : Loc Cert.PairHead.nD Cert.PairHead.τ Cert.PairHead.sig) → Buf (Elt Bits) ℓ) (g : Dev Cert.PairHead.nD → PrngReg), Pre_PairHead m →
    θ_run (Cert.PairHead.defs (F := Bits)) (onTc (τ := Cert.PairHead.τ) (Cert.PairHead.main (F := Bits))) ⟨m, fun _ => 0, g⟩ (fun r => (∀ c : Dev Cert.PairHead.nD,
      r.2.mem ((c.tc : Thread Cert.PairHead.nD Cert.PairHead.τ).loc Cert.PairHead.main_arg0) = m ((c.tc : Thread Cert.PairHead.nD Cert.PairHead.τ).loc Cert.PairHead.main_arg0)
      ∧ r.2.mem ((c.tc : Thread Cert.PairHead.nD Cert.PairHead.τ).loc Cert.PairHead.main_arg1) = m ((c.tc : Thread Cert.PairHead.nD Cert.PairHead.τ).loc Cert.PairHead.main_arg1)
      ∧ r.2.mem ((c.tc : Thread Cert.PairHead.nD Cert.PairHead.τ).loc Cert.PairHead.main_arg2) = m ((c.tc : Thread Cert.PairHead.nD Cert.PairHead.τ).loc Cert.PairHead.main_arg2)
      ∧ r.2.mem ((c.tc : Thread Cert.PairHead.nD Cert.PairHead.τ).loc Cert.PairHead.main_arg3) = m ((c.tc : Thread Cert.PairHead.nD Cert.PairHead.τ).loc Cert.PairHead.main_arg3)
      ∧ r.2.mem ((c.tc : Thread Cert.PairHead.nD Cert.PairHead.τ).loc Cert.PairHead.main_arg4) = m ((c.tc : Thread Cert.PairHead.nD Cert.PairHead.τ).loc Cert.PairHead.main_arg4)
      ∧ r.2.mem ((c.tc : Thread Cert.PairHead.nD Cert.PairHead.τ).loc Cert.PairHead.main_arg5) = m ((c.tc : Thread Cert.PairHead.nD Cert.PairHead.τ).loc Cert.PairHead.main_arg5))
      ∧ r.2.sem = fun _ => 0)

def quiescent_PairHeadIdeal [hPairHeadIdeal : Cert.PairHeadIdeal.Facts] [hPre_pairs_in_range : Cert.Pre_pairs_in_range.Facts] : Prop :=
  ∀ (m : (ℓ : Loc Cert.PairHeadIdeal.nD Cert.PairHeadIdeal.τ Cert.PairHeadIdeal.sig) → Buf (Elt Ideal) ℓ) (g : Dev Cert.PairHeadIdeal.nD → PrngReg), Pre_PairHeadIdeal m →
    θ_run (Cert.PairHeadIdeal.defs (F := Ideal)) (onTc (τ := Cert.PairHeadIdeal.τ) (Cert.PairHeadIdeal.main (F := Ideal))) ⟨m, fun _ => 0, g⟩ (fun r => (∀ c : Dev Cert.PairHeadIdeal.nD,
      r.2.mem ((c.tc : Thread Cert.PairHeadIdeal.nD Cert.PairHeadIdeal.τ).loc Cert.PairHeadIdeal.main_arg0) = m ((c.tc : Thread Cert.PairHeadIdeal.nD Cert.PairHeadIdeal.τ).loc Cert.PairHeadIdeal.main_arg0)
      ∧ r.2.mem ((c.tc : Thread Cert.PairHeadIdeal.nD Cert.PairHeadIdeal.τ).loc Cert.PairHeadIdeal.main_arg1) = m ((c.tc : Thread Cert.PairHeadIdeal.nD Cert.PairHeadIdeal.τ).loc Cert.PairHeadIdeal.main_arg1)
      ∧ r.2.mem ((c.tc : Thread Cert.PairHeadIdeal.nD Cert.PairHeadIdeal.τ).loc Cert.PairHeadIdeal.main_arg2) = m ((c.tc : Thread Cert.PairHeadIdeal.nD Cert.PairHeadIdeal.τ).loc Cert.PairHeadIdeal.main_arg2)
      ∧ r.2.mem ((c.tc : Thread Cert.PairHeadIdeal.nD Cert.PairHeadIdeal.τ).loc Cert.PairHeadIdeal.main_arg3) = m ((c.tc : Thread Cert.PairHeadIdeal.nD Cert.PairHeadIdeal.τ).loc Cert.PairHeadIdeal.main_arg3)
      ∧ r.2.mem ((c.tc : Thread Cert.PairHeadIdeal.nD Cert.PairHeadIdeal.τ).loc Cert.PairHeadIdeal.main_arg4) = m ((c.tc : Thread Cert.PairHeadIdeal.nD Cert.PairHeadIdeal.τ).loc Cert.PairHeadIdeal.main_arg4)
      ∧ r.2.mem ((c.tc : Thread Cert.PairHeadIdeal.nD Cert.PairHeadIdeal.τ).loc Cert.PairHeadIdeal.main_arg5) = m ((c.tc : Thread Cert.PairHeadIdeal.nD Cert.PairHeadIdeal.τ).loc Cert.PairHeadIdeal.main_arg5))
      ∧ r.2.sem = fun _ => 0)

def quiescent_PairHeadRefIdeal [hPairHeadRefIdeal : Cert.PairHeadRefIdeal.Facts] [hPre_pairs_in_range : Cert.Pre_pairs_in_range.Facts] : Prop :=
  ∀ (m : (ℓ : Loc Cert.PairHeadRefIdeal.nD Cert.PairHeadRefIdeal.τ Cert.PairHeadRefIdeal.sig) → Buf (Elt Ideal) ℓ) (g : Dev Cert.PairHeadRefIdeal.nD → PrngReg), Pre_PairHeadRefIdeal m →
    θ_run (Cert.PairHeadRefIdeal.defs (F := Ideal)) (onTc (τ := Cert.PairHeadRefIdeal.τ) (Cert.PairHeadRefIdeal.main (F := Ideal))) ⟨m, fun _ => 0, g⟩ (fun r => (∀ c : Dev Cert.PairHeadRefIdeal.nD,
      r.2.mem ((c.tc : Thread Cert.PairHeadRefIdeal.nD Cert.PairHeadRefIdeal.τ).loc Cert.PairHeadRefIdeal.main_arg0) = m ((c.tc : Thread Cert.PairHeadRefIdeal.nD Cert.PairHeadRefIdeal.τ).loc Cert.PairHeadRefIdeal.main_arg0)
      ∧ r.2.mem ((c.tc : Thread Cert.PairHeadRefIdeal.nD Cert.PairHeadRefIdeal.τ).loc Cert.PairHeadRefIdeal.main_arg1) = m ((c.tc : Thread Cert.PairHeadRefIdeal.nD Cert.PairHeadRefIdeal.τ).loc Cert.PairHeadRefIdeal.main_arg1)
      ∧ r.2.mem ((c.tc : Thread Cert.PairHeadRefIdeal.nD Cert.PairHeadRefIdeal.τ).loc Cert.PairHeadRefIdeal.main_arg2) = m ((c.tc : Thread Cert.PairHeadRefIdeal.nD Cert.PairHeadRefIdeal.τ).loc Cert.PairHeadRefIdeal.main_arg2)
      ∧ r.2.mem ((c.tc : Thread Cert.PairHeadRefIdeal.nD Cert.PairHeadRefIdeal.τ).loc Cert.PairHeadRefIdeal.main_arg3) = m ((c.tc : Thread Cert.PairHeadRefIdeal.nD Cert.PairHeadRefIdeal.τ).loc Cert.PairHeadRefIdeal.main_arg3)
      ∧ r.2.mem ((c.tc : Thread Cert.PairHeadRefIdeal.nD Cert.PairHeadRefIdeal.τ).loc Cert.PairHeadRefIdeal.main_arg4) = m ((c.tc : Thread Cert.PairHeadRefIdeal.nD Cert.PairHeadRefIdeal.τ).loc Cert.PairHeadRefIdeal.main_arg4)
      ∧ r.2.mem ((c.tc : Thread Cert.PairHeadRefIdeal.nD Cert.PairHeadRefIdeal.τ).loc Cert.PairHeadRefIdeal.main_arg5) = m ((c.tc : Thread Cert.PairHeadRefIdeal.nD Cert.PairHeadRefIdeal.τ).loc Cert.PairHeadRefIdeal.main_arg5))
      ∧ r.2.sem = fun _ => 0)

def quiescent_SegA [hSegA : Cert.SegA.Facts] [hPre_inner_in_range : Cert.Pre_inner_in_range.Facts] : Prop :=
  ∀ (m : (ℓ : Loc Cert.SegA.nD Cert.SegA.τ Cert.SegA.sig) → Buf (Elt Bits) ℓ) (g : Dev Cert.SegA.nD → PrngReg), Pre_SegA m →
    θ_run (Cert.SegA.defs (F := Bits)) (onTc (τ := Cert.SegA.τ) (Cert.SegA.main (F := Bits))) ⟨m, fun _ => 0, g⟩ (fun r => (∀ c : Dev Cert.SegA.nD,
      r.2.mem ((c.tc : Thread Cert.SegA.nD Cert.SegA.τ).loc Cert.SegA.main_arg0) = m ((c.tc : Thread Cert.SegA.nD Cert.SegA.τ).loc Cert.SegA.main_arg0)
      ∧ r.2.mem ((c.tc : Thread Cert.SegA.nD Cert.SegA.τ).loc Cert.SegA.main_arg1) = m ((c.tc : Thread Cert.SegA.nD Cert.SegA.τ).loc Cert.SegA.main_arg1))
      ∧ r.2.sem = fun _ => 0)

def quiescent_SegAIdeal [hSegAIdeal : Cert.SegAIdeal.Facts] [hPre_inner_in_range : Cert.Pre_inner_in_range.Facts] : Prop :=
  ∀ (m : (ℓ : Loc Cert.SegAIdeal.nD Cert.SegAIdeal.τ Cert.SegAIdeal.sig) → Buf (Elt Ideal) ℓ) (g : Dev Cert.SegAIdeal.nD → PrngReg), Pre_SegAIdeal m →
    θ_run (Cert.SegAIdeal.defs (F := Ideal)) (onTc (τ := Cert.SegAIdeal.τ) (Cert.SegAIdeal.main (F := Ideal))) ⟨m, fun _ => 0, g⟩ (fun r => (∀ c : Dev Cert.SegAIdeal.nD,
      r.2.mem ((c.tc : Thread Cert.SegAIdeal.nD Cert.SegAIdeal.τ).loc Cert.SegAIdeal.main_arg0) = m ((c.tc : Thread Cert.SegAIdeal.nD Cert.SegAIdeal.τ).loc Cert.SegAIdeal.main_arg0)
      ∧ r.2.mem ((c.tc : Thread Cert.SegAIdeal.nD Cert.SegAIdeal.τ).loc Cert.SegAIdeal.main_arg1) = m ((c.tc : Thread Cert.SegAIdeal.nD Cert.SegAIdeal.τ).loc Cert.SegAIdeal.main_arg1))
      ∧ r.2.sem = fun _ => 0)

def quiescent_SegARefIdeal [hSegARefIdeal : Cert.SegARefIdeal.Facts] [hPre_inner_in_range : Cert.Pre_inner_in_range.Facts] : Prop :=
  ∀ (m : (ℓ : Loc Cert.SegARefIdeal.nD Cert.SegARefIdeal.τ Cert.SegARefIdeal.sig) → Buf (Elt Ideal) ℓ) (g : Dev Cert.SegARefIdeal.nD → PrngReg), Pre_SegARefIdeal m →
    θ_run (Cert.SegARefIdeal.defs (F := Ideal)) (onTc (τ := Cert.SegARefIdeal.τ) (Cert.SegARefIdeal.main (F := Ideal))) ⟨m, fun _ => 0, g⟩ (fun r => (∀ c : Dev Cert.SegARefIdeal.nD,
      r.2.mem ((c.tc : Thread Cert.SegARefIdeal.nD Cert.SegARefIdeal.τ).loc Cert.SegARefIdeal.main_arg0) = m ((c.tc : Thread Cert.SegARefIdeal.nD Cert.SegARefIdeal.τ).loc Cert.SegARefIdeal.main_arg0)
      ∧ r.2.mem ((c.tc : Thread Cert.SegARefIdeal.nD Cert.SegARefIdeal.τ).loc Cert.SegARefIdeal.main_arg1) = m ((c.tc : Thread Cert.SegARefIdeal.nD Cert.SegARefIdeal.τ).loc Cert.SegARefIdeal.main_arg1))
      ∧ r.2.sem = fun _ => 0)

def quiescent_SegB [hSegB : Cert.SegB.Facts] [hPre_edges_in_range : Cert.Pre_edges_in_range.Facts] : Prop :=
  ∀ (m : (ℓ : Loc Cert.SegB.nD Cert.SegB.τ Cert.SegB.sig) → Buf (Elt Bits) ℓ) (g : Dev Cert.SegB.nD → PrngReg), Pre_SegB m →
    θ_run (Cert.SegB.defs (F := Bits)) (onTc (τ := Cert.SegB.τ) (Cert.SegB.main (F := Bits))) ⟨m, fun _ => 0, g⟩ (fun r => (∀ c : Dev Cert.SegB.nD,
      r.2.mem ((c.tc : Thread Cert.SegB.nD Cert.SegB.τ).loc Cert.SegB.main_arg0) = m ((c.tc : Thread Cert.SegB.nD Cert.SegB.τ).loc Cert.SegB.main_arg0)
      ∧ r.2.mem ((c.tc : Thread Cert.SegB.nD Cert.SegB.τ).loc Cert.SegB.main_arg1) = m ((c.tc : Thread Cert.SegB.nD Cert.SegB.τ).loc Cert.SegB.main_arg1))
      ∧ r.2.sem = fun _ => 0)

def quiescent_SegBIdeal [hSegBIdeal : Cert.SegBIdeal.Facts] [hPre_edges_in_range : Cert.Pre_edges_in_range.Facts] : Prop :=
  ∀ (m : (ℓ : Loc Cert.SegBIdeal.nD Cert.SegBIdeal.τ Cert.SegBIdeal.sig) → Buf (Elt Ideal) ℓ) (g : Dev Cert.SegBIdeal.nD → PrngReg), Pre_SegBIdeal m →
    θ_run (Cert.SegBIdeal.defs (F := Ideal)) (onTc (τ := Cert.SegBIdeal.τ) (Cert.SegBIdeal.main (F := Ideal))) ⟨m, fun _ => 0, g⟩ (fun r => (∀ c : Dev Cert.SegBIdeal.nD,
      r.2.mem ((c.tc : Thread Cert.SegBIdeal.nD Cert.SegBIdeal.τ).loc Cert.SegBIdeal.main_arg0) = m ((c.tc : Thread Cert.SegBIdeal.nD Cert.SegBIdeal.τ).loc Cert.SegBIdeal.main_arg0)
      ∧ r.2.mem ((c.tc : Thread Cert.SegBIdeal.nD Cert.SegBIdeal.τ).loc Cert.SegBIdeal.main_arg1) = m ((c.tc : Thread Cert.SegBIdeal.nD Cert.SegBIdeal.τ).loc Cert.SegBIdeal.main_arg1))
      ∧ r.2.sem = fun _ => 0)

def quiescent_SegBRefIdeal [hSegBRefIdeal : Cert.SegBRefIdeal.Facts] [hPre_edges_in_range : Cert.Pre_edges_in_range.Facts] : Prop :=
  ∀ (m : (ℓ : Loc Cert.SegBRefIdeal.nD Cert.SegBRefIdeal.τ Cert.SegBRefIdeal.sig) → Buf (Elt Ideal) ℓ) (g : Dev Cert.SegBRefIdeal.nD → PrngReg), Pre_SegBRefIdeal m →
    θ_run (Cert.SegBRefIdeal.defs (F := Ideal)) (onTc (τ := Cert.SegBRefIdeal.τ) (Cert.SegBRefIdeal.main (F := Ideal))) ⟨m, fun _ => 0, g⟩ (fun r => (∀ c : Dev Cert.SegBRefIdeal.nD,
      r.2.mem ((c.tc : Thread Cert.SegBRefIdeal.nD Cert.SegBRefIdeal.τ).loc Cert.SegBRefIdeal.main_arg0) = m ((c.tc : Thread Cert.SegBRefIdeal.nD Cert.SegBRefIdeal.τ).loc Cert.SegBRefIdeal.main_arg0)
      ∧ r.2.mem ((c.tc : Thread Cert.SegBRefIdeal.nD Cert.SegBRefIdeal.τ).loc Cert.SegBRefIdeal.main_arg1) = m ((c.tc : Thread Cert.SegBRefIdeal.nD Cert.SegBRefIdeal.τ).loc Cert.SegBRefIdeal.main_arg1))
      ∧ r.2.sem = fun _ => 0)

def quiescent_BnProj [hBnProj : Cert.BnProj.Facts] [hPre_features_finite : Cert.Pre_features_finite.Facts] : Prop :=
  ∀ (m : (ℓ : Loc Cert.BnProj.nD Cert.BnProj.τ Cert.BnProj.sig) → Buf (Elt Bits) ℓ) (g : Dev Cert.BnProj.nD → PrngReg), Pre_BnProj m →
    θ_run (Cert.BnProj.defs (F := Bits)) (onTc (τ := Cert.BnProj.τ) (Cert.BnProj.main (F := Bits))) ⟨m, fun _ => 0, g⟩ (fun r => (∀ c : Dev Cert.BnProj.nD,
      r.2.mem ((c.tc : Thread Cert.BnProj.nD Cert.BnProj.τ).loc Cert.BnProj.main_arg0) = m ((c.tc : Thread Cert.BnProj.nD Cert.BnProj.τ).loc Cert.BnProj.main_arg0)
      ∧ r.2.mem ((c.tc : Thread Cert.BnProj.nD Cert.BnProj.τ).loc Cert.BnProj.main_arg1) = m ((c.tc : Thread Cert.BnProj.nD Cert.BnProj.τ).loc Cert.BnProj.main_arg1)
      ∧ r.2.mem ((c.tc : Thread Cert.BnProj.nD Cert.BnProj.τ).loc Cert.BnProj.main_arg2) = m ((c.tc : Thread Cert.BnProj.nD Cert.BnProj.τ).loc Cert.BnProj.main_arg2)
      ∧ r.2.mem ((c.tc : Thread Cert.BnProj.nD Cert.BnProj.τ).loc Cert.BnProj.main_arg3) = m ((c.tc : Thread Cert.BnProj.nD Cert.BnProj.τ).loc Cert.BnProj.main_arg3)
      ∧ r.2.mem ((c.tc : Thread Cert.BnProj.nD Cert.BnProj.τ).loc Cert.BnProj.main_arg4) = m ((c.tc : Thread Cert.BnProj.nD Cert.BnProj.τ).loc Cert.BnProj.main_arg4)
      ∧ r.2.mem ((c.tc : Thread Cert.BnProj.nD Cert.BnProj.τ).loc Cert.BnProj.main_arg5) = m ((c.tc : Thread Cert.BnProj.nD Cert.BnProj.τ).loc Cert.BnProj.main_arg5)
      ∧ r.2.mem ((c.tc : Thread Cert.BnProj.nD Cert.BnProj.τ).loc Cert.BnProj.main_arg6) = m ((c.tc : Thread Cert.BnProj.nD Cert.BnProj.τ).loc Cert.BnProj.main_arg6)
      ∧ r.2.mem ((c.tc : Thread Cert.BnProj.nD Cert.BnProj.τ).loc Cert.BnProj.main_arg7) = m ((c.tc : Thread Cert.BnProj.nD Cert.BnProj.τ).loc Cert.BnProj.main_arg7)
      ∧ r.2.mem ((c.tc : Thread Cert.BnProj.nD Cert.BnProj.τ).loc Cert.BnProj.main_arg8) = m ((c.tc : Thread Cert.BnProj.nD Cert.BnProj.τ).loc Cert.BnProj.main_arg8)
      ∧ r.2.mem ((c.tc : Thread Cert.BnProj.nD Cert.BnProj.τ).loc Cert.BnProj.main_arg9) = m ((c.tc : Thread Cert.BnProj.nD Cert.BnProj.τ).loc Cert.BnProj.main_arg9)
      ∧ r.2.mem ((c.tc : Thread Cert.BnProj.nD Cert.BnProj.τ).loc Cert.BnProj.main_arg10) = m ((c.tc : Thread Cert.BnProj.nD Cert.BnProj.τ).loc Cert.BnProj.main_arg10))
      ∧ r.2.sem = fun _ => 0)

def quiescent_BnProjIdeal [hBnProjIdeal : Cert.BnProjIdeal.Facts] [hPre_features_finite : Cert.Pre_features_finite.Facts] : Prop :=
  ∀ (m : (ℓ : Loc Cert.BnProjIdeal.nD Cert.BnProjIdeal.τ Cert.BnProjIdeal.sig) → Buf (Elt Ideal) ℓ) (g : Dev Cert.BnProjIdeal.nD → PrngReg), Pre_BnProjIdeal m →
    θ_run (Cert.BnProjIdeal.defs (F := Ideal)) (onTc (τ := Cert.BnProjIdeal.τ) (Cert.BnProjIdeal.main (F := Ideal))) ⟨m, fun _ => 0, g⟩ (fun r => (∀ c : Dev Cert.BnProjIdeal.nD,
      r.2.mem ((c.tc : Thread Cert.BnProjIdeal.nD Cert.BnProjIdeal.τ).loc Cert.BnProjIdeal.main_arg0) = m ((c.tc : Thread Cert.BnProjIdeal.nD Cert.BnProjIdeal.τ).loc Cert.BnProjIdeal.main_arg0)
      ∧ r.2.mem ((c.tc : Thread Cert.BnProjIdeal.nD Cert.BnProjIdeal.τ).loc Cert.BnProjIdeal.main_arg1) = m ((c.tc : Thread Cert.BnProjIdeal.nD Cert.BnProjIdeal.τ).loc Cert.BnProjIdeal.main_arg1)
      ∧ r.2.mem ((c.tc : Thread Cert.BnProjIdeal.nD Cert.BnProjIdeal.τ).loc Cert.BnProjIdeal.main_arg2) = m ((c.tc : Thread Cert.BnProjIdeal.nD Cert.BnProjIdeal.τ).loc Cert.BnProjIdeal.main_arg2)
      ∧ r.2.mem ((c.tc : Thread Cert.BnProjIdeal.nD Cert.BnProjIdeal.τ).loc Cert.BnProjIdeal.main_arg3) = m ((c.tc : Thread Cert.BnProjIdeal.nD Cert.BnProjIdeal.τ).loc Cert.BnProjIdeal.main_arg3)
      ∧ r.2.mem ((c.tc : Thread Cert.BnProjIdeal.nD Cert.BnProjIdeal.τ).loc Cert.BnProjIdeal.main_arg4) = m ((c.tc : Thread Cert.BnProjIdeal.nD Cert.BnProjIdeal.τ).loc Cert.BnProjIdeal.main_arg4)
      ∧ r.2.mem ((c.tc : Thread Cert.BnProjIdeal.nD Cert.BnProjIdeal.τ).loc Cert.BnProjIdeal.main_arg5) = m ((c.tc : Thread Cert.BnProjIdeal.nD Cert.BnProjIdeal.τ).loc Cert.BnProjIdeal.main_arg5)
      ∧ r.2.mem ((c.tc : Thread Cert.BnProjIdeal.nD Cert.BnProjIdeal.τ).loc Cert.BnProjIdeal.main_arg6) = m ((c.tc : Thread Cert.BnProjIdeal.nD Cert.BnProjIdeal.τ).loc Cert.BnProjIdeal.main_arg6)
      ∧ r.2.mem ((c.tc : Thread Cert.BnProjIdeal.nD Cert.BnProjIdeal.τ).loc Cert.BnProjIdeal.main_arg7) = m ((c.tc : Thread Cert.BnProjIdeal.nD Cert.BnProjIdeal.τ).loc Cert.BnProjIdeal.main_arg7)
      ∧ r.2.mem ((c.tc : Thread Cert.BnProjIdeal.nD Cert.BnProjIdeal.τ).loc Cert.BnProjIdeal.main_arg8) = m ((c.tc : Thread Cert.BnProjIdeal.nD Cert.BnProjIdeal.τ).loc Cert.BnProjIdeal.main_arg8)
      ∧ r.2.mem ((c.tc : Thread Cert.BnProjIdeal.nD Cert.BnProjIdeal.τ).loc Cert.BnProjIdeal.main_arg9) = m ((c.tc : Thread Cert.BnProjIdeal.nD Cert.BnProjIdeal.τ).loc Cert.BnProjIdeal.main_arg9)
      ∧ r.2.mem ((c.tc : Thread Cert.BnProjIdeal.nD Cert.BnProjIdeal.τ).loc Cert.BnProjIdeal.main_arg10) = m ((c.tc : Thread Cert.BnProjIdeal.nD Cert.BnProjIdeal.τ).loc Cert.BnProjIdeal.main_arg10))
      ∧ r.2.sem = fun _ => 0)

def quiescent_BnProjRefIdeal [hBnProjRefIdeal : Cert.BnProjRefIdeal.Facts] [hPre_features_finite : Cert.Pre_features_finite.Facts] : Prop :=
  ∀ (m : (ℓ : Loc Cert.BnProjRefIdeal.nD Cert.BnProjRefIdeal.τ Cert.BnProjRefIdeal.sig) → Buf (Elt Ideal) ℓ) (g : Dev Cert.BnProjRefIdeal.nD → PrngReg), Pre_BnProjRefIdeal m →
    θ_run (Cert.BnProjRefIdeal.defs (F := Ideal)) (onTc (τ := Cert.BnProjRefIdeal.τ) (Cert.BnProjRefIdeal.main (F := Ideal))) ⟨m, fun _ => 0, g⟩ (fun r => (∀ c : Dev Cert.BnProjRefIdeal.nD,
      r.2.mem ((c.tc : Thread Cert.BnProjRefIdeal.nD Cert.BnProjRefIdeal.τ).loc Cert.BnProjRefIdeal.main_arg0) = m ((c.tc : Thread Cert.BnProjRefIdeal.nD Cert.BnProjRefIdeal.τ).loc Cert.BnProjRefIdeal.main_arg0)
      ∧ r.2.mem ((c.tc : Thread Cert.BnProjRefIdeal.nD Cert.BnProjRefIdeal.τ).loc Cert.BnProjRefIdeal.main_arg1) = m ((c.tc : Thread Cert.BnProjRefIdeal.nD Cert.BnProjRefIdeal.τ).loc Cert.BnProjRefIdeal.main_arg1)
      ∧ r.2.mem ((c.tc : Thread Cert.BnProjRefIdeal.nD Cert.BnProjRefIdeal.τ).loc Cert.BnProjRefIdeal.main_arg2) = m ((c.tc : Thread Cert.BnProjRefIdeal.nD Cert.BnProjRefIdeal.τ).loc Cert.BnProjRefIdeal.main_arg2)
      ∧ r.2.mem ((c.tc : Thread Cert.BnProjRefIdeal.nD Cert.BnProjRefIdeal.τ).loc Cert.BnProjRefIdeal.main_arg3) = m ((c.tc : Thread Cert.BnProjRefIdeal.nD Cert.BnProjRefIdeal.τ).loc Cert.BnProjRefIdeal.main_arg3)
      ∧ r.2.mem ((c.tc : Thread Cert.BnProjRefIdeal.nD Cert.BnProjRefIdeal.τ).loc Cert.BnProjRefIdeal.main_arg4) = m ((c.tc : Thread Cert.BnProjRefIdeal.nD Cert.BnProjRefIdeal.τ).loc Cert.BnProjRefIdeal.main_arg4)
      ∧ r.2.mem ((c.tc : Thread Cert.BnProjRefIdeal.nD Cert.BnProjRefIdeal.τ).loc Cert.BnProjRefIdeal.main_arg5) = m ((c.tc : Thread Cert.BnProjRefIdeal.nD Cert.BnProjRefIdeal.τ).loc Cert.BnProjRefIdeal.main_arg5)
      ∧ r.2.mem ((c.tc : Thread Cert.BnProjRefIdeal.nD Cert.BnProjRefIdeal.τ).loc Cert.BnProjRefIdeal.main_arg6) = m ((c.tc : Thread Cert.BnProjRefIdeal.nD Cert.BnProjRefIdeal.τ).loc Cert.BnProjRefIdeal.main_arg6)
      ∧ r.2.mem ((c.tc : Thread Cert.BnProjRefIdeal.nD Cert.BnProjRefIdeal.τ).loc Cert.BnProjRefIdeal.main_arg7) = m ((c.tc : Thread Cert.BnProjRefIdeal.nD Cert.BnProjRefIdeal.τ).loc Cert.BnProjRefIdeal.main_arg7)
      ∧ r.2.mem ((c.tc : Thread Cert.BnProjRefIdeal.nD Cert.BnProjRefIdeal.τ).loc Cert.BnProjRefIdeal.main_arg8) = m ((c.tc : Thread Cert.BnProjRefIdeal.nD Cert.BnProjRefIdeal.τ).loc Cert.BnProjRefIdeal.main_arg8)
      ∧ r.2.mem ((c.tc : Thread Cert.BnProjRefIdeal.nD Cert.BnProjRefIdeal.τ).loc Cert.BnProjRefIdeal.main_arg9) = m ((c.tc : Thread Cert.BnProjRefIdeal.nD Cert.BnProjRefIdeal.τ).loc Cert.BnProjRefIdeal.main_arg9)
      ∧ r.2.mem ((c.tc : Thread Cert.BnProjRefIdeal.nD Cert.BnProjRefIdeal.τ).loc Cert.BnProjRefIdeal.main_arg10) = m ((c.tc : Thread Cert.BnProjRefIdeal.nD Cert.BnProjRefIdeal.τ).loc Cert.BnProjRefIdeal.main_arg10))
      ∧ r.2.sem = fun _ => 0)

def quiescent_Att1 [hAtt1 : Cert.Att1.Facts] [hPre_att1_in_range : Cert.Pre_att1_in_range.Facts] : Prop :=
  ∀ (m : (ℓ : Loc Cert.Att1.nD Cert.Att1.τ Cert.Att1.sig) → Buf (Elt Bits) ℓ) (g : Dev Cert.Att1.nD → PrngReg), Pre_Att1 m →
    θ_run (Cert.Att1.defs (F := Bits)) (onTc (τ := Cert.Att1.τ) (Cert.Att1.main (F := Bits))) ⟨m, fun _ => 0, g⟩ (fun r => (∀ c : Dev Cert.Att1.nD,
      r.2.mem ((c.tc : Thread Cert.Att1.nD Cert.Att1.τ).loc Cert.Att1.main_arg0) = m ((c.tc : Thread Cert.Att1.nD Cert.Att1.τ).loc Cert.Att1.main_arg0)
      ∧ r.2.mem ((c.tc : Thread Cert.Att1.nD Cert.Att1.τ).loc Cert.Att1.main_arg1) = m ((c.tc : Thread Cert.Att1.nD Cert.Att1.τ).loc Cert.Att1.main_arg1)
      ∧ r.2.mem ((c.tc : Thread Cert.Att1.nD Cert.Att1.τ).loc Cert.Att1.main_arg2) = m ((c.tc : Thread Cert.Att1.nD Cert.Att1.τ).loc Cert.Att1.main_arg2)
      ∧ r.2.mem ((c.tc : Thread Cert.Att1.nD Cert.Att1.τ).loc Cert.Att1.main_arg3) = m ((c.tc : Thread Cert.Att1.nD Cert.Att1.τ).loc Cert.Att1.main_arg3)
      ∧ r.2.mem ((c.tc : Thread Cert.Att1.nD Cert.Att1.τ).loc Cert.Att1.main_arg4) = m ((c.tc : Thread Cert.Att1.nD Cert.Att1.τ).loc Cert.Att1.main_arg4)
      ∧ r.2.mem ((c.tc : Thread Cert.Att1.nD Cert.Att1.τ).loc Cert.Att1.main_arg5) = m ((c.tc : Thread Cert.Att1.nD Cert.Att1.τ).loc Cert.Att1.main_arg5))
      ∧ r.2.sem = fun _ => 0)

def quiescent_Att1Ideal [hAtt1Ideal : Cert.Att1Ideal.Facts] [hPre_att1_in_range : Cert.Pre_att1_in_range.Facts] : Prop :=
  ∀ (m : (ℓ : Loc Cert.Att1Ideal.nD Cert.Att1Ideal.τ Cert.Att1Ideal.sig) → Buf (Elt Ideal) ℓ) (g : Dev Cert.Att1Ideal.nD → PrngReg), Pre_Att1Ideal m →
    θ_run (Cert.Att1Ideal.defs (F := Ideal)) (onTc (τ := Cert.Att1Ideal.τ) (Cert.Att1Ideal.main (F := Ideal))) ⟨m, fun _ => 0, g⟩ (fun r => (∀ c : Dev Cert.Att1Ideal.nD,
      r.2.mem ((c.tc : Thread Cert.Att1Ideal.nD Cert.Att1Ideal.τ).loc Cert.Att1Ideal.main_arg0) = m ((c.tc : Thread Cert.Att1Ideal.nD Cert.Att1Ideal.τ).loc Cert.Att1Ideal.main_arg0)
      ∧ r.2.mem ((c.tc : Thread Cert.Att1Ideal.nD Cert.Att1Ideal.τ).loc Cert.Att1Ideal.main_arg1) = m ((c.tc : Thread Cert.Att1Ideal.nD Cert.Att1Ideal.τ).loc Cert.Att1Ideal.main_arg1)
      ∧ r.2.mem ((c.tc : Thread Cert.Att1Ideal.nD Cert.Att1Ideal.τ).loc Cert.Att1Ideal.main_arg2) = m ((c.tc : Thread Cert.Att1Ideal.nD Cert.Att1Ideal.τ).loc Cert.Att1Ideal.main_arg2)
      ∧ r.2.mem ((c.tc : Thread Cert.Att1Ideal.nD Cert.Att1Ideal.τ).loc Cert.Att1Ideal.main_arg3) = m ((c.tc : Thread Cert.Att1Ideal.nD Cert.Att1Ideal.τ).loc Cert.Att1Ideal.main_arg3)
      ∧ r.2.mem ((c.tc : Thread Cert.Att1Ideal.nD Cert.Att1Ideal.τ).loc Cert.Att1Ideal.main_arg4) = m ((c.tc : Thread Cert.Att1Ideal.nD Cert.Att1Ideal.τ).loc Cert.Att1Ideal.main_arg4)
      ∧ r.2.mem ((c.tc : Thread Cert.Att1Ideal.nD Cert.Att1Ideal.τ).loc Cert.Att1Ideal.main_arg5) = m ((c.tc : Thread Cert.Att1Ideal.nD Cert.Att1Ideal.τ).loc Cert.Att1Ideal.main_arg5))
      ∧ r.2.sem = fun _ => 0)

def quiescent_Att1RefIdeal [hAtt1RefIdeal : Cert.Att1RefIdeal.Facts] [hPre_att1_in_range : Cert.Pre_att1_in_range.Facts] : Prop :=
  ∀ (m : (ℓ : Loc Cert.Att1RefIdeal.nD Cert.Att1RefIdeal.τ Cert.Att1RefIdeal.sig) → Buf (Elt Ideal) ℓ) (g : Dev Cert.Att1RefIdeal.nD → PrngReg), Pre_Att1RefIdeal m →
    θ_run (Cert.Att1RefIdeal.defs (F := Ideal)) (onTc (τ := Cert.Att1RefIdeal.τ) (Cert.Att1RefIdeal.main (F := Ideal))) ⟨m, fun _ => 0, g⟩ (fun r => (∀ c : Dev Cert.Att1RefIdeal.nD,
      r.2.mem ((c.tc : Thread Cert.Att1RefIdeal.nD Cert.Att1RefIdeal.τ).loc Cert.Att1RefIdeal.main_arg0) = m ((c.tc : Thread Cert.Att1RefIdeal.nD Cert.Att1RefIdeal.τ).loc Cert.Att1RefIdeal.main_arg0)
      ∧ r.2.mem ((c.tc : Thread Cert.Att1RefIdeal.nD Cert.Att1RefIdeal.τ).loc Cert.Att1RefIdeal.main_arg1) = m ((c.tc : Thread Cert.Att1RefIdeal.nD Cert.Att1RefIdeal.τ).loc Cert.Att1RefIdeal.main_arg1)
      ∧ r.2.mem ((c.tc : Thread Cert.Att1RefIdeal.nD Cert.Att1RefIdeal.τ).loc Cert.Att1RefIdeal.main_arg2) = m ((c.tc : Thread Cert.Att1RefIdeal.nD Cert.Att1RefIdeal.τ).loc Cert.Att1RefIdeal.main_arg2)
      ∧ r.2.mem ((c.tc : Thread Cert.Att1RefIdeal.nD Cert.Att1RefIdeal.τ).loc Cert.Att1RefIdeal.main_arg3) = m ((c.tc : Thread Cert.Att1RefIdeal.nD Cert.Att1RefIdeal.τ).loc Cert.Att1RefIdeal.main_arg3)
      ∧ r.2.mem ((c.tc : Thread Cert.Att1RefIdeal.nD Cert.Att1RefIdeal.τ).loc Cert.Att1RefIdeal.main_arg4) = m ((c.tc : Thread Cert.Att1RefIdeal.nD Cert.Att1RefIdeal.τ).loc Cert.Att1RefIdeal.main_arg4)
      ∧ r.2.mem ((c.tc : Thread Cert.Att1RefIdeal.nD Cert.Att1RefIdeal.τ).loc Cert.Att1RefIdeal.main_arg5) = m ((c.tc : Thread Cert.Att1RefIdeal.nD Cert.Att1RefIdeal.τ).loc Cert.Att1RefIdeal.main_arg5))
      ∧ r.2.sem = fun _ => 0)

def quiescent_Att2 [hAtt2 : Cert.Att2.Facts] [hPre_att2_in_range : Cert.Pre_att2_in_range.Facts] : Prop :=
  ∀ (m : (ℓ : Loc Cert.Att2.nD Cert.Att2.τ Cert.Att2.sig) → Buf (Elt Bits) ℓ) (g : Dev Cert.Att2.nD → PrngReg), Pre_Att2 m →
    θ_run (Cert.Att2.defs (F := Bits)) (onTc (τ := Cert.Att2.τ) (Cert.Att2.main (F := Bits))) ⟨m, fun _ => 0, g⟩ (fun r => (∀ c : Dev Cert.Att2.nD,
      r.2.mem ((c.tc : Thread Cert.Att2.nD Cert.Att2.τ).loc Cert.Att2.main_arg0) = m ((c.tc : Thread Cert.Att2.nD Cert.Att2.τ).loc Cert.Att2.main_arg0)
      ∧ r.2.mem ((c.tc : Thread Cert.Att2.nD Cert.Att2.τ).loc Cert.Att2.main_arg1) = m ((c.tc : Thread Cert.Att2.nD Cert.Att2.τ).loc Cert.Att2.main_arg1)
      ∧ r.2.mem ((c.tc : Thread Cert.Att2.nD Cert.Att2.τ).loc Cert.Att2.main_arg2) = m ((c.tc : Thread Cert.Att2.nD Cert.Att2.τ).loc Cert.Att2.main_arg2))
      ∧ r.2.sem = fun _ => 0)

def quiescent_Att2Ideal [hAtt2Ideal : Cert.Att2Ideal.Facts] [hPre_att2_in_range : Cert.Pre_att2_in_range.Facts] : Prop :=
  ∀ (m : (ℓ : Loc Cert.Att2Ideal.nD Cert.Att2Ideal.τ Cert.Att2Ideal.sig) → Buf (Elt Ideal) ℓ) (g : Dev Cert.Att2Ideal.nD → PrngReg), Pre_Att2Ideal m →
    θ_run (Cert.Att2Ideal.defs (F := Ideal)) (onTc (τ := Cert.Att2Ideal.τ) (Cert.Att2Ideal.main (F := Ideal))) ⟨m, fun _ => 0, g⟩ (fun r => (∀ c : Dev Cert.Att2Ideal.nD,
      r.2.mem ((c.tc : Thread Cert.Att2Ideal.nD Cert.Att2Ideal.τ).loc Cert.Att2Ideal.main_arg0) = m ((c.tc : Thread Cert.Att2Ideal.nD Cert.Att2Ideal.τ).loc Cert.Att2Ideal.main_arg0)
      ∧ r.2.mem ((c.tc : Thread Cert.Att2Ideal.nD Cert.Att2Ideal.τ).loc Cert.Att2Ideal.main_arg1) = m ((c.tc : Thread Cert.Att2Ideal.nD Cert.Att2Ideal.τ).loc Cert.Att2Ideal.main_arg1)
      ∧ r.2.mem ((c.tc : Thread Cert.Att2Ideal.nD Cert.Att2Ideal.τ).loc Cert.Att2Ideal.main_arg2) = m ((c.tc : Thread Cert.Att2Ideal.nD Cert.Att2Ideal.τ).loc Cert.Att2Ideal.main_arg2))
      ∧ r.2.sem = fun _ => 0)

def quiescent_Att2RefIdeal [hAtt2RefIdeal : Cert.Att2RefIdeal.Facts] [hPre_att2_in_range : Cert.Pre_att2_in_range.Facts] : Prop :=
  ∀ (m : (ℓ : Loc Cert.Att2RefIdeal.nD Cert.Att2RefIdeal.τ Cert.Att2RefIdeal.sig) → Buf (Elt Ideal) ℓ) (g : Dev Cert.Att2RefIdeal.nD → PrngReg), Pre_Att2RefIdeal m →
    θ_run (Cert.Att2RefIdeal.defs (F := Ideal)) (onTc (τ := Cert.Att2RefIdeal.τ) (Cert.Att2RefIdeal.main (F := Ideal))) ⟨m, fun _ => 0, g⟩ (fun r => (∀ c : Dev Cert.Att2RefIdeal.nD,
      r.2.mem ((c.tc : Thread Cert.Att2RefIdeal.nD Cert.Att2RefIdeal.τ).loc Cert.Att2RefIdeal.main_arg0) = m ((c.tc : Thread Cert.Att2RefIdeal.nD Cert.Att2RefIdeal.τ).loc Cert.Att2RefIdeal.main_arg0)
      ∧ r.2.mem ((c.tc : Thread Cert.Att2RefIdeal.nD Cert.Att2RefIdeal.τ).loc Cert.Att2RefIdeal.main_arg1) = m ((c.tc : Thread Cert.Att2RefIdeal.nD Cert.Att2RefIdeal.τ).loc Cert.Att2RefIdeal.main_arg1)
      ∧ r.2.mem ((c.tc : Thread Cert.Att2RefIdeal.nD Cert.Att2RefIdeal.τ).loc Cert.Att2RefIdeal.main_arg2) = m ((c.tc : Thread Cert.Att2RefIdeal.nD Cert.Att2RefIdeal.τ).loc Cert.Att2RefIdeal.main_arg2))
      ∧ r.2.sem = fun _ => 0)

def quiescent_Mean [hMean : Cert.Mean.Facts] : Prop :=
  ∀ (m : (ℓ : Loc Cert.Mean.nD Cert.Mean.τ Cert.Mean.sig) → Buf (Elt Bits) ℓ) (g : Dev Cert.Mean.nD → PrngReg), Pre_Mean m →
    θ_run (Cert.Mean.defs (F := Bits)) (onTc (τ := Cert.Mean.τ) (Cert.Mean.main (F := Bits))) ⟨m, fun _ => 0, g⟩ (fun r => (∀ c : Dev Cert.Mean.nD,
      r.2.mem ((c.tc : Thread Cert.Mean.nD Cert.Mean.τ).loc Cert.Mean.main_arg0) = m ((c.tc : Thread Cert.Mean.nD Cert.Mean.τ).loc Cert.Mean.main_arg0)
      ∧ r.2.mem ((c.tc : Thread Cert.Mean.nD Cert.Mean.τ).loc Cert.Mean.main_arg1) = m ((c.tc : Thread Cert.Mean.nD Cert.Mean.τ).loc Cert.Mean.main_arg1))
      ∧ r.2.sem = fun _ => 0)

def quiescent_MeanIdeal [hMeanIdeal : Cert.MeanIdeal.Facts] : Prop :=
  ∀ (m : (ℓ : Loc Cert.MeanIdeal.nD Cert.MeanIdeal.τ Cert.MeanIdeal.sig) → Buf (Elt Ideal) ℓ) (g : Dev Cert.MeanIdeal.nD → PrngReg), Pre_MeanIdeal m →
    θ_run (Cert.MeanIdeal.defs (F := Ideal)) (onTc (τ := Cert.MeanIdeal.τ) (Cert.MeanIdeal.main (F := Ideal))) ⟨m, fun _ => 0, g⟩ (fun r => (∀ c : Dev Cert.MeanIdeal.nD,
      r.2.mem ((c.tc : Thread Cert.MeanIdeal.nD Cert.MeanIdeal.τ).loc Cert.MeanIdeal.main_arg0) = m ((c.tc : Thread Cert.MeanIdeal.nD Cert.MeanIdeal.τ).loc Cert.MeanIdeal.main_arg0)
      ∧ r.2.mem ((c.tc : Thread Cert.MeanIdeal.nD Cert.MeanIdeal.τ).loc Cert.MeanIdeal.main_arg1) = m ((c.tc : Thread Cert.MeanIdeal.nD Cert.MeanIdeal.τ).loc Cert.MeanIdeal.main_arg1))
      ∧ r.2.sem = fun _ => 0)

def quiescent_MeanRefIdeal [hMeanRefIdeal : Cert.MeanRefIdeal.Facts] : Prop :=
  ∀ (m : (ℓ : Loc Cert.MeanRefIdeal.nD Cert.MeanRefIdeal.τ Cert.MeanRefIdeal.sig) → Buf (Elt Ideal) ℓ) (g : Dev Cert.MeanRefIdeal.nD → PrngReg), Pre_MeanRefIdeal m →
    θ_run (Cert.MeanRefIdeal.defs (F := Ideal)) (onTc (τ := Cert.MeanRefIdeal.τ) (Cert.MeanRefIdeal.main (F := Ideal))) ⟨m, fun _ => 0, g⟩ (fun r => (∀ c : Dev Cert.MeanRefIdeal.nD,
      r.2.mem ((c.tc : Thread Cert.MeanRefIdeal.nD Cert.MeanRefIdeal.τ).loc Cert.MeanRefIdeal.main_arg0) = m ((c.tc : Thread Cert.MeanRefIdeal.nD Cert.MeanRefIdeal.τ).loc Cert.MeanRefIdeal.main_arg0)
      ∧ r.2.mem ((c.tc : Thread Cert.MeanRefIdeal.nD Cert.MeanRefIdeal.τ).loc Cert.MeanRefIdeal.main_arg1) = m ((c.tc : Thread Cert.MeanRefIdeal.nD Cert.MeanRefIdeal.τ).loc Cert.MeanRefIdeal.main_arg1))
      ∧ r.2.sem = fun _ => 0)

def preserves_GruA_GruAIdeal : Prop :=
  True

def algebraic_GruAIdeal_GruARefIdeal [hGruAIdeal : Cert.GruAIdeal.Facts] [hGruARefIdeal : Cert.GruARefIdeal.Facts] : Prop :=
  ∀ (m : (ℓ : Loc Cert.GruAIdeal.nD Cert.GruAIdeal.τ Cert.GruAIdeal.sig) → Buf (Elt Ideal) ℓ) (g : Dev Cert.GruAIdeal.nD → PrngReg)
    (m' : (ℓ : Loc Cert.GruARefIdeal.nD Cert.GruARefIdeal.τ Cert.GruARefIdeal.sig) → Buf (Elt Ideal) ℓ) (g' : Dev Cert.GruARefIdeal.nD → PrngReg), Pre_GruAIdeal m →
    (∀ c : Dev Cert.GruAIdeal.nD,
      m' ((c.tc : Thread Cert.GruARefIdeal.nD Cert.GruARefIdeal.τ).loc Cert.GruARefIdeal.main_arg0) = m ((c.tc : Thread Cert.GruAIdeal.nD Cert.GruAIdeal.τ).loc Cert.GruAIdeal.main_arg0)
      ∧ m' ((c.tc : Thread Cert.GruARefIdeal.nD Cert.GruARefIdeal.τ).loc Cert.GruARefIdeal.main_arg1) = m ((c.tc : Thread Cert.GruAIdeal.nD Cert.GruAIdeal.τ).loc Cert.GruAIdeal.main_arg1)
      ∧ m' ((c.tc : Thread Cert.GruARefIdeal.nD Cert.GruARefIdeal.τ).loc Cert.GruARefIdeal.main_arg2) = m ((c.tc : Thread Cert.GruAIdeal.nD Cert.GruAIdeal.τ).loc Cert.GruAIdeal.main_arg2)
      ∧ m' ((c.tc : Thread Cert.GruARefIdeal.nD Cert.GruARefIdeal.τ).loc Cert.GruARefIdeal.main_arg3) = m ((c.tc : Thread Cert.GruAIdeal.nD Cert.GruAIdeal.τ).loc Cert.GruAIdeal.main_arg3)
      ∧ m' ((c.tc : Thread Cert.GruARefIdeal.nD Cert.GruARefIdeal.τ).loc Cert.GruARefIdeal.main_arg4) = m ((c.tc : Thread Cert.GruAIdeal.nD Cert.GruAIdeal.τ).loc Cert.GruAIdeal.main_arg4)
      ∧ m' ((c.tc : Thread Cert.GruARefIdeal.nD Cert.GruARefIdeal.τ).loc Cert.GruARefIdeal.main_arg5) = m ((c.tc : Thread Cert.GruAIdeal.nD Cert.GruAIdeal.τ).loc Cert.GruAIdeal.main_arg5)) →
    ∃ (v0 : (c : Dev Cert.GruAIdeal.nD) → Buf (Elt Ideal) ((c.tc : Thread Cert.GruAIdeal.nD Cert.GruAIdeal.τ).loc Cert.GruAIdeal.main_v4)),
      θ_run (Cert.GruAIdeal.defs (F := Ideal)) (onTc (τ := Cert.GruAIdeal.τ) (Cert.GruAIdeal.main (F := Ideal))) ⟨m, fun _ => 0, g⟩ (fun r => ∀ c : Dev Cert.GruAIdeal.nD,
          r.2.mem ((c.tc : Thread Cert.GruAIdeal.nD Cert.GruAIdeal.τ).loc Cert.GruAIdeal.main_v4) = v0 c
          ∧ r.2.mem ((c.tc : Thread Cert.GruAIdeal.nD Cert.GruAIdeal.τ).loc Cert.GruAIdeal.main_arg0) = m ((c.tc : Thread Cert.GruAIdeal.nD Cert.GruAIdeal.τ).loc Cert.GruAIdeal.main_arg0)
          ∧ r.2.mem ((c.tc : Thread Cert.GruAIdeal.nD Cert.GruAIdeal.τ).loc Cert.GruAIdeal.main_arg1) = m ((c.tc : Thread Cert.GruAIdeal.nD Cert.GruAIdeal.τ).loc Cert.GruAIdeal.main_arg1)
          ∧ r.2.mem ((c.tc : Thread Cert.GruAIdeal.nD Cert.GruAIdeal.τ).loc Cert.GruAIdeal.main_arg2) = m ((c.tc : Thread Cert.GruAIdeal.nD Cert.GruAIdeal.τ).loc Cert.GruAIdeal.main_arg2)
          ∧ r.2.mem ((c.tc : Thread Cert.GruAIdeal.nD Cert.GruAIdeal.τ).loc Cert.GruAIdeal.main_arg3) = m ((c.tc : Thread Cert.GruAIdeal.nD Cert.GruAIdeal.τ).loc Cert.GruAIdeal.main_arg3)
          ∧ r.2.mem ((c.tc : Thread Cert.GruAIdeal.nD Cert.GruAIdeal.τ).loc Cert.GruAIdeal.main_arg4) = m ((c.tc : Thread Cert.GruAIdeal.nD Cert.GruAIdeal.τ).loc Cert.GruAIdeal.main_arg4)
          ∧ r.2.mem ((c.tc : Thread Cert.GruAIdeal.nD Cert.GruAIdeal.τ).loc Cert.GruAIdeal.main_arg5) = m ((c.tc : Thread Cert.GruAIdeal.nD Cert.GruAIdeal.τ).loc Cert.GruAIdeal.main_arg5))
      ∧ θ_run (Cert.GruARefIdeal.defs (F := Ideal)) (onTc (τ := Cert.GruARefIdeal.τ) (Cert.GruARefIdeal.main (F := Ideal))) ⟨m', fun _ => 0, g'⟩ (fun r => ∀ c : Dev Cert.GruARefIdeal.nD,
          r.2.mem ((c.tc : Thread Cert.GruARefIdeal.nD Cert.GruARefIdeal.τ).loc Cert.GruARefIdeal.main_v37) = v0 c
          ∧ r.2.mem ((c.tc : Thread Cert.GruARefIdeal.nD Cert.GruARefIdeal.τ).loc Cert.GruARefIdeal.main_arg0) = m' ((c.tc : Thread Cert.GruARefIdeal.nD Cert.GruARefIdeal.τ).loc Cert.GruARefIdeal.main_arg0)
          ∧ r.2.mem ((c.tc : Thread Cert.GruARefIdeal.nD Cert.GruARefIdeal.τ).loc Cert.GruARefIdeal.main_arg1) = m' ((c.tc : Thread Cert.GruARefIdeal.nD Cert.GruARefIdeal.τ).loc Cert.GruARefIdeal.main_arg1)
          ∧ r.2.mem ((c.tc : Thread Cert.GruARefIdeal.nD Cert.GruARefIdeal.τ).loc Cert.GruARefIdeal.main_arg2) = m' ((c.tc : Thread Cert.GruARefIdeal.nD Cert.GruARefIdeal.τ).loc Cert.GruARefIdeal.main_arg2)
          ∧ r.2.mem ((c.tc : Thread Cert.GruARefIdeal.nD Cert.GruARefIdeal.τ).loc Cert.GruARefIdeal.main_arg3) = m' ((c.tc : Thread Cert.GruARefIdeal.nD Cert.GruARefIdeal.τ).loc Cert.GruARefIdeal.main_arg3)
          ∧ r.2.mem ((c.tc : Thread Cert.GruARefIdeal.nD Cert.GruARefIdeal.τ).loc Cert.GruARefIdeal.main_arg4) = m' ((c.tc : Thread Cert.GruARefIdeal.nD Cert.GruARefIdeal.τ).loc Cert.GruARefIdeal.main_arg4)
          ∧ r.2.mem ((c.tc : Thread Cert.GruARefIdeal.nD Cert.GruARefIdeal.τ).loc Cert.GruARefIdeal.main_arg5) = m' ((c.tc : Thread Cert.GruARefIdeal.nD Cert.GruARefIdeal.τ).loc Cert.GruARefIdeal.main_arg5))

def preserves_GruB_GruBIdeal : Prop :=
  True

def algebraic_GruBIdeal_GruBRefIdeal [hGruBIdeal : Cert.GruBIdeal.Facts] [hGruBRefIdeal : Cert.GruBRefIdeal.Facts] : Prop :=
  ∀ (m : (ℓ : Loc Cert.GruBIdeal.nD Cert.GruBIdeal.τ Cert.GruBIdeal.sig) → Buf (Elt Ideal) ℓ) (g : Dev Cert.GruBIdeal.nD → PrngReg)
    (m' : (ℓ : Loc Cert.GruBRefIdeal.nD Cert.GruBRefIdeal.τ Cert.GruBRefIdeal.sig) → Buf (Elt Ideal) ℓ) (g' : Dev Cert.GruBRefIdeal.nD → PrngReg), Pre_GruBIdeal m →
    (∀ c : Dev Cert.GruBIdeal.nD,
      m' ((c.tc : Thread Cert.GruBRefIdeal.nD Cert.GruBRefIdeal.τ).loc Cert.GruBRefIdeal.main_arg0) = m ((c.tc : Thread Cert.GruBIdeal.nD Cert.GruBIdeal.τ).loc Cert.GruBIdeal.main_arg0)
      ∧ m' ((c.tc : Thread Cert.GruBRefIdeal.nD Cert.GruBRefIdeal.τ).loc Cert.GruBRefIdeal.main_arg1) = m ((c.tc : Thread Cert.GruBIdeal.nD Cert.GruBIdeal.τ).loc Cert.GruBIdeal.main_arg1)
      ∧ m' ((c.tc : Thread Cert.GruBRefIdeal.nD Cert.GruBRefIdeal.τ).loc Cert.GruBRefIdeal.main_arg2) = m ((c.tc : Thread Cert.GruBIdeal.nD Cert.GruBIdeal.τ).loc Cert.GruBIdeal.main_arg2)
      ∧ m' ((c.tc : Thread Cert.GruBRefIdeal.nD Cert.GruBRefIdeal.τ).loc Cert.GruBRefIdeal.main_arg3) = m ((c.tc : Thread Cert.GruBIdeal.nD Cert.GruBIdeal.τ).loc Cert.GruBIdeal.main_arg3)
      ∧ m' ((c.tc : Thread Cert.GruBRefIdeal.nD Cert.GruBRefIdeal.τ).loc Cert.GruBRefIdeal.main_arg4) = m ((c.tc : Thread Cert.GruBIdeal.nD Cert.GruBIdeal.τ).loc Cert.GruBIdeal.main_arg4)
      ∧ m' ((c.tc : Thread Cert.GruBRefIdeal.nD Cert.GruBRefIdeal.τ).loc Cert.GruBRefIdeal.main_arg5) = m ((c.tc : Thread Cert.GruBIdeal.nD Cert.GruBIdeal.τ).loc Cert.GruBIdeal.main_arg5)) →
    ∃ (v0 : (c : Dev Cert.GruBIdeal.nD) → Buf (Elt Ideal) ((c.tc : Thread Cert.GruBIdeal.nD Cert.GruBIdeal.τ).loc Cert.GruBIdeal.main_v4)),
      θ_run (Cert.GruBIdeal.defs (F := Ideal)) (onTc (τ := Cert.GruBIdeal.τ) (Cert.GruBIdeal.main (F := Ideal))) ⟨m, fun _ => 0, g⟩ (fun r => ∀ c : Dev Cert.GruBIdeal.nD,
          r.2.mem ((c.tc : Thread Cert.GruBIdeal.nD Cert.GruBIdeal.τ).loc Cert.GruBIdeal.main_v4) = v0 c
          ∧ r.2.mem ((c.tc : Thread Cert.GruBIdeal.nD Cert.GruBIdeal.τ).loc Cert.GruBIdeal.main_arg0) = m ((c.tc : Thread Cert.GruBIdeal.nD Cert.GruBIdeal.τ).loc Cert.GruBIdeal.main_arg0)
          ∧ r.2.mem ((c.tc : Thread Cert.GruBIdeal.nD Cert.GruBIdeal.τ).loc Cert.GruBIdeal.main_arg1) = m ((c.tc : Thread Cert.GruBIdeal.nD Cert.GruBIdeal.τ).loc Cert.GruBIdeal.main_arg1)
          ∧ r.2.mem ((c.tc : Thread Cert.GruBIdeal.nD Cert.GruBIdeal.τ).loc Cert.GruBIdeal.main_arg2) = m ((c.tc : Thread Cert.GruBIdeal.nD Cert.GruBIdeal.τ).loc Cert.GruBIdeal.main_arg2)
          ∧ r.2.mem ((c.tc : Thread Cert.GruBIdeal.nD Cert.GruBIdeal.τ).loc Cert.GruBIdeal.main_arg3) = m ((c.tc : Thread Cert.GruBIdeal.nD Cert.GruBIdeal.τ).loc Cert.GruBIdeal.main_arg3)
          ∧ r.2.mem ((c.tc : Thread Cert.GruBIdeal.nD Cert.GruBIdeal.τ).loc Cert.GruBIdeal.main_arg4) = m ((c.tc : Thread Cert.GruBIdeal.nD Cert.GruBIdeal.τ).loc Cert.GruBIdeal.main_arg4)
          ∧ r.2.mem ((c.tc : Thread Cert.GruBIdeal.nD Cert.GruBIdeal.τ).loc Cert.GruBIdeal.main_arg5) = m ((c.tc : Thread Cert.GruBIdeal.nD Cert.GruBIdeal.τ).loc Cert.GruBIdeal.main_arg5))
      ∧ θ_run (Cert.GruBRefIdeal.defs (F := Ideal)) (onTc (τ := Cert.GruBRefIdeal.τ) (Cert.GruBRefIdeal.main (F := Ideal))) ⟨m', fun _ => 0, g'⟩ (fun r => ∀ c : Dev Cert.GruBRefIdeal.nD,
          r.2.mem ((c.tc : Thread Cert.GruBRefIdeal.nD Cert.GruBRefIdeal.τ).loc Cert.GruBRefIdeal.main_v37) = v0 c
          ∧ r.2.mem ((c.tc : Thread Cert.GruBRefIdeal.nD Cert.GruBRefIdeal.τ).loc Cert.GruBRefIdeal.main_arg0) = m' ((c.tc : Thread Cert.GruBRefIdeal.nD Cert.GruBRefIdeal.τ).loc Cert.GruBRefIdeal.main_arg0)
          ∧ r.2.mem ((c.tc : Thread Cert.GruBRefIdeal.nD Cert.GruBRefIdeal.τ).loc Cert.GruBRefIdeal.main_arg1) = m' ((c.tc : Thread Cert.GruBRefIdeal.nD Cert.GruBRefIdeal.τ).loc Cert.GruBRefIdeal.main_arg1)
          ∧ r.2.mem ((c.tc : Thread Cert.GruBRefIdeal.nD Cert.GruBRefIdeal.τ).loc Cert.GruBRefIdeal.main_arg2) = m' ((c.tc : Thread Cert.GruBRefIdeal.nD Cert.GruBRefIdeal.τ).loc Cert.GruBRefIdeal.main_arg2)
          ∧ r.2.mem ((c.tc : Thread Cert.GruBRefIdeal.nD Cert.GruBRefIdeal.τ).loc Cert.GruBRefIdeal.main_arg3) = m' ((c.tc : Thread Cert.GruBRefIdeal.nD Cert.GruBRefIdeal.τ).loc Cert.GruBRefIdeal.main_arg3)
          ∧ r.2.mem ((c.tc : Thread Cert.GruBRefIdeal.nD Cert.GruBRefIdeal.τ).loc Cert.GruBRefIdeal.main_arg4) = m' ((c.tc : Thread Cert.GruBRefIdeal.nD Cert.GruBRefIdeal.τ).loc Cert.GruBRefIdeal.main_arg4)
          ∧ r.2.mem ((c.tc : Thread Cert.GruBRefIdeal.nD Cert.GruBRefIdeal.τ).loc Cert.GruBRefIdeal.main_arg5) = m' ((c.tc : Thread Cert.GruBRefIdeal.nD Cert.GruBRefIdeal.τ).loc Cert.GruBRefIdeal.main_arg5))

def preserves_MatA_MatAIdeal : Prop :=
  True

def algebraic_MatAIdeal_MatARefIdeal [hMatAIdeal : Cert.MatAIdeal.Facts] [hMatARefIdeal : Cert.MatARefIdeal.Facts] : Prop :=
  ∀ (m : (ℓ : Loc Cert.MatAIdeal.nD Cert.MatAIdeal.τ Cert.MatAIdeal.sig) → Buf (Elt Ideal) ℓ) (g : Dev Cert.MatAIdeal.nD → PrngReg)
    (m' : (ℓ : Loc Cert.MatARefIdeal.nD Cert.MatARefIdeal.τ Cert.MatARefIdeal.sig) → Buf (Elt Ideal) ℓ) (g' : Dev Cert.MatARefIdeal.nD → PrngReg), Pre_MatAIdeal m →
    (∀ c : Dev Cert.MatAIdeal.nD,
      m' ((c.tc : Thread Cert.MatARefIdeal.nD Cert.MatARefIdeal.τ).loc Cert.MatARefIdeal.main_arg0) = m ((c.tc : Thread Cert.MatAIdeal.nD Cert.MatAIdeal.τ).loc Cert.MatAIdeal.main_arg0)
      ∧ m' ((c.tc : Thread Cert.MatARefIdeal.nD Cert.MatARefIdeal.τ).loc Cert.MatARefIdeal.main_arg1) = m ((c.tc : Thread Cert.MatAIdeal.nD Cert.MatAIdeal.τ).loc Cert.MatAIdeal.main_arg1)) →
    ∃ (v0 : (c : Dev Cert.MatAIdeal.nD) → Buf (Elt Ideal) ((c.tc : Thread Cert.MatAIdeal.nD Cert.MatAIdeal.τ).loc Cert.MatAIdeal.main_v0)),
      θ_run (Cert.MatAIdeal.defs (F := Ideal)) (onTc (τ := Cert.MatAIdeal.τ) (Cert.MatAIdeal.main (F := Ideal))) ⟨m, fun _ => 0, g⟩ (fun r => ∀ c : Dev Cert.MatAIdeal.nD,
          r.2.mem ((c.tc : Thread Cert.MatAIdeal.nD Cert.MatAIdeal.τ).loc Cert.MatAIdeal.main_v0) = v0 c
          ∧ r.2.mem ((c.tc : Thread Cert.MatAIdeal.nD Cert.MatAIdeal.τ).loc Cert.MatAIdeal.main_arg0) = m ((c.tc : Thread Cert.MatAIdeal.nD Cert.MatAIdeal.τ).loc Cert.MatAIdeal.main_arg0)
          ∧ r.2.mem ((c.tc : Thread Cert.MatAIdeal.nD Cert.MatAIdeal.τ).loc Cert.MatAIdeal.main_arg1) = m ((c.tc : Thread Cert.MatAIdeal.nD Cert.MatAIdeal.τ).loc Cert.MatAIdeal.main_arg1))
      ∧ θ_run (Cert.MatARefIdeal.defs (F := Ideal)) (onTc (τ := Cert.MatARefIdeal.τ) (Cert.MatARefIdeal.main (F := Ideal))) ⟨m', fun _ => 0, g'⟩ (fun r => ∀ c : Dev Cert.MatARefIdeal.nD,
          r.2.mem ((c.tc : Thread Cert.MatARefIdeal.nD Cert.MatARefIdeal.τ).loc Cert.MatARefIdeal.main_v0) = v0 c
          ∧ r.2.mem ((c.tc : Thread Cert.MatARefIdeal.nD Cert.MatARefIdeal.τ).loc Cert.MatARefIdeal.main_arg0) = m' ((c.tc : Thread Cert.MatARefIdeal.nD Cert.MatARefIdeal.τ).loc Cert.MatARefIdeal.main_arg0)
          ∧ r.2.mem ((c.tc : Thread Cert.MatARefIdeal.nD Cert.MatARefIdeal.τ).loc Cert.MatARefIdeal.main_arg1) = m' ((c.tc : Thread Cert.MatARefIdeal.nD Cert.MatARefIdeal.τ).loc Cert.MatARefIdeal.main_arg1))

def preserves_MatB_MatBIdeal : Prop :=
  True

def algebraic_MatBIdeal_MatBRefIdeal [hMatBIdeal : Cert.MatBIdeal.Facts] [hMatBRefIdeal : Cert.MatBRefIdeal.Facts] : Prop :=
  ∀ (m : (ℓ : Loc Cert.MatBIdeal.nD Cert.MatBIdeal.τ Cert.MatBIdeal.sig) → Buf (Elt Ideal) ℓ) (g : Dev Cert.MatBIdeal.nD → PrngReg)
    (m' : (ℓ : Loc Cert.MatBRefIdeal.nD Cert.MatBRefIdeal.τ Cert.MatBRefIdeal.sig) → Buf (Elt Ideal) ℓ) (g' : Dev Cert.MatBRefIdeal.nD → PrngReg), Pre_MatBIdeal m →
    (∀ c : Dev Cert.MatBIdeal.nD,
      m' ((c.tc : Thread Cert.MatBRefIdeal.nD Cert.MatBRefIdeal.τ).loc Cert.MatBRefIdeal.main_arg0) = m ((c.tc : Thread Cert.MatBIdeal.nD Cert.MatBIdeal.τ).loc Cert.MatBIdeal.main_arg0)
      ∧ m' ((c.tc : Thread Cert.MatBRefIdeal.nD Cert.MatBRefIdeal.τ).loc Cert.MatBRefIdeal.main_arg1) = m ((c.tc : Thread Cert.MatBIdeal.nD Cert.MatBIdeal.τ).loc Cert.MatBIdeal.main_arg1)) →
    ∃ (v0 : (c : Dev Cert.MatBIdeal.nD) → Buf (Elt Ideal) ((c.tc : Thread Cert.MatBIdeal.nD Cert.MatBIdeal.τ).loc Cert.MatBIdeal.main_v0)),
      θ_run (Cert.MatBIdeal.defs (F := Ideal)) (onTc (τ := Cert.MatBIdeal.τ) (Cert.MatBIdeal.main (F := Ideal))) ⟨m, fun _ => 0, g⟩ (fun r => ∀ c : Dev Cert.MatBIdeal.nD,
          r.2.mem ((c.tc : Thread Cert.MatBIdeal.nD Cert.MatBIdeal.τ).loc Cert.MatBIdeal.main_v0) = v0 c
          ∧ r.2.mem ((c.tc : Thread Cert.MatBIdeal.nD Cert.MatBIdeal.τ).loc Cert.MatBIdeal.main_arg0) = m ((c.tc : Thread Cert.MatBIdeal.nD Cert.MatBIdeal.τ).loc Cert.MatBIdeal.main_arg0)
          ∧ r.2.mem ((c.tc : Thread Cert.MatBIdeal.nD Cert.MatBIdeal.τ).loc Cert.MatBIdeal.main_arg1) = m ((c.tc : Thread Cert.MatBIdeal.nD Cert.MatBIdeal.τ).loc Cert.MatBIdeal.main_arg1))
      ∧ θ_run (Cert.MatBRefIdeal.defs (F := Ideal)) (onTc (τ := Cert.MatBRefIdeal.τ) (Cert.MatBRefIdeal.main (F := Ideal))) ⟨m', fun _ => 0, g'⟩ (fun r => ∀ c : Dev Cert.MatBRefIdeal.nD,
          r.2.mem ((c.tc : Thread Cert.MatBRefIdeal.nD Cert.MatBRefIdeal.τ).loc Cert.MatBRefIdeal.main_v0) = v0 c
          ∧ r.2.mem ((c.tc : Thread Cert.MatBRefIdeal.nD Cert.MatBRefIdeal.τ).loc Cert.MatBRefIdeal.main_arg0) = m' ((c.tc : Thread Cert.MatBRefIdeal.nD Cert.MatBRefIdeal.τ).loc Cert.MatBRefIdeal.main_arg0)
          ∧ r.2.mem ((c.tc : Thread Cert.MatBRefIdeal.nD Cert.MatBRefIdeal.τ).loc Cert.MatBRefIdeal.main_arg1) = m' ((c.tc : Thread Cert.MatBRefIdeal.nD Cert.MatBRefIdeal.τ).loc Cert.MatBRefIdeal.main_arg1))

def preserves_AddMat_AddMatIdeal : Prop :=
  True

def algebraic_AddMatIdeal_AddMatRefIdeal [hAddMatIdeal : Cert.AddMatIdeal.Facts] [hAddMatRefIdeal : Cert.AddMatRefIdeal.Facts] : Prop :=
  ∀ (m : (ℓ : Loc Cert.AddMatIdeal.nD Cert.AddMatIdeal.τ Cert.AddMatIdeal.sig) → Buf (Elt Ideal) ℓ) (g : Dev Cert.AddMatIdeal.nD → PrngReg)
    (m' : (ℓ : Loc Cert.AddMatRefIdeal.nD Cert.AddMatRefIdeal.τ Cert.AddMatRefIdeal.sig) → Buf (Elt Ideal) ℓ) (g' : Dev Cert.AddMatRefIdeal.nD → PrngReg), Pre_AddMatIdeal m →
    (∀ c : Dev Cert.AddMatIdeal.nD,
      m' ((c.tc : Thread Cert.AddMatRefIdeal.nD Cert.AddMatRefIdeal.τ).loc Cert.AddMatRefIdeal.main_arg0) = m ((c.tc : Thread Cert.AddMatIdeal.nD Cert.AddMatIdeal.τ).loc Cert.AddMatIdeal.main_arg0)
      ∧ m' ((c.tc : Thread Cert.AddMatRefIdeal.nD Cert.AddMatRefIdeal.τ).loc Cert.AddMatRefIdeal.main_arg1) = m ((c.tc : Thread Cert.AddMatIdeal.nD Cert.AddMatIdeal.τ).loc Cert.AddMatIdeal.main_arg1)
      ∧ m' ((c.tc : Thread Cert.AddMatRefIdeal.nD Cert.AddMatRefIdeal.τ).loc Cert.AddMatRefIdeal.main_arg2) = m ((c.tc : Thread Cert.AddMatIdeal.nD Cert.AddMatIdeal.τ).loc Cert.AddMatIdeal.main_arg2)) →
    ∃ (v0 : (c : Dev Cert.AddMatIdeal.nD) → Buf (Elt Ideal) ((c.tc : Thread Cert.AddMatIdeal.nD Cert.AddMatIdeal.τ).loc Cert.AddMatIdeal.main_v0_0)) (v1 : (c : Dev Cert.AddMatIdeal.nD) → Buf (Elt Ideal) ((c.tc : Thread Cert.AddMatIdeal.nD Cert.AddMatIdeal.τ).loc Cert.AddMatIdeal.main_v0_1)),
      θ_run (Cert.AddMatIdeal.defs (F := Ideal)) (onTc (τ := Cert.AddMatIdeal.τ) (Cert.AddMatIdeal.main (F := Ideal))) ⟨m, fun _ => 0, g⟩ (fun r => ∀ c : Dev Cert.AddMatIdeal.nD,
          r.2.mem ((c.tc : Thread Cert.AddMatIdeal.nD Cert.AddMatIdeal.τ).loc Cert.AddMatIdeal.main_v0_0) = v0 c
          ∧ r.2.mem ((c.tc : Thread Cert.AddMatIdeal.nD Cert.AddMatIdeal.τ).loc Cert.AddMatIdeal.main_v0_1) = v1 c
          ∧ r.2.mem ((c.tc : Thread Cert.AddMatIdeal.nD Cert.AddMatIdeal.τ).loc Cert.AddMatIdeal.main_arg0) = m ((c.tc : Thread Cert.AddMatIdeal.nD Cert.AddMatIdeal.τ).loc Cert.AddMatIdeal.main_arg0)
          ∧ r.2.mem ((c.tc : Thread Cert.AddMatIdeal.nD Cert.AddMatIdeal.τ).loc Cert.AddMatIdeal.main_arg1) = m ((c.tc : Thread Cert.AddMatIdeal.nD Cert.AddMatIdeal.τ).loc Cert.AddMatIdeal.main_arg1)
          ∧ r.2.mem ((c.tc : Thread Cert.AddMatIdeal.nD Cert.AddMatIdeal.τ).loc Cert.AddMatIdeal.main_arg2) = m ((c.tc : Thread Cert.AddMatIdeal.nD Cert.AddMatIdeal.τ).loc Cert.AddMatIdeal.main_arg2))
      ∧ θ_run (Cert.AddMatRefIdeal.defs (F := Ideal)) (onTc (τ := Cert.AddMatRefIdeal.τ) (Cert.AddMatRefIdeal.main (F := Ideal))) ⟨m', fun _ => 0, g'⟩ (fun r => ∀ c : Dev Cert.AddMatRefIdeal.nD,
          r.2.mem ((c.tc : Thread Cert.AddMatRefIdeal.nD Cert.AddMatRefIdeal.τ).loc Cert.AddMatRefIdeal.main_v0) = v0 c
          ∧ r.2.mem ((c.tc : Thread Cert.AddMatRefIdeal.nD Cert.AddMatRefIdeal.τ).loc Cert.AddMatRefIdeal.main_v1) = v1 c
          ∧ r.2.mem ((c.tc : Thread Cert.AddMatRefIdeal.nD Cert.AddMatRefIdeal.τ).loc Cert.AddMatRefIdeal.main_arg0) = m' ((c.tc : Thread Cert.AddMatRefIdeal.nD Cert.AddMatRefIdeal.τ).loc Cert.AddMatRefIdeal.main_arg0)
          ∧ r.2.mem ((c.tc : Thread Cert.AddMatRefIdeal.nD Cert.AddMatRefIdeal.τ).loc Cert.AddMatRefIdeal.main_arg1) = m' ((c.tc : Thread Cert.AddMatRefIdeal.nD Cert.AddMatRefIdeal.τ).loc Cert.AddMatRefIdeal.main_arg1)
          ∧ r.2.mem ((c.tc : Thread Cert.AddMatRefIdeal.nD Cert.AddMatRefIdeal.τ).loc Cert.AddMatRefIdeal.main_arg2) = m' ((c.tc : Thread Cert.AddMatRefIdeal.nD Cert.AddMatRefIdeal.τ).loc Cert.AddMatRefIdeal.main_arg2))

def preserves_PairHead_PairHeadIdeal : Prop :=
  True

def algebraic_PairHeadIdeal_PairHeadRefIdeal [hPairHeadIdeal : Cert.PairHeadIdeal.Facts] [hPairHeadRefIdeal : Cert.PairHeadRefIdeal.Facts] [hPre_pairs_in_range : Cert.Pre_pairs_in_range.Facts] : Prop :=
  ∀ (m : (ℓ : Loc Cert.PairHeadIdeal.nD Cert.PairHeadIdeal.τ Cert.PairHeadIdeal.sig) → Buf (Elt Ideal) ℓ) (g : Dev Cert.PairHeadIdeal.nD → PrngReg)
    (m' : (ℓ : Loc Cert.PairHeadRefIdeal.nD Cert.PairHeadRefIdeal.τ Cert.PairHeadRefIdeal.sig) → Buf (Elt Ideal) ℓ) (g' : Dev Cert.PairHeadRefIdeal.nD → PrngReg), Pre_PairHeadIdeal m →
    (∀ c : Dev Cert.PairHeadIdeal.nD,
      m' ((c.tc : Thread Cert.PairHeadRefIdeal.nD Cert.PairHeadRefIdeal.τ).loc Cert.PairHeadRefIdeal.main_arg0) = m ((c.tc : Thread Cert.PairHeadIdeal.nD Cert.PairHeadIdeal.τ).loc Cert.PairHeadIdeal.main_arg0)
      ∧ m' ((c.tc : Thread Cert.PairHeadRefIdeal.nD Cert.PairHeadRefIdeal.τ).loc Cert.PairHeadRefIdeal.main_arg1) = m ((c.tc : Thread Cert.PairHeadIdeal.nD Cert.PairHeadIdeal.τ).loc Cert.PairHeadIdeal.main_arg1)
      ∧ m' ((c.tc : Thread Cert.PairHeadRefIdeal.nD Cert.PairHeadRefIdeal.τ).loc Cert.PairHeadRefIdeal.main_arg2) = m ((c.tc : Thread Cert.PairHeadIdeal.nD Cert.PairHeadIdeal.τ).loc Cert.PairHeadIdeal.main_arg2)
      ∧ m' ((c.tc : Thread Cert.PairHeadRefIdeal.nD Cert.PairHeadRefIdeal.τ).loc Cert.PairHeadRefIdeal.main_arg3) = m ((c.tc : Thread Cert.PairHeadIdeal.nD Cert.PairHeadIdeal.τ).loc Cert.PairHeadIdeal.main_arg3)
      ∧ m' ((c.tc : Thread Cert.PairHeadRefIdeal.nD Cert.PairHeadRefIdeal.τ).loc Cert.PairHeadRefIdeal.main_arg4) = m ((c.tc : Thread Cert.PairHeadIdeal.nD Cert.PairHeadIdeal.τ).loc Cert.PairHeadIdeal.main_arg4)
      ∧ m' ((c.tc : Thread Cert.PairHeadRefIdeal.nD Cert.PairHeadRefIdeal.τ).loc Cert.PairHeadRefIdeal.main_arg5) = m ((c.tc : Thread Cert.PairHeadIdeal.nD Cert.PairHeadIdeal.τ).loc Cert.PairHeadIdeal.main_arg5)) →
    ∃ (v0 : (c : Dev Cert.PairHeadIdeal.nD) → Buf (Elt Ideal) ((c.tc : Thread Cert.PairHeadIdeal.nD Cert.PairHeadIdeal.τ).loc Cert.PairHeadIdeal.main_v10)),
      θ_run (Cert.PairHeadIdeal.defs (F := Ideal)) (onTc (τ := Cert.PairHeadIdeal.τ) (Cert.PairHeadIdeal.main (F := Ideal))) ⟨m, fun _ => 0, g⟩ (fun r => ∀ c : Dev Cert.PairHeadIdeal.nD,
          r.2.mem ((c.tc : Thread Cert.PairHeadIdeal.nD Cert.PairHeadIdeal.τ).loc Cert.PairHeadIdeal.main_v10) = v0 c
          ∧ r.2.mem ((c.tc : Thread Cert.PairHeadIdeal.nD Cert.PairHeadIdeal.τ).loc Cert.PairHeadIdeal.main_arg0) = m ((c.tc : Thread Cert.PairHeadIdeal.nD Cert.PairHeadIdeal.τ).loc Cert.PairHeadIdeal.main_arg0)
          ∧ r.2.mem ((c.tc : Thread Cert.PairHeadIdeal.nD Cert.PairHeadIdeal.τ).loc Cert.PairHeadIdeal.main_arg1) = m ((c.tc : Thread Cert.PairHeadIdeal.nD Cert.PairHeadIdeal.τ).loc Cert.PairHeadIdeal.main_arg1)
          ∧ r.2.mem ((c.tc : Thread Cert.PairHeadIdeal.nD Cert.PairHeadIdeal.τ).loc Cert.PairHeadIdeal.main_arg2) = m ((c.tc : Thread Cert.PairHeadIdeal.nD Cert.PairHeadIdeal.τ).loc Cert.PairHeadIdeal.main_arg2)
          ∧ r.2.mem ((c.tc : Thread Cert.PairHeadIdeal.nD Cert.PairHeadIdeal.τ).loc Cert.PairHeadIdeal.main_arg3) = m ((c.tc : Thread Cert.PairHeadIdeal.nD Cert.PairHeadIdeal.τ).loc Cert.PairHeadIdeal.main_arg3)
          ∧ r.2.mem ((c.tc : Thread Cert.PairHeadIdeal.nD Cert.PairHeadIdeal.τ).loc Cert.PairHeadIdeal.main_arg4) = m ((c.tc : Thread Cert.PairHeadIdeal.nD Cert.PairHeadIdeal.τ).loc Cert.PairHeadIdeal.main_arg4)
          ∧ r.2.mem ((c.tc : Thread Cert.PairHeadIdeal.nD Cert.PairHeadIdeal.τ).loc Cert.PairHeadIdeal.main_arg5) = m ((c.tc : Thread Cert.PairHeadIdeal.nD Cert.PairHeadIdeal.τ).loc Cert.PairHeadIdeal.main_arg5))
      ∧ θ_run (Cert.PairHeadRefIdeal.defs (F := Ideal)) (onTc (τ := Cert.PairHeadRefIdeal.τ) (Cert.PairHeadRefIdeal.main (F := Ideal))) ⟨m', fun _ => 0, g'⟩ (fun r => ∀ c : Dev Cert.PairHeadRefIdeal.nD,
          r.2.mem ((c.tc : Thread Cert.PairHeadRefIdeal.nD Cert.PairHeadRefIdeal.τ).loc Cert.PairHeadRefIdeal.main_v28) = v0 c
          ∧ r.2.mem ((c.tc : Thread Cert.PairHeadRefIdeal.nD Cert.PairHeadRefIdeal.τ).loc Cert.PairHeadRefIdeal.main_arg0) = m' ((c.tc : Thread Cert.PairHeadRefIdeal.nD Cert.PairHeadRefIdeal.τ).loc Cert.PairHeadRefIdeal.main_arg0)
          ∧ r.2.mem ((c.tc : Thread Cert.PairHeadRefIdeal.nD Cert.PairHeadRefIdeal.τ).loc Cert.PairHeadRefIdeal.main_arg1) = m' ((c.tc : Thread Cert.PairHeadRefIdeal.nD Cert.PairHeadRefIdeal.τ).loc Cert.PairHeadRefIdeal.main_arg1)
          ∧ r.2.mem ((c.tc : Thread Cert.PairHeadRefIdeal.nD Cert.PairHeadRefIdeal.τ).loc Cert.PairHeadRefIdeal.main_arg2) = m' ((c.tc : Thread Cert.PairHeadRefIdeal.nD Cert.PairHeadRefIdeal.τ).loc Cert.PairHeadRefIdeal.main_arg2)
          ∧ r.2.mem ((c.tc : Thread Cert.PairHeadRefIdeal.nD Cert.PairHeadRefIdeal.τ).loc Cert.PairHeadRefIdeal.main_arg3) = m' ((c.tc : Thread Cert.PairHeadRefIdeal.nD Cert.PairHeadRefIdeal.τ).loc Cert.PairHeadRefIdeal.main_arg3)
          ∧ r.2.mem ((c.tc : Thread Cert.PairHeadRefIdeal.nD Cert.PairHeadRefIdeal.τ).loc Cert.PairHeadRefIdeal.main_arg4) = m' ((c.tc : Thread Cert.PairHeadRefIdeal.nD Cert.PairHeadRefIdeal.τ).loc Cert.PairHeadRefIdeal.main_arg4)
          ∧ r.2.mem ((c.tc : Thread Cert.PairHeadRefIdeal.nD Cert.PairHeadRefIdeal.τ).loc Cert.PairHeadRefIdeal.main_arg5) = m' ((c.tc : Thread Cert.PairHeadRefIdeal.nD Cert.PairHeadRefIdeal.τ).loc Cert.PairHeadRefIdeal.main_arg5))

def preserves_SegA_SegAIdeal : Prop :=
  True

def algebraic_SegAIdeal_SegARefIdeal [hSegAIdeal : Cert.SegAIdeal.Facts] [hSegARefIdeal : Cert.SegARefIdeal.Facts] [hPre_inner_in_range : Cert.Pre_inner_in_range.Facts] : Prop :=
  ∀ (m : (ℓ : Loc Cert.SegAIdeal.nD Cert.SegAIdeal.τ Cert.SegAIdeal.sig) → Buf (Elt Ideal) ℓ) (g : Dev Cert.SegAIdeal.nD → PrngReg)
    (m' : (ℓ : Loc Cert.SegARefIdeal.nD Cert.SegARefIdeal.τ Cert.SegARefIdeal.sig) → Buf (Elt Ideal) ℓ) (g' : Dev Cert.SegARefIdeal.nD → PrngReg), Pre_SegAIdeal m →
    (∀ c : Dev Cert.SegAIdeal.nD,
      m' ((c.tc : Thread Cert.SegARefIdeal.nD Cert.SegARefIdeal.τ).loc Cert.SegARefIdeal.main_arg0) = m ((c.tc : Thread Cert.SegAIdeal.nD Cert.SegAIdeal.τ).loc Cert.SegAIdeal.main_arg0)
      ∧ m' ((c.tc : Thread Cert.SegARefIdeal.nD Cert.SegARefIdeal.τ).loc Cert.SegARefIdeal.main_arg1) = m ((c.tc : Thread Cert.SegAIdeal.nD Cert.SegAIdeal.τ).loc Cert.SegAIdeal.main_arg1)) →
    ∃ (v0 : (c : Dev Cert.SegAIdeal.nD) → Buf (Elt Ideal) ((c.tc : Thread Cert.SegAIdeal.nD Cert.SegAIdeal.τ).loc Cert.SegAIdeal.main_v6)),
      θ_run (Cert.SegAIdeal.defs (F := Ideal)) (onTc (τ := Cert.SegAIdeal.τ) (Cert.SegAIdeal.main (F := Ideal))) ⟨m, fun _ => 0, g⟩ (fun r => ∀ c : Dev Cert.SegAIdeal.nD,
          r.2.mem ((c.tc : Thread Cert.SegAIdeal.nD Cert.SegAIdeal.τ).loc Cert.SegAIdeal.main_v6) = v0 c
          ∧ r.2.mem ((c.tc : Thread Cert.SegAIdeal.nD Cert.SegAIdeal.τ).loc Cert.SegAIdeal.main_arg0) = m ((c.tc : Thread Cert.SegAIdeal.nD Cert.SegAIdeal.τ).loc Cert.SegAIdeal.main_arg0)
          ∧ r.2.mem ((c.tc : Thread Cert.SegAIdeal.nD Cert.SegAIdeal.τ).loc Cert.SegAIdeal.main_arg1) = m ((c.tc : Thread Cert.SegAIdeal.nD Cert.SegAIdeal.τ).loc Cert.SegAIdeal.main_arg1))
      ∧ θ_run (Cert.SegARefIdeal.defs (F := Ideal)) (onTc (τ := Cert.SegARefIdeal.τ) (Cert.SegARefIdeal.main (F := Ideal))) ⟨m', fun _ => 0, g'⟩ (fun r => ∀ c : Dev Cert.SegARefIdeal.nD,
          r.2.mem ((c.tc : Thread Cert.SegARefIdeal.nD Cert.SegARefIdeal.τ).loc Cert.SegARefIdeal.main_v13) = v0 c
          ∧ r.2.mem ((c.tc : Thread Cert.SegARefIdeal.nD Cert.SegARefIdeal.τ).loc Cert.SegARefIdeal.main_arg0) = m' ((c.tc : Thread Cert.SegARefIdeal.nD Cert.SegARefIdeal.τ).loc Cert.SegARefIdeal.main_arg0)
          ∧ r.2.mem ((c.tc : Thread Cert.SegARefIdeal.nD Cert.SegARefIdeal.τ).loc Cert.SegARefIdeal.main_arg1) = m' ((c.tc : Thread Cert.SegARefIdeal.nD Cert.SegARefIdeal.τ).loc Cert.SegARefIdeal.main_arg1))

def preserves_SegB_SegBIdeal : Prop :=
  True

def algebraic_SegBIdeal_SegBRefIdeal [hSegBIdeal : Cert.SegBIdeal.Facts] [hSegBRefIdeal : Cert.SegBRefIdeal.Facts] [hPre_edges_in_range : Cert.Pre_edges_in_range.Facts] : Prop :=
  ∀ (m : (ℓ : Loc Cert.SegBIdeal.nD Cert.SegBIdeal.τ Cert.SegBIdeal.sig) → Buf (Elt Ideal) ℓ) (g : Dev Cert.SegBIdeal.nD → PrngReg)
    (m' : (ℓ : Loc Cert.SegBRefIdeal.nD Cert.SegBRefIdeal.τ Cert.SegBRefIdeal.sig) → Buf (Elt Ideal) ℓ) (g' : Dev Cert.SegBRefIdeal.nD → PrngReg), Pre_SegBIdeal m →
    (∀ c : Dev Cert.SegBIdeal.nD,
      m' ((c.tc : Thread Cert.SegBRefIdeal.nD Cert.SegBRefIdeal.τ).loc Cert.SegBRefIdeal.main_arg0) = m ((c.tc : Thread Cert.SegBIdeal.nD Cert.SegBIdeal.τ).loc Cert.SegBIdeal.main_arg0)
      ∧ m' ((c.tc : Thread Cert.SegBRefIdeal.nD Cert.SegBRefIdeal.τ).loc Cert.SegBRefIdeal.main_arg1) = m ((c.tc : Thread Cert.SegBIdeal.nD Cert.SegBIdeal.τ).loc Cert.SegBIdeal.main_arg1)) →
    ∃ (v0 : (c : Dev Cert.SegBIdeal.nD) → Buf (Elt Ideal) ((c.tc : Thread Cert.SegBIdeal.nD Cert.SegBIdeal.τ).loc Cert.SegBIdeal.main_v6)),
      θ_run (Cert.SegBIdeal.defs (F := Ideal)) (onTc (τ := Cert.SegBIdeal.τ) (Cert.SegBIdeal.main (F := Ideal))) ⟨m, fun _ => 0, g⟩ (fun r => ∀ c : Dev Cert.SegBIdeal.nD,
          r.2.mem ((c.tc : Thread Cert.SegBIdeal.nD Cert.SegBIdeal.τ).loc Cert.SegBIdeal.main_v6) = v0 c
          ∧ r.2.mem ((c.tc : Thread Cert.SegBIdeal.nD Cert.SegBIdeal.τ).loc Cert.SegBIdeal.main_arg0) = m ((c.tc : Thread Cert.SegBIdeal.nD Cert.SegBIdeal.τ).loc Cert.SegBIdeal.main_arg0)
          ∧ r.2.mem ((c.tc : Thread Cert.SegBIdeal.nD Cert.SegBIdeal.τ).loc Cert.SegBIdeal.main_arg1) = m ((c.tc : Thread Cert.SegBIdeal.nD Cert.SegBIdeal.τ).loc Cert.SegBIdeal.main_arg1))
      ∧ θ_run (Cert.SegBRefIdeal.defs (F := Ideal)) (onTc (τ := Cert.SegBRefIdeal.τ) (Cert.SegBRefIdeal.main (F := Ideal))) ⟨m', fun _ => 0, g'⟩ (fun r => ∀ c : Dev Cert.SegBRefIdeal.nD,
          r.2.mem ((c.tc : Thread Cert.SegBRefIdeal.nD Cert.SegBRefIdeal.τ).loc Cert.SegBRefIdeal.main_v13) = v0 c
          ∧ r.2.mem ((c.tc : Thread Cert.SegBRefIdeal.nD Cert.SegBRefIdeal.τ).loc Cert.SegBRefIdeal.main_arg0) = m' ((c.tc : Thread Cert.SegBRefIdeal.nD Cert.SegBRefIdeal.τ).loc Cert.SegBRefIdeal.main_arg0)
          ∧ r.2.mem ((c.tc : Thread Cert.SegBRefIdeal.nD Cert.SegBRefIdeal.τ).loc Cert.SegBRefIdeal.main_arg1) = m' ((c.tc : Thread Cert.SegBRefIdeal.nD Cert.SegBRefIdeal.τ).loc Cert.SegBRefIdeal.main_arg1))

def preserves_BnProj_BnProjIdeal : Prop :=
  True

def algebraic_BnProjIdeal_BnProjRefIdeal [hBnProjIdeal : Cert.BnProjIdeal.Facts] [hBnProjRefIdeal : Cert.BnProjRefIdeal.Facts] [hPre_features_finite : Cert.Pre_features_finite.Facts] : Prop :=
  ∀ (m : (ℓ : Loc Cert.BnProjIdeal.nD Cert.BnProjIdeal.τ Cert.BnProjIdeal.sig) → Buf (Elt Ideal) ℓ) (g : Dev Cert.BnProjIdeal.nD → PrngReg)
    (m' : (ℓ : Loc Cert.BnProjRefIdeal.nD Cert.BnProjRefIdeal.τ Cert.BnProjRefIdeal.sig) → Buf (Elt Ideal) ℓ) (g' : Dev Cert.BnProjRefIdeal.nD → PrngReg), Pre_BnProjIdeal m →
    (∀ c : Dev Cert.BnProjIdeal.nD,
      m' ((c.tc : Thread Cert.BnProjRefIdeal.nD Cert.BnProjRefIdeal.τ).loc Cert.BnProjRefIdeal.main_arg0) = m ((c.tc : Thread Cert.BnProjIdeal.nD Cert.BnProjIdeal.τ).loc Cert.BnProjIdeal.main_arg0)
      ∧ m' ((c.tc : Thread Cert.BnProjRefIdeal.nD Cert.BnProjRefIdeal.τ).loc Cert.BnProjRefIdeal.main_arg1) = m ((c.tc : Thread Cert.BnProjIdeal.nD Cert.BnProjIdeal.τ).loc Cert.BnProjIdeal.main_arg1)
      ∧ m' ((c.tc : Thread Cert.BnProjRefIdeal.nD Cert.BnProjRefIdeal.τ).loc Cert.BnProjRefIdeal.main_arg2) = m ((c.tc : Thread Cert.BnProjIdeal.nD Cert.BnProjIdeal.τ).loc Cert.BnProjIdeal.main_arg2)
      ∧ m' ((c.tc : Thread Cert.BnProjRefIdeal.nD Cert.BnProjRefIdeal.τ).loc Cert.BnProjRefIdeal.main_arg3) = m ((c.tc : Thread Cert.BnProjIdeal.nD Cert.BnProjIdeal.τ).loc Cert.BnProjIdeal.main_arg3)
      ∧ m' ((c.tc : Thread Cert.BnProjRefIdeal.nD Cert.BnProjRefIdeal.τ).loc Cert.BnProjRefIdeal.main_arg4) = m ((c.tc : Thread Cert.BnProjIdeal.nD Cert.BnProjIdeal.τ).loc Cert.BnProjIdeal.main_arg4)
      ∧ m' ((c.tc : Thread Cert.BnProjRefIdeal.nD Cert.BnProjRefIdeal.τ).loc Cert.BnProjRefIdeal.main_arg5) = m ((c.tc : Thread Cert.BnProjIdeal.nD Cert.BnProjIdeal.τ).loc Cert.BnProjIdeal.main_arg5)
      ∧ m' ((c.tc : Thread Cert.BnProjRefIdeal.nD Cert.BnProjRefIdeal.τ).loc Cert.BnProjRefIdeal.main_arg6) = m ((c.tc : Thread Cert.BnProjIdeal.nD Cert.BnProjIdeal.τ).loc Cert.BnProjIdeal.main_arg6)
      ∧ m' ((c.tc : Thread Cert.BnProjRefIdeal.nD Cert.BnProjRefIdeal.τ).loc Cert.BnProjRefIdeal.main_arg7) = m ((c.tc : Thread Cert.BnProjIdeal.nD Cert.BnProjIdeal.τ).loc Cert.BnProjIdeal.main_arg7)
      ∧ m' ((c.tc : Thread Cert.BnProjRefIdeal.nD Cert.BnProjRefIdeal.τ).loc Cert.BnProjRefIdeal.main_arg8) = m ((c.tc : Thread Cert.BnProjIdeal.nD Cert.BnProjIdeal.τ).loc Cert.BnProjIdeal.main_arg8)
      ∧ m' ((c.tc : Thread Cert.BnProjRefIdeal.nD Cert.BnProjRefIdeal.τ).loc Cert.BnProjRefIdeal.main_arg9) = m ((c.tc : Thread Cert.BnProjIdeal.nD Cert.BnProjIdeal.τ).loc Cert.BnProjIdeal.main_arg9)
      ∧ m' ((c.tc : Thread Cert.BnProjRefIdeal.nD Cert.BnProjRefIdeal.τ).loc Cert.BnProjRefIdeal.main_arg10) = m ((c.tc : Thread Cert.BnProjIdeal.nD Cert.BnProjIdeal.τ).loc Cert.BnProjIdeal.main_arg10)) →
    ∃ (v0 : (c : Dev Cert.BnProjIdeal.nD) → Buf (Elt Ideal) ((c.tc : Thread Cert.BnProjIdeal.nD Cert.BnProjIdeal.τ).loc Cert.BnProjIdeal.main_v7_0)) (v1 : (c : Dev Cert.BnProjIdeal.nD) → Buf (Elt Ideal) ((c.tc : Thread Cert.BnProjIdeal.nD Cert.BnProjIdeal.τ).loc Cert.BnProjIdeal.main_v7_1)) (v2 : (c : Dev Cert.BnProjIdeal.nD) → Buf (Elt Ideal) ((c.tc : Thread Cert.BnProjIdeal.nD Cert.BnProjIdeal.τ).loc Cert.BnProjIdeal.main_v7_2)) (v3 : (c : Dev Cert.BnProjIdeal.nD) → Buf (Elt Ideal) ((c.tc : Thread Cert.BnProjIdeal.nD Cert.BnProjIdeal.τ).loc Cert.BnProjIdeal.main_v7_3)),
      θ_run (Cert.BnProjIdeal.defs (F := Ideal)) (onTc (τ := Cert.BnProjIdeal.τ) (Cert.BnProjIdeal.main (F := Ideal))) ⟨m, fun _ => 0, g⟩ (fun r => ∀ c : Dev Cert.BnProjIdeal.nD,
          r.2.mem ((c.tc : Thread Cert.BnProjIdeal.nD Cert.BnProjIdeal.τ).loc Cert.BnProjIdeal.main_v7_0) = v0 c
          ∧ r.2.mem ((c.tc : Thread Cert.BnProjIdeal.nD Cert.BnProjIdeal.τ).loc Cert.BnProjIdeal.main_v7_1) = v1 c
          ∧ r.2.mem ((c.tc : Thread Cert.BnProjIdeal.nD Cert.BnProjIdeal.τ).loc Cert.BnProjIdeal.main_v7_2) = v2 c
          ∧ r.2.mem ((c.tc : Thread Cert.BnProjIdeal.nD Cert.BnProjIdeal.τ).loc Cert.BnProjIdeal.main_v7_3) = v3 c
          ∧ r.2.mem ((c.tc : Thread Cert.BnProjIdeal.nD Cert.BnProjIdeal.τ).loc Cert.BnProjIdeal.main_arg0) = m ((c.tc : Thread Cert.BnProjIdeal.nD Cert.BnProjIdeal.τ).loc Cert.BnProjIdeal.main_arg0)
          ∧ r.2.mem ((c.tc : Thread Cert.BnProjIdeal.nD Cert.BnProjIdeal.τ).loc Cert.BnProjIdeal.main_arg1) = m ((c.tc : Thread Cert.BnProjIdeal.nD Cert.BnProjIdeal.τ).loc Cert.BnProjIdeal.main_arg1)
          ∧ r.2.mem ((c.tc : Thread Cert.BnProjIdeal.nD Cert.BnProjIdeal.τ).loc Cert.BnProjIdeal.main_arg2) = m ((c.tc : Thread Cert.BnProjIdeal.nD Cert.BnProjIdeal.τ).loc Cert.BnProjIdeal.main_arg2)
          ∧ r.2.mem ((c.tc : Thread Cert.BnProjIdeal.nD Cert.BnProjIdeal.τ).loc Cert.BnProjIdeal.main_arg3) = m ((c.tc : Thread Cert.BnProjIdeal.nD Cert.BnProjIdeal.τ).loc Cert.BnProjIdeal.main_arg3)
          ∧ r.2.mem ((c.tc : Thread Cert.BnProjIdeal.nD Cert.BnProjIdeal.τ).loc Cert.BnProjIdeal.main_arg4) = m ((c.tc : Thread Cert.BnProjIdeal.nD Cert.BnProjIdeal.τ).loc Cert.BnProjIdeal.main_arg4)
          ∧ r.2.mem ((c.tc : Thread Cert.BnProjIdeal.nD Cert.BnProjIdeal.τ).loc Cert.BnProjIdeal.main_arg5) = m ((c.tc : Thread Cert.BnProjIdeal.nD Cert.BnProjIdeal.τ).loc Cert.BnProjIdeal.main_arg5)
          ∧ r.2.mem ((c.tc : Thread Cert.BnProjIdeal.nD Cert.BnProjIdeal.τ).loc Cert.BnProjIdeal.main_arg6) = m ((c.tc : Thread Cert.BnProjIdeal.nD Cert.BnProjIdeal.τ).loc Cert.BnProjIdeal.main_arg6)
          ∧ r.2.mem ((c.tc : Thread Cert.BnProjIdeal.nD Cert.BnProjIdeal.τ).loc Cert.BnProjIdeal.main_arg7) = m ((c.tc : Thread Cert.BnProjIdeal.nD Cert.BnProjIdeal.τ).loc Cert.BnProjIdeal.main_arg7)
          ∧ r.2.mem ((c.tc : Thread Cert.BnProjIdeal.nD Cert.BnProjIdeal.τ).loc Cert.BnProjIdeal.main_arg8) = m ((c.tc : Thread Cert.BnProjIdeal.nD Cert.BnProjIdeal.τ).loc Cert.BnProjIdeal.main_arg8)
          ∧ r.2.mem ((c.tc : Thread Cert.BnProjIdeal.nD Cert.BnProjIdeal.τ).loc Cert.BnProjIdeal.main_arg9) = m ((c.tc : Thread Cert.BnProjIdeal.nD Cert.BnProjIdeal.τ).loc Cert.BnProjIdeal.main_arg9)
          ∧ r.2.mem ((c.tc : Thread Cert.BnProjIdeal.nD Cert.BnProjIdeal.τ).loc Cert.BnProjIdeal.main_arg10) = m ((c.tc : Thread Cert.BnProjIdeal.nD Cert.BnProjIdeal.τ).loc Cert.BnProjIdeal.main_arg10))
      ∧ θ_run (Cert.BnProjRefIdeal.defs (F := Ideal)) (onTc (τ := Cert.BnProjRefIdeal.τ) (Cert.BnProjRefIdeal.main (F := Ideal))) ⟨m', fun _ => 0, g'⟩ (fun r => ∀ c : Dev Cert.BnProjRefIdeal.nD,
          r.2.mem ((c.tc : Thread Cert.BnProjRefIdeal.nD Cert.BnProjRefIdeal.τ).loc Cert.BnProjRefIdeal.main_v28) = v0 c
          ∧ r.2.mem ((c.tc : Thread Cert.BnProjRefIdeal.nD Cert.BnProjRefIdeal.τ).loc Cert.BnProjRefIdeal.main_v32) = v1 c
          ∧ r.2.mem ((c.tc : Thread Cert.BnProjRefIdeal.nD Cert.BnProjRefIdeal.τ).loc Cert.BnProjRefIdeal.main_v36) = v2 c
          ∧ r.2.mem ((c.tc : Thread Cert.BnProjRefIdeal.nD Cert.BnProjRefIdeal.τ).loc Cert.BnProjRefIdeal.main_v40) = v3 c
          ∧ r.2.mem ((c.tc : Thread Cert.BnProjRefIdeal.nD Cert.BnProjRefIdeal.τ).loc Cert.BnProjRefIdeal.main_arg0) = m' ((c.tc : Thread Cert.BnProjRefIdeal.nD Cert.BnProjRefIdeal.τ).loc Cert.BnProjRefIdeal.main_arg0)
          ∧ r.2.mem ((c.tc : Thread Cert.BnProjRefIdeal.nD Cert.BnProjRefIdeal.τ).loc Cert.BnProjRefIdeal.main_arg1) = m' ((c.tc : Thread Cert.BnProjRefIdeal.nD Cert.BnProjRefIdeal.τ).loc Cert.BnProjRefIdeal.main_arg1)
          ∧ r.2.mem ((c.tc : Thread Cert.BnProjRefIdeal.nD Cert.BnProjRefIdeal.τ).loc Cert.BnProjRefIdeal.main_arg2) = m' ((c.tc : Thread Cert.BnProjRefIdeal.nD Cert.BnProjRefIdeal.τ).loc Cert.BnProjRefIdeal.main_arg2)
          ∧ r.2.mem ((c.tc : Thread Cert.BnProjRefIdeal.nD Cert.BnProjRefIdeal.τ).loc Cert.BnProjRefIdeal.main_arg3) = m' ((c.tc : Thread Cert.BnProjRefIdeal.nD Cert.BnProjRefIdeal.τ).loc Cert.BnProjRefIdeal.main_arg3)
          ∧ r.2.mem ((c.tc : Thread Cert.BnProjRefIdeal.nD Cert.BnProjRefIdeal.τ).loc Cert.BnProjRefIdeal.main_arg4) = m' ((c.tc : Thread Cert.BnProjRefIdeal.nD Cert.BnProjRefIdeal.τ).loc Cert.BnProjRefIdeal.main_arg4)
          ∧ r.2.mem ((c.tc : Thread Cert.BnProjRefIdeal.nD Cert.BnProjRefIdeal.τ).loc Cert.BnProjRefIdeal.main_arg5) = m' ((c.tc : Thread Cert.BnProjRefIdeal.nD Cert.BnProjRefIdeal.τ).loc Cert.BnProjRefIdeal.main_arg5)
          ∧ r.2.mem ((c.tc : Thread Cert.BnProjRefIdeal.nD Cert.BnProjRefIdeal.τ).loc Cert.BnProjRefIdeal.main_arg6) = m' ((c.tc : Thread Cert.BnProjRefIdeal.nD Cert.BnProjRefIdeal.τ).loc Cert.BnProjRefIdeal.main_arg6)
          ∧ r.2.mem ((c.tc : Thread Cert.BnProjRefIdeal.nD Cert.BnProjRefIdeal.τ).loc Cert.BnProjRefIdeal.main_arg7) = m' ((c.tc : Thread Cert.BnProjRefIdeal.nD Cert.BnProjRefIdeal.τ).loc Cert.BnProjRefIdeal.main_arg7)
          ∧ r.2.mem ((c.tc : Thread Cert.BnProjRefIdeal.nD Cert.BnProjRefIdeal.τ).loc Cert.BnProjRefIdeal.main_arg8) = m' ((c.tc : Thread Cert.BnProjRefIdeal.nD Cert.BnProjRefIdeal.τ).loc Cert.BnProjRefIdeal.main_arg8)
          ∧ r.2.mem ((c.tc : Thread Cert.BnProjRefIdeal.nD Cert.BnProjRefIdeal.τ).loc Cert.BnProjRefIdeal.main_arg9) = m' ((c.tc : Thread Cert.BnProjRefIdeal.nD Cert.BnProjRefIdeal.τ).loc Cert.BnProjRefIdeal.main_arg9)
          ∧ r.2.mem ((c.tc : Thread Cert.BnProjRefIdeal.nD Cert.BnProjRefIdeal.τ).loc Cert.BnProjRefIdeal.main_arg10) = m' ((c.tc : Thread Cert.BnProjRefIdeal.nD Cert.BnProjRefIdeal.τ).loc Cert.BnProjRefIdeal.main_arg10))

def preserves_Att1_Att1Ideal : Prop :=
  True

def algebraic_Att1Ideal_Att1RefIdeal [hAtt1Ideal : Cert.Att1Ideal.Facts] [hAtt1RefIdeal : Cert.Att1RefIdeal.Facts] [hPre_att1_in_range : Cert.Pre_att1_in_range.Facts] : Prop :=
  ∀ (m : (ℓ : Loc Cert.Att1Ideal.nD Cert.Att1Ideal.τ Cert.Att1Ideal.sig) → Buf (Elt Ideal) ℓ) (g : Dev Cert.Att1Ideal.nD → PrngReg)
    (m' : (ℓ : Loc Cert.Att1RefIdeal.nD Cert.Att1RefIdeal.τ Cert.Att1RefIdeal.sig) → Buf (Elt Ideal) ℓ) (g' : Dev Cert.Att1RefIdeal.nD → PrngReg), Pre_Att1Ideal m →
    (∀ c : Dev Cert.Att1Ideal.nD,
      m' ((c.tc : Thread Cert.Att1RefIdeal.nD Cert.Att1RefIdeal.τ).loc Cert.Att1RefIdeal.main_arg0) = m ((c.tc : Thread Cert.Att1Ideal.nD Cert.Att1Ideal.τ).loc Cert.Att1Ideal.main_arg0)
      ∧ m' ((c.tc : Thread Cert.Att1RefIdeal.nD Cert.Att1RefIdeal.τ).loc Cert.Att1RefIdeal.main_arg1) = m ((c.tc : Thread Cert.Att1Ideal.nD Cert.Att1Ideal.τ).loc Cert.Att1Ideal.main_arg1)
      ∧ m' ((c.tc : Thread Cert.Att1RefIdeal.nD Cert.Att1RefIdeal.τ).loc Cert.Att1RefIdeal.main_arg2) = m ((c.tc : Thread Cert.Att1Ideal.nD Cert.Att1Ideal.τ).loc Cert.Att1Ideal.main_arg2)
      ∧ m' ((c.tc : Thread Cert.Att1RefIdeal.nD Cert.Att1RefIdeal.τ).loc Cert.Att1RefIdeal.main_arg3) = m ((c.tc : Thread Cert.Att1Ideal.nD Cert.Att1Ideal.τ).loc Cert.Att1Ideal.main_arg3)
      ∧ m' ((c.tc : Thread Cert.Att1RefIdeal.nD Cert.Att1RefIdeal.τ).loc Cert.Att1RefIdeal.main_arg4) = m ((c.tc : Thread Cert.Att1Ideal.nD Cert.Att1Ideal.τ).loc Cert.Att1Ideal.main_arg4)
      ∧ m' ((c.tc : Thread Cert.Att1RefIdeal.nD Cert.Att1RefIdeal.τ).loc Cert.Att1RefIdeal.main_arg5) = m ((c.tc : Thread Cert.Att1Ideal.nD Cert.Att1Ideal.τ).loc Cert.Att1Ideal.main_arg5)) →
    ∃ (v0 : (c : Dev Cert.Att1Ideal.nD) → Buf (Elt Ideal) ((c.tc : Thread Cert.Att1Ideal.nD Cert.Att1Ideal.τ).loc Cert.Att1Ideal.main_v7_0)),
      θ_run (Cert.Att1Ideal.defs (F := Ideal)) (onTc (τ := Cert.Att1Ideal.τ) (Cert.Att1Ideal.main (F := Ideal))) ⟨m, fun _ => 0, g⟩ (fun r => ∀ c : Dev Cert.Att1Ideal.nD,
          r.2.mem ((c.tc : Thread Cert.Att1Ideal.nD Cert.Att1Ideal.τ).loc Cert.Att1Ideal.main_v7_0) = v0 c
          ∧ r.2.mem ((c.tc : Thread Cert.Att1Ideal.nD Cert.Att1Ideal.τ).loc Cert.Att1Ideal.main_arg0) = m ((c.tc : Thread Cert.Att1Ideal.nD Cert.Att1Ideal.τ).loc Cert.Att1Ideal.main_arg0)
          ∧ r.2.mem ((c.tc : Thread Cert.Att1Ideal.nD Cert.Att1Ideal.τ).loc Cert.Att1Ideal.main_arg1) = m ((c.tc : Thread Cert.Att1Ideal.nD Cert.Att1Ideal.τ).loc Cert.Att1Ideal.main_arg1)
          ∧ r.2.mem ((c.tc : Thread Cert.Att1Ideal.nD Cert.Att1Ideal.τ).loc Cert.Att1Ideal.main_arg2) = m ((c.tc : Thread Cert.Att1Ideal.nD Cert.Att1Ideal.τ).loc Cert.Att1Ideal.main_arg2)
          ∧ r.2.mem ((c.tc : Thread Cert.Att1Ideal.nD Cert.Att1Ideal.τ).loc Cert.Att1Ideal.main_arg3) = m ((c.tc : Thread Cert.Att1Ideal.nD Cert.Att1Ideal.τ).loc Cert.Att1Ideal.main_arg3)
          ∧ r.2.mem ((c.tc : Thread Cert.Att1Ideal.nD Cert.Att1Ideal.τ).loc Cert.Att1Ideal.main_arg4) = m ((c.tc : Thread Cert.Att1Ideal.nD Cert.Att1Ideal.τ).loc Cert.Att1Ideal.main_arg4)
          ∧ r.2.mem ((c.tc : Thread Cert.Att1Ideal.nD Cert.Att1Ideal.τ).loc Cert.Att1Ideal.main_arg5) = m ((c.tc : Thread Cert.Att1Ideal.nD Cert.Att1Ideal.τ).loc Cert.Att1Ideal.main_arg5))
      ∧ θ_run (Cert.Att1RefIdeal.defs (F := Ideal)) (onTc (τ := Cert.Att1RefIdeal.τ) (Cert.Att1RefIdeal.main (F := Ideal))) ⟨m', fun _ => 0, g'⟩ (fun r => ∀ c : Dev Cert.Att1RefIdeal.nD,
          r.2.mem ((c.tc : Thread Cert.Att1RefIdeal.nD Cert.Att1RefIdeal.τ).loc Cert.Att1RefIdeal.main_v28) = v0 c
          ∧ r.2.mem ((c.tc : Thread Cert.Att1RefIdeal.nD Cert.Att1RefIdeal.τ).loc Cert.Att1RefIdeal.main_arg0) = m' ((c.tc : Thread Cert.Att1RefIdeal.nD Cert.Att1RefIdeal.τ).loc Cert.Att1RefIdeal.main_arg0)
          ∧ r.2.mem ((c.tc : Thread Cert.Att1RefIdeal.nD Cert.Att1RefIdeal.τ).loc Cert.Att1RefIdeal.main_arg1) = m' ((c.tc : Thread Cert.Att1RefIdeal.nD Cert.Att1RefIdeal.τ).loc Cert.Att1RefIdeal.main_arg1)
          ∧ r.2.mem ((c.tc : Thread Cert.Att1RefIdeal.nD Cert.Att1RefIdeal.τ).loc Cert.Att1RefIdeal.main_arg2) = m' ((c.tc : Thread Cert.Att1RefIdeal.nD Cert.Att1RefIdeal.τ).loc Cert.Att1RefIdeal.main_arg2)
          ∧ r.2.mem ((c.tc : Thread Cert.Att1RefIdeal.nD Cert.Att1RefIdeal.τ).loc Cert.Att1RefIdeal.main_arg3) = m' ((c.tc : Thread Cert.Att1RefIdeal.nD Cert.Att1RefIdeal.τ).loc Cert.Att1RefIdeal.main_arg3)
          ∧ r.2.mem ((c.tc : Thread Cert.Att1RefIdeal.nD Cert.Att1RefIdeal.τ).loc Cert.Att1RefIdeal.main_arg4) = m' ((c.tc : Thread Cert.Att1RefIdeal.nD Cert.Att1RefIdeal.τ).loc Cert.Att1RefIdeal.main_arg4)
          ∧ r.2.mem ((c.tc : Thread Cert.Att1RefIdeal.nD Cert.Att1RefIdeal.τ).loc Cert.Att1RefIdeal.main_arg5) = m' ((c.tc : Thread Cert.Att1RefIdeal.nD Cert.Att1RefIdeal.τ).loc Cert.Att1RefIdeal.main_arg5))

def preserves_Att2_Att2Ideal : Prop :=
  True

def algebraic_Att2Ideal_Att2RefIdeal [hAtt2Ideal : Cert.Att2Ideal.Facts] [hAtt2RefIdeal : Cert.Att2RefIdeal.Facts] [hPre_att2_in_range : Cert.Pre_att2_in_range.Facts] : Prop :=
  ∀ (m : (ℓ : Loc Cert.Att2Ideal.nD Cert.Att2Ideal.τ Cert.Att2Ideal.sig) → Buf (Elt Ideal) ℓ) (g : Dev Cert.Att2Ideal.nD → PrngReg)
    (m' : (ℓ : Loc Cert.Att2RefIdeal.nD Cert.Att2RefIdeal.τ Cert.Att2RefIdeal.sig) → Buf (Elt Ideal) ℓ) (g' : Dev Cert.Att2RefIdeal.nD → PrngReg), Pre_Att2Ideal m →
    (∀ c : Dev Cert.Att2Ideal.nD,
      m' ((c.tc : Thread Cert.Att2RefIdeal.nD Cert.Att2RefIdeal.τ).loc Cert.Att2RefIdeal.main_arg0) = m ((c.tc : Thread Cert.Att2Ideal.nD Cert.Att2Ideal.τ).loc Cert.Att2Ideal.main_arg0)
      ∧ m' ((c.tc : Thread Cert.Att2RefIdeal.nD Cert.Att2RefIdeal.τ).loc Cert.Att2RefIdeal.main_arg1) = m ((c.tc : Thread Cert.Att2Ideal.nD Cert.Att2Ideal.τ).loc Cert.Att2Ideal.main_arg1)
      ∧ m' ((c.tc : Thread Cert.Att2RefIdeal.nD Cert.Att2RefIdeal.τ).loc Cert.Att2RefIdeal.main_arg2) = m ((c.tc : Thread Cert.Att2Ideal.nD Cert.Att2Ideal.τ).loc Cert.Att2Ideal.main_arg2)) →
    ∃ (v0 : (c : Dev Cert.Att2Ideal.nD) → Buf (Elt Ideal) ((c.tc : Thread Cert.Att2Ideal.nD Cert.Att2Ideal.τ).loc Cert.Att2Ideal.main_v3_0)) (v1 : (c : Dev Cert.Att2Ideal.nD) → Buf (Elt Ideal) ((c.tc : Thread Cert.Att2Ideal.nD Cert.Att2Ideal.τ).loc Cert.Att2Ideal.main_v3_1)),
      θ_run (Cert.Att2Ideal.defs (F := Ideal)) (onTc (τ := Cert.Att2Ideal.τ) (Cert.Att2Ideal.main (F := Ideal))) ⟨m, fun _ => 0, g⟩ (fun r => ∀ c : Dev Cert.Att2Ideal.nD,
          r.2.mem ((c.tc : Thread Cert.Att2Ideal.nD Cert.Att2Ideal.τ).loc Cert.Att2Ideal.main_v3_0) = v0 c
          ∧ r.2.mem ((c.tc : Thread Cert.Att2Ideal.nD Cert.Att2Ideal.τ).loc Cert.Att2Ideal.main_v3_1) = v1 c
          ∧ r.2.mem ((c.tc : Thread Cert.Att2Ideal.nD Cert.Att2Ideal.τ).loc Cert.Att2Ideal.main_arg0) = m ((c.tc : Thread Cert.Att2Ideal.nD Cert.Att2Ideal.τ).loc Cert.Att2Ideal.main_arg0)
          ∧ r.2.mem ((c.tc : Thread Cert.Att2Ideal.nD Cert.Att2Ideal.τ).loc Cert.Att2Ideal.main_arg1) = m ((c.tc : Thread Cert.Att2Ideal.nD Cert.Att2Ideal.τ).loc Cert.Att2Ideal.main_arg1)
          ∧ r.2.mem ((c.tc : Thread Cert.Att2Ideal.nD Cert.Att2Ideal.τ).loc Cert.Att2Ideal.main_arg2) = m ((c.tc : Thread Cert.Att2Ideal.nD Cert.Att2Ideal.τ).loc Cert.Att2Ideal.main_arg2))
      ∧ θ_run (Cert.Att2RefIdeal.defs (F := Ideal)) (onTc (τ := Cert.Att2RefIdeal.τ) (Cert.Att2RefIdeal.main (F := Ideal))) ⟨m', fun _ => 0, g'⟩ (fun r => ∀ c : Dev Cert.Att2RefIdeal.nD,
          r.2.mem ((c.tc : Thread Cert.Att2RefIdeal.nD Cert.Att2RefIdeal.τ).loc Cert.Att2RefIdeal.main_v16) = v0 c
          ∧ r.2.mem ((c.tc : Thread Cert.Att2RefIdeal.nD Cert.Att2RefIdeal.τ).loc Cert.Att2RefIdeal.main_v17) = v1 c
          ∧ r.2.mem ((c.tc : Thread Cert.Att2RefIdeal.nD Cert.Att2RefIdeal.τ).loc Cert.Att2RefIdeal.main_arg0) = m' ((c.tc : Thread Cert.Att2RefIdeal.nD Cert.Att2RefIdeal.τ).loc Cert.Att2RefIdeal.main_arg0)
          ∧ r.2.mem ((c.tc : Thread Cert.Att2RefIdeal.nD Cert.Att2RefIdeal.τ).loc Cert.Att2RefIdeal.main_arg1) = m' ((c.tc : Thread Cert.Att2RefIdeal.nD Cert.Att2RefIdeal.τ).loc Cert.Att2RefIdeal.main_arg1)
          ∧ r.2.mem ((c.tc : Thread Cert.Att2RefIdeal.nD Cert.Att2RefIdeal.τ).loc Cert.Att2RefIdeal.main_arg2) = m' ((c.tc : Thread Cert.Att2RefIdeal.nD Cert.Att2RefIdeal.τ).loc Cert.Att2RefIdeal.main_arg2))

def preserves_Mean_MeanIdeal : Prop :=
  True

def algebraic_MeanIdeal_MeanRefIdeal [hMeanIdeal : Cert.MeanIdeal.Facts] [hMeanRefIdeal : Cert.MeanRefIdeal.Facts] : Prop :=
  ∀ (m : (ℓ : Loc Cert.MeanIdeal.nD Cert.MeanIdeal.τ Cert.MeanIdeal.sig) → Buf (Elt Ideal) ℓ) (g : Dev Cert.MeanIdeal.nD → PrngReg)
    (m' : (ℓ : Loc Cert.MeanRefIdeal.nD Cert.MeanRefIdeal.τ Cert.MeanRefIdeal.sig) → Buf (Elt Ideal) ℓ) (g' : Dev Cert.MeanRefIdeal.nD → PrngReg), Pre_MeanIdeal m →
    (∀ c : Dev Cert.MeanIdeal.nD,
      m' ((c.tc : Thread Cert.MeanRefIdeal.nD Cert.MeanRefIdeal.τ).loc Cert.MeanRefIdeal.main_arg0) = m ((c.tc : Thread Cert.MeanIdeal.nD Cert.MeanIdeal.τ).loc Cert.MeanIdeal.main_arg0)
      ∧ m' ((c.tc : Thread Cert.MeanRefIdeal.nD Cert.MeanRefIdeal.τ).loc Cert.MeanRefIdeal.main_arg1) = m ((c.tc : Thread Cert.MeanIdeal.nD Cert.MeanIdeal.τ).loc Cert.MeanIdeal.main_arg1)) →
    ∃ (v0 : (c : Dev Cert.MeanIdeal.nD) → Buf (Elt Ideal) ((c.tc : Thread Cert.MeanIdeal.nD Cert.MeanIdeal.τ).loc Cert.MeanIdeal.main_v0_0)),
      θ_run (Cert.MeanIdeal.defs (F := Ideal)) (onTc (τ := Cert.MeanIdeal.τ) (Cert.MeanIdeal.main (F := Ideal))) ⟨m, fun _ => 0, g⟩ (fun r => ∀ c : Dev Cert.MeanIdeal.nD,
          r.2.mem ((c.tc : Thread Cert.MeanIdeal.nD Cert.MeanIdeal.τ).loc Cert.MeanIdeal.main_v0_0) = v0 c
          ∧ r.2.mem ((c.tc : Thread Cert.MeanIdeal.nD Cert.MeanIdeal.τ).loc Cert.MeanIdeal.main_arg0) = m ((c.tc : Thread Cert.MeanIdeal.nD Cert.MeanIdeal.τ).loc Cert.MeanIdeal.main_arg0)
          ∧ r.2.mem ((c.tc : Thread Cert.MeanIdeal.nD Cert.MeanIdeal.τ).loc Cert.MeanIdeal.main_arg1) = m ((c.tc : Thread Cert.MeanIdeal.nD Cert.MeanIdeal.τ).loc Cert.MeanIdeal.main_arg1))
      ∧ θ_run (Cert.MeanRefIdeal.defs (F := Ideal)) (onTc (τ := Cert.MeanRefIdeal.τ) (Cert.MeanRefIdeal.main (F := Ideal))) ⟨m', fun _ => 0, g'⟩ (fun r => ∀ c : Dev Cert.MeanRefIdeal.nD,
          r.2.mem ((c.tc : Thread Cert.MeanRefIdeal.nD Cert.MeanRefIdeal.τ).loc Cert.MeanRefIdeal.main_v2) = v0 c
          ∧ r.2.mem ((c.tc : Thread Cert.MeanRefIdeal.nD Cert.MeanRefIdeal.τ).loc Cert.MeanRefIdeal.main_arg0) = m' ((c.tc : Thread Cert.MeanRefIdeal.nD Cert.MeanRefIdeal.τ).loc Cert.MeanRefIdeal.main_arg0)
          ∧ r.2.mem ((c.tc : Thread Cert.MeanRefIdeal.nD Cert.MeanRefIdeal.τ).loc Cert.MeanRefIdeal.main_arg1) = m' ((c.tc : Thread Cert.MeanRefIdeal.nD Cert.MeanRefIdeal.τ).loc Cert.MeanRefIdeal.main_arg1))

def Claim : Prop :=
  ∃ (hGruA : Cert.GruA.Facts) (hGruAIdeal : Cert.GruAIdeal.Facts) (hGruARefIdeal : Cert.GruARefIdeal.Facts) (hGruB : Cert.GruB.Facts) (hGruBIdeal : Cert.GruBIdeal.Facts) (hGruBRefIdeal : Cert.GruBRefIdeal.Facts) (hMatA : Cert.MatA.Facts) (hMatAIdeal : Cert.MatAIdeal.Facts) (hMatARefIdeal : Cert.MatARefIdeal.Facts) (hMatB : Cert.MatB.Facts) (hMatBIdeal : Cert.MatBIdeal.Facts) (hMatBRefIdeal : Cert.MatBRefIdeal.Facts) (hAddMat : Cert.AddMat.Facts) (hAddMatIdeal : Cert.AddMatIdeal.Facts) (hAddMatRefIdeal : Cert.AddMatRefIdeal.Facts) (hPairHead : Cert.PairHead.Facts) (hPairHeadIdeal : Cert.PairHeadIdeal.Facts) (hPairHeadRefIdeal : Cert.PairHeadRefIdeal.Facts) (hSegA : Cert.SegA.Facts) (hSegAIdeal : Cert.SegAIdeal.Facts) (hSegARefIdeal : Cert.SegARefIdeal.Facts) (hSegB : Cert.SegB.Facts) (hSegBIdeal : Cert.SegBIdeal.Facts) (hSegBRefIdeal : Cert.SegBRefIdeal.Facts) (hBnProj : Cert.BnProj.Facts) (hBnProjIdeal : Cert.BnProjIdeal.Facts) (hBnProjRefIdeal : Cert.BnProjRefIdeal.Facts) (hAtt1 : Cert.Att1.Facts) (hAtt1Ideal : Cert.Att1Ideal.Facts) (hAtt1RefIdeal : Cert.Att1RefIdeal.Facts) (hAtt2 : Cert.Att2.Facts) (hAtt2Ideal : Cert.Att2Ideal.Facts) (hAtt2RefIdeal : Cert.Att2RefIdeal.Facts) (hMean : Cert.Mean.Facts) (hMeanIdeal : Cert.MeanIdeal.Facts) (hMeanRefIdeal : Cert.MeanRefIdeal.Facts) (hPre_pairs_in_range : Cert.Pre_pairs_in_range.Facts) (hPre_inner_in_range : Cert.Pre_inner_in_range.Facts) (hPre_edges_in_range : Cert.Pre_edges_in_range.Facts) (hPre_features_finite : Cert.Pre_features_finite.Facts) (hPre_att1_in_range : Cert.Pre_att1_in_range.Facts) (hPre_att2_in_range : Cert.Pre_att2_in_range.Facts),
    quiescent_GruA (hGruA := hGruA)
    ∧ quiescent_GruAIdeal (hGruAIdeal := hGruAIdeal)
    ∧ quiescent_GruARefIdeal (hGruARefIdeal := hGruARefIdeal)
    ∧ quiescent_GruB (hGruB := hGruB)
    ∧ quiescent_GruBIdeal (hGruBIdeal := hGruBIdeal)
    ∧ quiescent_GruBRefIdeal (hGruBRefIdeal := hGruBRefIdeal)
    ∧ quiescent_MatA (hMatA := hMatA)
    ∧ quiescent_MatAIdeal (hMatAIdeal := hMatAIdeal)
    ∧ quiescent_MatARefIdeal (hMatARefIdeal := hMatARefIdeal)
    ∧ quiescent_MatB (hMatB := hMatB)
    ∧ quiescent_MatBIdeal (hMatBIdeal := hMatBIdeal)
    ∧ quiescent_MatBRefIdeal (hMatBRefIdeal := hMatBRefIdeal)
    ∧ quiescent_AddMat (hAddMat := hAddMat)
    ∧ quiescent_AddMatIdeal (hAddMatIdeal := hAddMatIdeal)
    ∧ quiescent_AddMatRefIdeal (hAddMatRefIdeal := hAddMatRefIdeal)
    ∧ quiescent_PairHead (hPairHead := hPairHead) (hPre_pairs_in_range := hPre_pairs_in_range)
    ∧ quiescent_PairHeadIdeal (hPairHeadIdeal := hPairHeadIdeal) (hPre_pairs_in_range := hPre_pairs_in_range)
    ∧ quiescent_PairHeadRefIdeal (hPairHeadRefIdeal := hPairHeadRefIdeal) (hPre_pairs_in_range := hPre_pairs_in_range)
    ∧ quiescent_SegA (hSegA := hSegA) (hPre_inner_in_range := hPre_inner_in_range)
    ∧ quiescent_SegAIdeal (hSegAIdeal := hSegAIdeal) (hPre_inner_in_range := hPre_inner_in_range)
    ∧ quiescent_SegARefIdeal (hSegARefIdeal := hSegARefIdeal) (hPre_inner_in_range := hPre_inner_in_range)
    ∧ quiescent_SegB (hSegB := hSegB) (hPre_edges_in_range := hPre_edges_in_range)
    ∧ quiescent_SegBIdeal (hSegBIdeal := hSegBIdeal) (hPre_edges_in_range := hPre_edges_in_range)
    ∧ quiescent_SegBRefIdeal (hSegBRefIdeal := hSegBRefIdeal) (hPre_edges_in_range := hPre_edges_in_range)
    ∧ quiescent_BnProj (hBnProj := hBnProj) (hPre_features_finite := hPre_features_finite)
    ∧ quiescent_BnProjIdeal (hBnProjIdeal := hBnProjIdeal) (hPre_features_finite := hPre_features_finite)
    ∧ quiescent_BnProjRefIdeal (hBnProjRefIdeal := hBnProjRefIdeal) (hPre_features_finite := hPre_features_finite)
    ∧ quiescent_Att1 (hAtt1 := hAtt1) (hPre_att1_in_range := hPre_att1_in_range)
    ∧ quiescent_Att1Ideal (hAtt1Ideal := hAtt1Ideal) (hPre_att1_in_range := hPre_att1_in_range)
    ∧ quiescent_Att1RefIdeal (hAtt1RefIdeal := hAtt1RefIdeal) (hPre_att1_in_range := hPre_att1_in_range)
    ∧ quiescent_Att2 (hAtt2 := hAtt2) (hPre_att2_in_range := hPre_att2_in_range)
    ∧ quiescent_Att2Ideal (hAtt2Ideal := hAtt2Ideal) (hPre_att2_in_range := hPre_att2_in_range)
    ∧ quiescent_Att2RefIdeal (hAtt2RefIdeal := hAtt2RefIdeal) (hPre_att2_in_range := hPre_att2_in_range)
    ∧ quiescent_Mean (hMean := hMean)
    ∧ quiescent_MeanIdeal (hMeanIdeal := hMeanIdeal)
    ∧ quiescent_MeanRefIdeal (hMeanRefIdeal := hMeanRefIdeal)
    ∧ preserves_GruA_GruAIdeal
    ∧ algebraic_GruAIdeal_GruARefIdeal (hGruAIdeal := hGruAIdeal) (hGruARefIdeal := hGruARefIdeal)
    ∧ preserves_GruB_GruBIdeal
    ∧ algebraic_GruBIdeal_GruBRefIdeal (hGruBIdeal := hGruBIdeal) (hGruBRefIdeal := hGruBRefIdeal)
    ∧ preserves_MatA_MatAIdeal
    ∧ algebraic_MatAIdeal_MatARefIdeal (hMatAIdeal := hMatAIdeal) (hMatARefIdeal := hMatARefIdeal)
    ∧ preserves_MatB_MatBIdeal
    ∧ algebraic_MatBIdeal_MatBRefIdeal (hMatBIdeal := hMatBIdeal) (hMatBRefIdeal := hMatBRefIdeal)
    ∧ preserves_AddMat_AddMatIdeal
    ∧ algebraic_AddMatIdeal_AddMatRefIdeal (hAddMatIdeal := hAddMatIdeal) (hAddMatRefIdeal := hAddMatRefIdeal)
    ∧ preserves_PairHead_PairHeadIdeal
    ∧ algebraic_PairHeadIdeal_PairHeadRefIdeal (hPairHeadIdeal := hPairHeadIdeal) (hPairHeadRefIdeal := hPairHeadRefIdeal) (hPre_pairs_in_range := hPre_pairs_in_range)
    ∧ preserves_SegA_SegAIdeal
    ∧ algebraic_SegAIdeal_SegARefIdeal (hSegAIdeal := hSegAIdeal) (hSegARefIdeal := hSegARefIdeal) (hPre_inner_in_range := hPre_inner_in_range)
    ∧ preserves_SegB_SegBIdeal
    ∧ algebraic_SegBIdeal_SegBRefIdeal (hSegBIdeal := hSegBIdeal) (hSegBRefIdeal := hSegBRefIdeal) (hPre_edges_in_range := hPre_edges_in_range)
    ∧ preserves_BnProj_BnProjIdeal
    ∧ algebraic_BnProjIdeal_BnProjRefIdeal (hBnProjIdeal := hBnProjIdeal) (hBnProjRefIdeal := hBnProjRefIdeal) (hPre_features_finite := hPre_features_finite)
    ∧ preserves_Att1_Att1Ideal
    ∧ algebraic_Att1Ideal_Att1RefIdeal (hAtt1Ideal := hAtt1Ideal) (hAtt1RefIdeal := hAtt1RefIdeal) (hPre_att1_in_range := hPre_att1_in_range)
    ∧ preserves_Att2_Att2Ideal
    ∧ algebraic_Att2Ideal_Att2RefIdeal (hAtt2Ideal := hAtt2Ideal) (hAtt2RefIdeal := hAtt2RefIdeal) (hPre_att2_in_range := hPre_att2_in_range)
    ∧ preserves_Mean_MeanIdeal
    ∧ algebraic_MeanIdeal_MeanRefIdeal (hMeanIdeal := hMeanIdeal) (hMeanRefIdeal := hMeanRefIdeal)
-- ==== Pre_att1_in_range.lean ====
abbrev S50000x128 : Shape := ⟨2, ![50000, 128]⟩
abbrev S800000x5 : Shape := ⟨2, ![800000, 5]⟩
abbrev S2x800000 : Shape := ⟨2, ![2, 800000]⟩
abbrev S5x128 : Shape := ⟨2, ![5, 128]⟩
abbrev S128 : Shape := ⟨1, ![128]⟩
abbrev S_ : Shape := ⟨0, ![]⟩

class Facts : Prop where
  bcast_S_S2x800000 : S_.BroadcastsInDim S2x800000 (![] : Fin 0 → Fin S2x800000.rank)

variable [Facts]

def fn {F : FTy → Type} [FloatOps F] (main_arg0 : FVec F S50000x128 .f32) (main_arg1 : FVec F S50000x128 .f32) (main_arg2 : FVec F S800000x5 .f32) (main_arg3 : IVec S2x800000 32) (main_arg4 : FVec F S5x128 .f32) (main_arg5 : FVec F S128 .f32) : IVec S2x800000 1 :=
  let main_c : IVec S_ 32 := constantI S_ 32 0#32
  let main_v0 : IVec S2x800000 32 := broadcastInDim S2x800000 ![] bcast_S_S2x800000 main_c
  let main_v1 : IVec S2x800000 1 := cmpi .sge main_arg3 main_v0
  let main_c_0 : IVec S_ 32 := constantI S_ 32 50000#32
  let main_v2 : IVec S2x800000 32 := broadcastInDim S2x800000 ![] bcast_S_S2x800000 main_c_0
  let main_v3 : IVec S2x800000 1 := cmpi .slt main_arg3 main_v2
  let main_v4 : IVec S2x800000 1 := andi main_v1 main_v3
  main_v4
-- ==== Pre_att2_in_range.lean ====
abbrev S800000x1 : Shape := ⟨2, ![800000, 1]⟩
abbrev S392x128 : Shape := ⟨2, ![392, 128]⟩
abbrev S2x800000 : Shape := ⟨2, ![2, 800000]⟩
abbrev S_ : Shape := ⟨0, ![]⟩

class Facts : Prop where
  bcast_S_S2x800000 : S_.BroadcastsInDim S2x800000 (![] : Fin 0 → Fin S2x800000.rank)

variable [Facts]

def fn {F : FTy → Type} [FloatOps F] (main_arg0 : FVec F S800000x1 .f32) (main_arg1 : FVec F S392x128 .f32) (main_arg2 : IVec S2x800000 32) : IVec S2x800000 1 :=
  let main_c : IVec S_ 32 := constantI S_ 32 0#32
  let main_v0 : IVec S2x800000 32 := broadcastInDim S2x800000 ![] bcast_S_S2x800000 main_c
  let main_v1 : IVec S2x800000 1 := cmpi .sge main_arg2 main_v0
  let main_c_0 : IVec S_ 32 := constantI S_ 32 50000#32
  let main_v2 : IVec S2x800000 32 := broadcastInDim S2x800000 ![] bcast_S_S2x800000 main_c_0
  let main_v3 : IVec S2x800000 1 := cmpi .slt main_arg2 main_v2
  let main_v4 : IVec S2x800000 1 := andi main_v1 main_v3
  main_v4
-- ==== Pre_edges_in_range.lean ====
abbrev S10000x128 : Shape := ⟨2, ![10000, 128]⟩
abbrev S2x160000 : Shape := ⟨2, ![2, 160000]⟩
abbrev S_ : Shape := ⟨0, ![]⟩

class Facts : Prop where
  bcast_S_S2x160000 : S_.BroadcastsInDim S2x160000 (![] : Fin 0 → Fin S2x160000.rank)

variable [Facts]

def fn {F : FTy → Type} [FloatOps F] (main_arg0 : FVec F S10000x128 .f32) (main_arg1 : IVec S2x160000 32) : IVec S2x160000 1 :=
  let main_c : IVec S_ 32 := constantI S_ 32 0#32
  let main_v0 : IVec S2x160000 32 := broadcastInDim S2x160000 ![] bcast_S_S2x160000 main_c
  let main_v1 : IVec S2x160000 1 := cmpi .sge main_arg1 main_v0
  let main_c_0 : IVec S_ 32 := constantI S_ 32 10000#32
  let main_v2 : IVec S2x160000 32 := broadcastInDim S2x160000 ![] bcast_S_S2x160000 main_c_0
  let main_v3 : IVec S2x160000 1 := cmpi .slt main_arg1 main_v2
  let main_v4 : IVec S2x160000 1 := andi main_v1 main_v3
  main_v4
-- ==== Pre_features_finite.lean ====
abbrev S50000x42 : Shape := ⟨2, ![50000, 42]⟩
abbrev S42 : Shape := ⟨1, ![42]⟩
abbrev S42x128 : Shape := ⟨2, ![42, 128]⟩
abbrev S128 : Shape := ⟨1, ![128]⟩
abbrev S_ : Shape := ⟨0, ![]⟩

class Facts : Prop where
  bcast_S_S50000x42 : S_.BroadcastsInDim S50000x42 (![] : Fin 0 → Fin S50000x42.rank)

variable [Facts]

def fn {F : FTy → Type} [FloatOps F] (main_arg0 : FVec F S50000x42 .f32) (main_arg1 : FVec F S42 .f32) (main_arg2 : FVec F S42 .f32) (main_arg3 : FVec F S42x128 .f32) (main_arg4 : FVec F S128 .f32) (main_arg5 : FVec F S42x128 .f32) (main_arg6 : FVec F S128 .f32) (main_arg7 : FVec F S42x128 .f32) (main_arg8 : FVec F S128 .f32) (main_arg9 : FVec F S42x128 .f32) (main_arg10 : FVec F S128 .f32) : IVec S50000x42 1 :=
  let main_v0 : FVec F S50000x42 .f32 := Host.absf main_arg0
  let main_cst : FVec F S_ .f32 := constant S_ .f32 0x7F800000#32
  let main_v1 : FVec F S50000x42 .f32 := broadcastInDim S50000x42 ![] bcast_S_S50000x42 main_cst
  let main_v2 : IVec S50000x42 1 := cmpf .olt main_v0 main_v1
  main_v2
-- ==== Pre_inner_in_range.lean ====
abbrev S50000x128 : Shape := ⟨2, ![50000, 128]⟩
abbrev S2x800000 : Shape := ⟨2, ![2, 800000]⟩
abbrev S_ : Shape := ⟨0, ![]⟩

class Facts : Prop where
  bcast_S_S2x800000 : S_.BroadcastsInDim S2x800000 (![] : Fin 0 → Fin S2x800000.rank)

variable [Facts]

def fn {F : FTy → Type} [FloatOps F] (main_arg0 : FVec F S50000x128 .f32) (main_arg1 : IVec S2x800000 32) : IVec S2x800000 1 :=
  let main_c : IVec S_ 32 := constantI S_ 32 0#32
  let main_v0 : IVec S2x800000 32 := broadcastInDim S2x800000 ![] bcast_S_S2x800000 main_c
  let main_v1 : IVec S2x800000 1 := cmpi .sge main_arg1 main_v0
  let main_c_0 : IVec S_ 32 := constantI S_ 32 50000#32
  let main_v2 : IVec S2x800000 32 := broadcastInDim S2x800000 ![] bcast_S_S2x800000 main_c_0
  let main_v3 : IVec S2x800000 1 := cmpi .slt main_arg1 main_v2
  let main_v4 : IVec S2x800000 1 := andi main_v1 main_v3
  main_v4
-- ==== Pre_pairs_in_range.lean ====
abbrev S10000x128 : Shape := ⟨2, ![10000, 128]⟩
abbrev S2x160000 : Shape := ⟨2, ![2, 160000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S2x160000 : S_.BroadcastsInDim S2x160000 (![] : Fin 0 → Fin S2x160000.rank)

variable [Facts]

def fn {F : FTy → Type} [FloatOps F] (main_arg0 : FVec F S10000x128 .f32) (main_arg1 : IVec S2x160000 32) (main_arg2 : FVec F S256x128 .f32) (main_arg3 : FVec F S128 .f32) (main_arg4 : FVec F S128x1 .f32) (main_arg5 : FVec F S1 .f32) : IVec S2x160000 1 :=
  let main_c : IVec S_ 32 := constantI S_ 32 0#32
  let main_v0 : IVec S2x160000 32 := broadcastInDim S2x160000 ![] bcast_S_S2x160000 main_c
  let main_v1 : IVec S2x160000 1 := cmpi .sge main_arg1 main_v0
  let main_c_0 : IVec S_ 32 := constantI S_ 32 10000#32
  let main_v2 : IVec S2x160000 32 := broadcastInDim S2x160000 ![] bcast_S_S2x160000 main_c_0
  let main_v3 : IVec S2x160000 1 := cmpi .slt main_arg1 main_v2
  let main_v4 : IVec S2x160000 1 := andi main_v1 main_v3
  main_v4
-- ==== GruA.lean ====
abbrev S50000x128 : Shape := ⟨2, ![50000, 128]⟩
abbrev S384x128 : Shape := ⟨2, ![384, 128]⟩
abbrev S384 : Shape := ⟨1, ![384]⟩
abbrev S128x384 : Shape := ⟨2, ![128, 384]⟩
abbrev S1x384 : Shape := ⟨2, ![1, 384]⟩
abbrev S1000x128 : Shape := ⟨2, ![1000, 128]⟩
abbrev S1000x384 : Shape := ⟨2, ![1000, 384]⟩

abbrev nBuf : Space → Nat
  | .hbm => 11
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S384x128, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S128x384, .f32⟩
  | .hbm, ⟨7, _⟩ => ⟨S128x384, .f32⟩
  | .hbm, ⟨8, _⟩ => ⟨S1x384, .f32⟩
  | .hbm, ⟨9, _⟩ => ⟨S1x384, .f32⟩
  | .hbm, ⟨10, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x384, .f32⟩
  | .local _ .vmem, ⟨5, _⟩ => ⟨S128x384, .f32⟩
  | .local _ .vmem, ⟨6, _⟩ => ⟨S1x384, .f32⟩
  | .local _ .vmem, ⟨7, _⟩ => ⟨S1x384, .f32⟩
  | .local _ .vmem, ⟨8, _⟩ => ⟨S1000x128, .f32⟩
  | .local _ .vmem, ⟨9, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GruAIdeal.lean ====
abbrev S50000x128 : Shape := ⟨2, ![50000, 128]⟩
abbrev S384x128 : Shape := ⟨2, ![384, 128]⟩
abbrev S384 : Shape := ⟨1, ![384]⟩
abbrev S128x384 : Shape := ⟨2, ![128, 384]⟩
abbrev S1x384 : Shape := ⟨2, ![1, 384]⟩
abbrev S1000x128 : Shape := ⟨2, ![1000, 128]⟩
abbrev S1000x384 : Shape := ⟨2, ![1000, 384]⟩

abbrev nBuf : Space → Nat
  | .hbm => 11
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S384x128, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S128x384, .f32⟩
  | .hbm, ⟨7, _⟩ => ⟨S128x384, .f32⟩
  | .hbm, ⟨8, _⟩ => ⟨S1x384, .f32⟩
  | .hbm, ⟨9, _⟩ => ⟨S1x384, .f32⟩
  | .hbm, ⟨10, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x384, .f32⟩
  | .local _ .vmem, ⟨5, _⟩ => ⟨S128x384, .f32⟩
  | .local _ .vmem, ⟨6, _⟩ => ⟨S1x384, .f32⟩
  | .local _ .vmem, ⟨7, _⟩ => ⟨S1x384, .f32⟩
  | .local _ .vmem, ⟨8, _⟩ => ⟨S1000x128, .f32⟩
  | .local _ .vmem, ⟨9, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GruARefIdeal.lean ====
abbrev S50000x128 : Shape := ⟨2, ![50000, 128]⟩
abbrev S384x128 : Shape := ⟨2, ![384, 128]⟩
abbrev S384 : Shape := ⟨1, ![384]⟩
abbrev S128x384 : Shape := ⟨2, ![128, 384]⟩
abbrev S50000x384 : Shape := ⟨2, ![50000, 384]⟩
abbrev S1x384 : Shape := ⟨2, ![1, 384]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S384x128, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S128x384, .f32⟩
  | .hbm, ⟨7, _⟩ => ⟨S50000x384, .f32⟩
  | .hbm, ⟨8, _⟩ => ⟨S1x384, .f32⟩
  | .hbm, ⟨9, _⟩ => ⟨S50000x384, .f32⟩
  | .hbm, ⟨10, _⟩ => ⟨S50000x384, .f32⟩
  | .hbm, ⟨11, _⟩ => ⟨S128x384, .f32⟩
  | .hbm, ⟨12, _⟩ => ⟨S50000x384, .f32⟩
  | .hbm, ⟨13, _⟩ => ⟨S1x384, .f32⟩
  | .hbm, ⟨14, _⟩ => ⟨S50000x384, .f32⟩
  | .hbm, ⟨15, _⟩ => ⟨S50000x384, .f32⟩
  | .hbm, ⟨16, _⟩ => ⟨S50000x128, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S50000x128, .f32⟩
  | .hbm, ⟨25, _⟩ => ⟨S_, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== GruB.lean ====
abbrev S10000x128 : Shape := ⟨2, ![10000, 128]⟩
abbrev S384x128 : Shape := ⟨2, ![384, 128]⟩
abbrev S384 : Shape := ⟨1, ![384]⟩
abbrev S128x384 : Shape := ⟨2, ![128, 384]⟩
abbrev S1x384 : Shape := ⟨2, ![1, 384]⟩
abbrev S1000x128 : Shape := ⟨2, ![1000, 128]⟩
abbrev S1000x384 : Shape := ⟨2, ![1000, 384]⟩

abbrev nBuf : Space → Nat
  | .hbm => 11
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S384x128, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S128x384, .f32⟩
  | .hbm, ⟨7, _⟩ => ⟨S128x384, .f32⟩
  | .hbm, ⟨8, _⟩ => ⟨S1x384, .f32⟩
  | .hbm, ⟨9, _⟩ => ⟨S1x384, .f32⟩
  | .hbm, ⟨10, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x384, .f32⟩
  | .local _ .vmem, ⟨5, _⟩ => ⟨S128x384, .f32⟩
  | .local _ .vmem, ⟨6, _⟩ => ⟨S1x384, .f32⟩
  | .local _ .vmem, ⟨7, _⟩ => ⟨S1x384, .f32⟩
  | .local _ .vmem, ⟨8, _⟩ => ⟨S1000x128, .f32⟩
  | .local _ .vmem, ⟨9, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GruBRefIdeal.lean ====
abbrev S10000x128 : Shape := ⟨2, ![10000, 128]⟩
abbrev S384x128 : Shape := ⟨2, ![384, 128]⟩
abbrev S384 : Shape := ⟨1, ![384]⟩
abbrev S128x384 : Shape := ⟨2, ![128, 384]⟩
abbrev S10000x384 : Shape := ⟨2, ![10000, 384]⟩
abbrev S1x384 : Shape := ⟨2, ![1, 384]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S384x128, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S128x384, .f32⟩
  | .hbm, ⟨7, _⟩ => ⟨S10000x384, .f32⟩
  | .hbm, ⟨8, _⟩ => ⟨S1x384, .f32⟩
  | .hbm, ⟨9, _⟩ => ⟨S10000x384, .f32⟩
  | .hbm, ⟨10, _⟩ => ⟨S10000x384, .f32⟩
  | .hbm, ⟨11, _⟩ => ⟨S128x384, .f32⟩
  | .hbm, ⟨12, _⟩ => ⟨S10000x384, .f32⟩
  | .hbm, ⟨13, _⟩ => ⟨S1x384, .f32⟩
  | .hbm, ⟨14, _⟩ => ⟨S10000x384, .f32⟩
  | .hbm, ⟨15, _⟩ => ⟨S10000x384, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S_, .f32⟩
  | .hbm, ⟨35, _⟩ => ⟨S10000x128, .f32⟩
  | .hbm, ⟨36, _⟩ => ⟨S10000x128, .f32⟩
  | .hbm, ⟨37, _⟩ => ⟨S_, .f32⟩
  | .hbm, ⟨38, _⟩ => ⟨S10000x128, .f32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S10000x128, .f32⟩
  | .hbm, ⟨48, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== MatA.lean ====
abbrev S50000x128 : Shape := ⟨2, ![50000, 128]⟩
abbrev S128x128 : Shape := ⟨2, ![128, 128]⟩
abbrev S1000x128 : Shape := ⟨2, ![1000, 128]⟩

abbrev nBuf : Space → Nat
  | .hbm => 3
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MatAIdeal.lean ====
abbrev S50000x128 : Shape := ⟨2, ![50000, 128]⟩
abbrev S128x128 : Shape := ⟨2, ![128, 128]⟩
abbrev S1000x128 : Shape := ⟨2, ![1000, 128]⟩

abbrev nBuf : Space → Nat
  | .hbm => 3
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MatARefIdeal.lean ====
abbrev S50000x128 : Shape := ⟨2, ![50000, 128]⟩
abbrev S128x128 : Shape := ⟨2, ![128, 128]⟩

abbrev nBuf : Space → Nat
  | .hbm => 3
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MatB.lean ====
abbrev S10000x128 : Shape := ⟨2, ![10000, 128]⟩
abbrev S128x128 : Shape := ⟨2, ![128, 128]⟩
abbrev S1000x128 : Shape := ⟨2, ![1000, 128]⟩

abbrev nBuf : Space → Nat
  | .hbm => 3
  | .vmem => 5
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MatBRefIdeal.lean ====
abbrev S10000x128 : Shape := ⟨2, ![10000, 128]⟩
abbrev S128x128 : Shape := ⟨2, ![128, 128]⟩

abbrev nBuf : Space → Nat
  | .hbm => 3
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AddMat.lean ====
abbrev S50000x128 : Shape := ⟨2, ![50000, 128]⟩
abbrev S128x128 : Shape := ⟨2, ![128, 128]⟩
abbrev S1000x128 : Shape := ⟨2, ![1000, 128]⟩

abbrev nBuf : Space → Nat
  | .hbm => 5
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S50000x128, .f32⟩
  | .hbm, ⟨4, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AddMatRefIdeal.lean ====
abbrev S50000x128 : Shape := ⟨2, ![50000, 128]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S50000x128, .f32⟩
  | .hbm, ⟨4, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== PairHead.lean ====
abbrev S10000x128 : Shape := ⟨2, ![10000, 128]⟩
abbrev S2x160000 : Shape := ⟨2, ![2, 160000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x80000 : Shape := ⟨2, ![1, 80000]⟩
abbrev S80000 : Shape := ⟨1, ![80000]⟩
abbrev S128x128 : Shape := ⟨2, ![128, 128]⟩
abbrev S1x128 : Shape := ⟨2, ![1, 128]⟩
abbrev S1x1 : Shape := ⟨2, ![1, 1]⟩
abbrev S80000x1 : Shape := ⟨2, ![80000, 1]⟩
abbrev S1x3200 : Shape := ⟨2, ![1, 3200]⟩
abbrev S3200x1 : Shape := ⟨2, ![3200, 1]⟩
abbrev S3200x128 : Shape := ⟨2, ![3200, 128]⟩

abbrev nBuf : Space → Nat
  | .hbm => 17
  | .vmem => 10
  | .smem => 4
  | _ => 0

abbrev bufTy : (tb : Table) → Fin (tcTables nBuf tb) → BufTy
  | .hbm, ⟨0, _⟩ => ⟨S10000x128, .f32⟩
  | .hbm, ⟨1, _⟩ => ⟨S2x160000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x80000, .i32⟩
  | .hbm, ⟨7, _⟩ => ⟨S80000, .i32⟩
  | .hbm, ⟨8, _⟩ => ⟨S1x80000, .i32⟩
  | .hbm, ⟨9, _⟩ => ⟨S1x80000, .i32⟩
  | .hbm, ⟨10, _⟩ => ⟨S80000, .i32⟩
  | .hbm, ⟨11, _⟩ => ⟨S1x80000, .i32⟩
  | .hbm, ⟨12, _⟩ => ⟨S128x128, .f32⟩
  | .hbm, ⟨13, _⟩ => ⟨S128x128, .f32⟩
  | .hbm, ⟨14, _⟩ => ⟨S1x128, .f32⟩
  | .hbm, ⟨15, _⟩ => ⟨S1x1, .f32⟩
  | .hbm, ⟨16, _⟩ => ⟨S80000x1, .f32⟩
  | .local _ .vmem, ⟨0, _⟩ => ⟨S10000x128, .f32⟩
  | .local _ .vmem, ⟨1, _⟩ => ⟨S128x128, .f32⟩
  | .local _ .vmem, ⟨2, _⟩ => ⟨S128x128, .f32⟩
  | .local _ .vmem, ⟨3, _⟩ => ⟨S1x128, .f32⟩
  | .local _ .vmem, ⟨4, _⟩ => ⟨S128x1, .f32⟩
  | .local _ .vmem, ⟨5, _⟩ => ⟨S1x1, .f32⟩
  | .local _ .vmem, ⟨6, _⟩ => ⟨S3200x1, .f32⟩
  | .local _ .vmem, ⟨7, _⟩ => ⟨S3200x1, .f32⟩
  | .local _ .vmem, ⟨8, _⟩ => ⟨S3200x128, .f32⟩
  | .local _ .vmem, ⟨9, _⟩ => ⟨S3200x128, .f32⟩
  | .local _ .smem, ⟨0, _⟩ => ⟨S1x3200, .i32⟩
  | .local _ .smem, ⟨1, _⟩ => ⟨S1x3200, .i32⟩
  | .local _ .smem, ⟨2, _⟩ => ⟨S1x3200, .i32⟩
  | .local _ .smem, ⟨3, _⟩ => ⟨S1x3200, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg8_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![25], ![false]⟩

@[reducible] def k0_t1_loop : Scf.Loop 32 :=
  let c0_i32 : BitVec 32 := 0#32
  let c3200_i32 : BitVec 32 := 3200#32
  let v0 : BitVec 32 := Scalar.addi c0_i32 c3200_i32
  let c1_i32 : BitVec 32 := 1#32
  ⟨c0_i32, v0, c1_i32⟩
def k0_off1 (k0_t1 : Fin k0_t1_loop.trips) : Fin 2 → Nat :=
  let c0_19 : Index := 0#32
  let c0_i32 : BitVec 32 := 0#32
  let c1_i32 : BitVec 32 := 1#32
  let arg12 : BitVec 32 := Scf.iv c0_i32 c1_i32 k0_t1
  let v23 : Index := Scalar.indexCast arg12
  ![0, v23.toNat]
def k0_off2 (v24 : BitVec 32) : Fin 2 → Nat :=
  let v27 : Index := Scalar.indexCast v24
  let c0_21 : Index := 0#32
  ![v27.toNat, 0]

def k0_chk1 (v24 : BitVec 32) : Prop :=
  (∀ a, (k0_off2 v24) a + S1x128.size a ≤ S10000x128.size a)
theorem k0_off2_inb : ∀ (v24 : BitVec 32) (k0_hw1 : k0_chk1 v24), ∀ a, (k0_off2 v24) a + S1x128.size a ≤ S10000x128.size a := fun v24 k0_hw1 => k0_hw1

def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let v29 : Index := Scalar.indexCast arg12
  let c0_22 : Index := 0#32
  ![v29.toNat, 0]
def k0_off4 (v26 : BitVec 32) : Fin 2 → Nat :=
  let v33 : Index := Scalar.indexCast v26
  let c0_23 : Index := 0#32
  ![v33.toNat, 0]

def k0_chk2 (v26 : BitVec 32) : Prop :=
  (∀ a, (k0_off4 v26) a + S1x128.size a ≤ S10000x128.size a)
theorem k0_off4_inb : ∀ (v26 : BitVec 32) (k0_hw2 : k0_chk2 v26), ∀ a, (k0_off4 v26) a + S1x128.size a ≤ S10000x128.size a := fun v26 k0_hw2 => k0_hw2

def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let v35 : Index := Scalar.indexCast arg12
  let c0_24 : Index := 0#32
  ![v35.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x3200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x3200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3200x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PairHeadRefIdeal.lean ====
abbrev S10000x128 : Shape := ⟨2, ![10000, 128]⟩
abbrev S2x160000 : Shape := ⟨2, ![2, 160000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x128 : Shape := ⟨2, ![160000, 128]⟩
abbrev S160000x256 : Shape := ⟨2, ![160000, 256]⟩
abbrev S80000x256 : Shape := ⟨2, ![80000, 256]⟩
abbrev S80000x128 : Shape := ⟨2, ![80000, 128]⟩
abbrev S1x128 : Shape := ⟨2, ![1, 128]⟩
abbrev S80000x1 : Shape := ⟨2, ![80000, 1]⟩
abbrev S1x1 : Shape := ⟨2, ![1, 1]⟩

abbrev nBuf : Space → Nat
  | .hbm => 41
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x160000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x160000, .i32⟩
  | .hbm, ⟨7, _⟩ => ⟨S160000, .i32⟩
  | .hbm, ⟨8, _⟩ => ⟨S_, .i32⟩
  | .hbm, ⟨9, _⟩ => ⟨S160000, .i32⟩
  | .hbm, ⟨10, _⟩ => ⟨S160000, .i1⟩
  | .hbm, ⟨11, _⟩ => ⟨S_, .i32⟩
  | .hbm, ⟨12, _⟩ => ⟨S160000, .i32⟩
  | .hbm, ⟨13, _⟩ => ⟨S160000, .i32⟩
  | .hbm, ⟨14, _⟩ => ⟨S160000, .i32⟩
  | .hbm, ⟨15, _⟩ => ⟨S160000x1, .i32⟩
  | .hbm, ⟨16, _⟩ => ⟨S160000x128, .f32⟩
  | .hbm, ⟨17, _⟩ => ⟨S1x160000, .i32⟩
  | .hbm, ⟨18, _⟩ => ⟨S160000, .i32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S160000x1, .i32⟩
  | .hbm, ⟨27, _⟩ => ⟨S160000x128, .f32⟩
  | .hbm, ⟨28, _⟩ => ⟨S160000x256, .f32⟩
  | .hbm, ⟨29, _⟩ => ⟨S80000x256, .f32⟩
  | .hbm, ⟨30, _⟩ => ⟨S80000x128, .f32⟩
  | .hbm, ⟨31, _⟩ => ⟨S1x128, .f32⟩
  | .hbm, ⟨32, _⟩ => ⟨S80000x128, .f32⟩
  | .hbm, ⟨33, _⟩ => ⟨S80000x128, .f32⟩
  | .hbm, ⟨34, _⟩ => ⟨S_, .f32⟩
  | .hbm, ⟨35, _⟩ => ⟨S80000x128, .f32⟩
  | .hbm, ⟨36, _⟩ => ⟨S80000x128, .f32⟩
  | .hbm, ⟨37, _⟩ => ⟨S80000x1, .f32⟩
  | .hbm, ⟨38, _⟩ => ⟨S1x1, .f32⟩
  | .hbm, ⟨39, _⟩ => ⟨S80000x1, .f32⟩
  | .hbm, ⟨40, _⟩ => ⟨S80000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== SegA.lean ====
abbrev S50000x128 : Shape := ⟨2, ![50000, 128]⟩
abbrev S2x800000 : Shape := ⟨2, ![2, 800000]⟩
abbrev S1x800000 : Shape := ⟨2, ![1, 800000]⟩
abbrev S800000 : Shape := ⟨1, ![800000]⟩
abbrev S1x640 : Shape := ⟨2, ![1, 640]⟩
abbrev S1x1 : Shape := ⟨2, ![1, 1]⟩
abbrev S1x128 : Shape := ⟨2, ![1, 128]⟩

abbrev nBuf : Space → Nat
  | .hbm => 9
  | .vmem => 2
  | .smem => 4
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1x800000, .i32⟩
  | .hbm, ⟨3, _⟩ => ⟨S800000, .i32⟩
  | .hbm, ⟨4, _⟩ => ⟨S1x800000, .i32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S50000x128, .f32⟩
  | .local _ .vmem, ⟨0, _⟩ => ⟨S50000x128, .f32⟩
  | .local _ .vmem, ⟨1, _⟩ => ⟨S50000x128, .f32⟩
  | .local _ .smem, ⟨0, _⟩ => ⟨S1x640, .i32⟩
  | .local _ .smem, ⟨1, _⟩ => ⟨S1x640, .i32⟩
  | .local _ .smem, ⟨2, _⟩ => ⟨S1x640, .i32⟩
  | .local _ .smem, ⟨3, _⟩ => ⟨S1x640, .i32⟩
  | _, _ => ⟨S50000x128, .f32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg2_0 : Ref sig .tc := ⟨.vmem, 0, rfl⟩
abbrev cc0_stg3_0 : Ref sig .tc := ⟨.vmem, 1, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![1250], ![false]⟩

@[reducible] def k0_t1_loop : Scf.Loop 32 :=
  let c0_i32_1 : BitVec 32 := 0#32
  let c640_i32 : BitVec 32 := 640#32
  let v3 : BitVec 32 := Scalar.addi c0_i32_1 c640_i32
  let c1_i32 : BitVec 32 := 1#32
  ⟨c0_i32_1, v3, c1_i32⟩
def k0_off1 (k0_t1 : Fin k0_t1_loop.trips) : Fin 2 → Nat :=
  let c0 : Index := 0#32
  let c0_i32_1 : BitVec 32 := 0#32
  let c1_i32 : BitVec 32 := 1#32
  let arg5 : BitVec 32 := Scf.iv c0_i32_1 c1_i32 k0_t1
  let v4 : Index := Scalar.indexCast arg5
  ![0, v4.toNat]
def k0_off2 (v7 : BitVec 32) : Fin 2 → Nat :=
  let v8 : Index := Scalar.indexCast v7
  let c0_4 : Index := 0#32
  ![v8.toNat, 0]

def k0_off3 (v5 : BitVec 32) : Fin 2 → Nat :=
  let v11 : Index := Scalar.indexCast v5
  let c0_5 : Index := 0#32
  ![v11.toNat, 0]

def k0_chk2 (v5 : BitVec 32) : Prop :=
  (∀ a, (k0_off3 v5) a + S1x128.size a ≤ S50000x128.size a)
theorem k0_off3_inb : ∀ (v5 : BitVec 32) (k0_hw2 : k0_chk2 v5), ∀ a, (k0_off3 v5) a + S1x128.size a ≤ S50000x128.size a := fun v5 k0_hw2 => k0_hw2

def k0_off4 (v7 : BitVec 32) : Fin 2 → Nat :=
  let v14 : Index := Scalar.indexCast v7
  let c0_6 : Index := 0#32
  ![v14.toNat, 0]

def k0_chk1 (v7 : BitVec 32) : Prop :=
  (∀ a, (k0_off2 v7) a + S1x128.size a ≤ S50000x128.size a) ∧
  (∀ a, (k0_off4 v7) a + S1x128.size a ≤ S50000x128.size a)
theorem k0_off2_inb : ∀ (v7 : BitVec 32) (k0_hw1 : k0_chk1 v7), ∀ a, (k0_off2 v7) a + S1x128.size a ≤ S50000x128.size a := fun v7 k0_hw1 => k0_hw1.1
theorem k0_off4_inb : ∀ (v7 : BitVec 32) (k0_hw1 : k0_chk1 v7), ∀ a, (k0_off4 v7) a + S1x128.size a ≤ S50000x128.size a := fun v7 k0_hw1 => k0_hw1.2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S1x640 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x640 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== SegAIdeal.lean ====
abbrev S50000x128 : Shape := ⟨2, ![50000, 128]⟩
abbrev S2x800000 : Shape := ⟨2, ![2, 800000]⟩
abbrev S1x800000 : Shape := ⟨2, ![1, 800000]⟩
abbrev S800000 : Shape := ⟨1, ![800000]⟩
abbrev S1x640 : Shape := ⟨2, ![1, 640]⟩
abbrev S1x1 : Shape := ⟨2, ![1, 1]⟩
abbrev S1x128 : Shape := ⟨2, ![1, 128]⟩

abbrev nBuf : Space → Nat
  | .hbm => 9
  | .vmem => 2
  | .smem => 4
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1x800000, .i32⟩
  | .hbm, ⟨3, _⟩ => ⟨S800000, .i32⟩
  | .hbm, ⟨4, _⟩ => ⟨S1x800000, .i32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S50000x128, .f32⟩
  | .local _ .vmem, ⟨0, _⟩ => ⟨S50000x128, .f32⟩
  | .local _ .vmem, ⟨1, _⟩ => ⟨S50000x128, .f32⟩
  | .local _ .smem, ⟨0, _⟩ => ⟨S1x640, .i32⟩
  | .local _ .smem, ⟨1, _⟩ => ⟨S1x640, .i32⟩
  | .local _ .smem, ⟨2, _⟩ => ⟨S1x640, .i32⟩
  | .local _ .smem, ⟨3, _⟩ => ⟨S1x640, .i32⟩
  | _, _ => ⟨S50000x128, .f32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg2_0 : Ref sig .tc := ⟨.vmem, 0, rfl⟩
abbrev cc0_stg3_0 : Ref sig .tc := ⟨.vmem, 1, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![1250], ![false]⟩

@[reducible] def k0_t1_loop : Scf.Loop 32 :=
  let c0_i32_1 : BitVec 32 := 0#32
  let c640_i32 : BitVec 32 := 640#32
  let v3 : BitVec 32 := Scalar.addi c0_i32_1 c640_i32
  let c1_i32 : BitVec 32 := 1#32
  ⟨c0_i32_1, v3, c1_i32⟩
def k0_off1 (k0_t1 : Fin k0_t1_loop.trips) : Fin 2 → Nat :=
  let c0 : Index := 0#32
  let c0_i32_1 : BitVec 32 := 0#32
  let c1_i32 : BitVec 32 := 1#32
  let arg5 : BitVec 32 := Scf.iv c0_i32_1 c1_i32 k0_t1
  let v4 : Index := Scalar.indexCast arg5
  ![0, v4.toNat]
def k0_off2 (v7 : BitVec 32) : Fin 2 → Nat :=
  let v8 : Index := Scalar.indexCast v7
  let c0_4 : Index := 0#32
  ![v8.toNat, 0]

def k0_off3 (v5 : BitVec 32) : Fin 2 → Nat :=
  let v11 : Index := Scalar.indexCast v5
  let c0_5 : Index := 0#32
  ![v11.toNat, 0]

def k0_chk2 (v5 : BitVec 32) : Prop :=
  (∀ a, (k0_off3 v5) a + S1x128.size a ≤ S50000x128.size a)
theorem k0_off3_inb : ∀ (v5 : BitVec 32) (k0_hw2 : k0_chk2 v5), ∀ a, (k0_off3 v5) a + S1x128.size a ≤ S50000x128.size a := fun v5 k0_hw2 => k0_hw2

def k0_off4 (v7 : BitVec 32) : Fin 2 → Nat :=
  let v14 : Index := Scalar.indexCast v7
  let c0_6 : Index := 0#32
  ![v14.toNat, 0]

def k0_chk1 (v7 : BitVec 32) : Prop :=
  (∀ a, (k0_off2 v7) a + S1x128.size a ≤ S50000x128.size a) ∧
  (∀ a, (k0_off4 v7) a + S1x128.size a ≤ S50000x128.size a)
theorem k0_off2_inb : ∀ (v7 : BitVec 32) (k0_hw1 : k0_chk1 v7), ∀ a, (k0_off2 v7) a + S1x128.size a ≤ S50000x128.size a := fun v7 k0_hw1 => k0_hw1.1
theorem k0_off4_inb : ∀ (v7 : BitVec 32) (k0_hw1 : k0_chk1 v7), ∀ a, (k0_off4 v7) a + S1x128.size a ≤ S50000x128.size a := fun v7 k0_hw1 => k0_hw1.2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S1x640 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x640 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== SegARefIdeal.lean ====
abbrev S50000x128 : Shape := ⟨2, ![50000, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩

abbrev nBuf : Space → Nat
  | .hbm => 19
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1x800000, .i32⟩
  | .hbm, ⟨3, _⟩ => ⟨S800000, .i32⟩
  | .hbm, ⟨4, _⟩ => ⟨S1x800000, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S_, .f32⟩
  | .hbm, ⟨16, _⟩ => ⟨S50000x128, .f32⟩
  | .hbm, ⟨17, _⟩ => ⟨S800000x1, .i32⟩
  | .hbm, ⟨18, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== SegB.lean ====
abbrev S10000x128 : Shape := ⟨2, ![10000, 128]⟩
abbrev S2x160000 : Shape := ⟨2, ![2, 160000]⟩
abbrev S1x160000 : Shape := ⟨2, ![1, 160000]⟩
abbrev S160000 : Shape := ⟨1, ![160000]⟩
abbrev S1x640 : Shape := ⟨2, ![1, 640]⟩
abbrev S1x1 : Shape := ⟨2, ![1, 1]⟩
abbrev S1x128 : Shape := ⟨2, ![1, 128]⟩

abbrev nBuf : Space → Nat
  | .hbm => 9
  | .vmem => 2
  | .smem => 4
  | _ => 0

abbrev bufTy : (tb : Table) → Fin (tcTables nBuf tb) → BufTy
  | .hbm, ⟨0, _⟩ => ⟨S10000x128, .f32⟩
  | .hbm, ⟨1, _⟩ => ⟨S2x160000, .i32⟩
  | .hbm, ⟨2, _⟩ => ⟨S1x160000, .i32⟩
  | .hbm, ⟨3, _⟩ => ⟨S160000, .i32⟩
  | .hbm, ⟨4, _⟩ => ⟨S1x160000, .i32⟩
  | .hbm, ⟨5, _⟩ => ⟨S1x160000, .i32⟩
  | .hbm, ⟨6, _⟩ => ⟨S160000, .i32⟩
  | .hbm, ⟨7, _⟩ => ⟨S1x160000, .i32⟩
  | .hbm, ⟨8, _⟩ => ⟨S10000x128, .f32⟩
  | .local _ .vmem, ⟨0, _⟩ => ⟨S10000x128, .f32⟩
  | .local _ .vmem, ⟨1, _⟩ => ⟨S10000x128, .f32⟩
  | .local _ .smem, ⟨0, _⟩ => ⟨S1x640, .i32⟩
  | .local _ .smem, ⟨1, _⟩ => ⟨S1x640, .i32⟩
  | .local _ .smem, ⟨2, _⟩ => ⟨S1x640, .i32⟩
  | .local _ .smem, ⟨3, _⟩ => ⟨S1x640, .i32⟩
  | _, _ => ⟨S10000x128, .f32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg2_0 : Ref sig .tc := ⟨.vmem, 0, rfl⟩
abbrev cc0_stg3_0 : Ref sig .tc := ⟨.vmem, 1, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![250], ![false]⟩

@[reducible] def k0_t1_loop : Scf.Loop 32 :=
  let c0_i32_1 : BitVec 32 := 0#32
  let c640_i32 : BitVec 32 := 640#32
  let v3 : BitVec 32 := Scalar.addi c0_i32_1 c640_i32
  let c1_i32 : BitVec 32 := 1#32
  ⟨c0_i32_1, v3, c1_i32⟩
def k0_off1 (k0_t1 : Fin k0_t1_loop.trips) : Fin 2 → Nat :=
  let c0 : Index := 0#32
  let c0_i32_1 : BitVec 32 := 0#32
  let c1_i32 : BitVec 32 := 1#32
  let arg5 : BitVec 32 := Scf.iv c0_i32_1 c1_i32 k0_t1
  let v4 : Index := Scalar.indexCast arg5
  ![0, v4.toNat]
def k0_off2 (v7 : BitVec 32) : Fin 2 → Nat :=
  let v8 : Index := Scalar.indexCast v7
  let c0_4 : Index := 0#32
  ![v8.toNat, 0]

def k0_off3 (v5 : BitVec 32) : Fin 2 → Nat :=
  let v11 : Index := Scalar.indexCast v5
  let c0_5 : Index := 0#32
  ![v11.toNat, 0]

def k0_chk2 (v5 : BitVec 32) : Prop :=
  (∀ a, (k0_off3 v5) a + S1x128.size a ≤ S10000x128.size a)
theorem k0_off3_inb : ∀ (v5 : BitVec 32) (k0_hw2 : k0_chk2 v5), ∀ a, (k0_off3 v5) a + S1x128.size a ≤ S10000x128.size a := fun v5 k0_hw2 => k0_hw2

def k0_off4 (v7 : BitVec 32) : Fin 2 → Nat :=
  let v14 : Index := Scalar.indexCast v7
  let c0_6 : Index := 0#32
  ![v14.toNat, 0]

def k0_chk1 (v7 : BitVec 32) : Prop :=
  (∀ a, (k0_off2 v7) a + S1x128.size a ≤ S10000x128.size a) ∧
  (∀ a, (k0_off4 v7) a + S1x128.size a ≤ S10000x128.size a)
theorem k0_off2_inb : ∀ (v7 : BitVec 32) (k0_hw1 : k0_chk1 v7), ∀ a, (k0_off2 v7) a + S1x128.size a ≤ S10000x128.size a := fun v7 k0_hw1 => k0_hw1.1
theorem k0_off4_inb : ∀ (v7 : BitVec 32) (k0_hw1 : k0_chk1 v7), ∀ a, (k0_off4 v7) a + S1x128.size a ≤ S10000x128.size a := fun v7 k0_hw1 => k0_hw1.2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S1x640 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x640 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== SegBRefIdeal.lean ====
abbrev S10000x128 : Shape := ⟨2, ![10000, 128]⟩
abbrev S2x160000 : Shape := ⟨2, ![2, 160000]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x128 : Shape := ⟨2, ![160000, 128]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x160000, .i32⟩
  | .hbm, ⟨2, _⟩ => ⟨S1x160000, .i32⟩
  | .hbm, ⟨3, _⟩ => ⟨S160000, .i32⟩
  | .hbm, ⟨4, _⟩ => ⟨S1x160000, .i32⟩
  | .hbm, ⟨5, _⟩ => ⟨S160000, .i32⟩
  | .hbm, ⟨6, _⟩ => ⟨S_, .i32⟩
  | .hbm, ⟨7, _⟩ => ⟨S160000, .i32⟩
  | .hbm, ⟨8, _⟩ => ⟨S160000, .i1⟩
  | .hbm, ⟨9, _⟩ => ⟨S_, .i32⟩
  | .hbm, ⟨10, _⟩ => ⟨S160000, .i32⟩
  | .hbm, ⟨11, _⟩ => ⟨S160000, .i32⟩
  | .hbm, ⟨12, _⟩ => ⟨S160000, .i32⟩
  | .hbm, ⟨13, _⟩ => ⟨S160000x1, .i32⟩
  | .hbm, ⟨14, _⟩ => ⟨S160000x128, .f32⟩
  | .hbm, ⟨15, _⟩ => ⟨S_, .f32⟩
  | .hbm, ⟨16, _⟩ => ⟨S10000x128, .f32⟩
  | .hbm, ⟨17, _⟩ => ⟨S160000x1, .i32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== BnProj.lean ====
abbrev S50000x42 : Shape := ⟨2, ![50000, 42]⟩
abbrev S42 : Shape := ⟨1, ![42]⟩
abbrev S42x128 : Shape := ⟨2, ![42, 128]⟩
abbrev S128 : Shape := ⟨1, ![128]⟩
abbrev S8x42 : Shape := ⟨2, ![8, 42]⟩
abbrev S1000x42 : Shape := ⟨2, ![1000, 42]⟩
abbrev S1x42 : Shape := ⟨2, ![1, 42]⟩
abbrev S1x128 : Shape := ⟨2, ![1, 128]⟩
abbrev S50000x128 : Shape := ⟨2, ![50000, 128]⟩
abbrev S1000x128 : Shape := ⟨2, ![1000, 128]⟩

abbrev nBuf : Space → Nat
  | .hbm => 22
  | .vmem => 24
  | .smem => 0
  | _ => 0

abbrev bufTy : (tb : Table) → Fin (tcTables nBuf tb) → BufTy
  | .hbm, ⟨0, _⟩ => ⟨S50000x42, .f32⟩
  | .hbm, ⟨1, _⟩ => ⟨S42, .f32⟩
  | .hbm, ⟨2, _⟩ => ⟨S42, .f32⟩
  | .hbm, ⟨3, _⟩ => ⟨S42x128, .f32⟩
  | .hbm, ⟨4, _⟩ => ⟨S128, .f32⟩
  | .hbm, ⟨5, _⟩ => ⟨S42x128, .f32⟩
  | .hbm, ⟨6, _⟩ => ⟨S128, .f32⟩
  | .hbm, ⟨7, _⟩ => ⟨S42x128, .f32⟩
  | .hbm, ⟨8, _⟩ => ⟨S128, .f32⟩
  | .hbm, ⟨9, _⟩ => ⟨S42x128, .f32⟩
  | .hbm, ⟨10, _⟩ => ⟨S128, .f32⟩
  | .hbm, ⟨11, _⟩ => ⟨S8x42, .f32⟩
  | .hbm, ⟨12, _⟩ => ⟨S1x42, .f32⟩
  | .hbm, ⟨13, _⟩ => ⟨S1x42, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S50000x128, .f32⟩
  | .local _ .vmem, ⟨0, _⟩ => ⟨S1000x42, .f32⟩
  | .local _ .vmem, ⟨1, _⟩ => ⟨S1000x42, .f32⟩
  | .local _ .vmem, ⟨2, _⟩ => ⟨S8x42, .f32⟩
  | .local _ .vmem, ⟨3, _⟩ => ⟨S1000x42, .f32⟩
  | .local _ .vmem, ⟨4, _⟩ => ⟨S1000x42, .f32⟩
  | .local _ .vmem, ⟨5, _⟩ => ⟨S8x42, .f32⟩
  | .local _ .vmem, ⟨6, _⟩ => ⟨S1x42, .f32⟩
  | .local _ .vmem, ⟨7, _⟩ => ⟨S1x42, .f32⟩
  | .local _ .vmem, ⟨8, _⟩ => ⟨S42x128, .f32⟩
  | .local _ .vmem, ⟨9, _⟩ => ⟨S1x128, .f32⟩
  | .local _ .vmem, ⟨10, _⟩ => ⟨S42x128, .f32⟩
  | .local _ .vmem, ⟨11, _⟩ => ⟨S1x128, .f32⟩
  | .local _ .vmem, ⟨12, _⟩ => ⟨S42x128, .f32⟩
  | .local _ .vmem, ⟨13, _⟩ => ⟨S1x128, .f32⟩
  | .local _ .vmem, ⟨14, _⟩ => ⟨S42x128, .f32⟩
  | .local _ .vmem, ⟨15, _⟩ => ⟨S1x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | _, _ => ⟨S50000x42, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg11_0 : Ref sig .tc := ⟨.vmem, 15, rfl⟩
abbrev cc1_stg12_0 : Ref sig .tc := ⟨.vmem, 16, rfl⟩
abbrev cc1_stg12_1 : Ref sig .tc := ⟨.vmem, 17, rfl⟩
abbrev cc1_stg13_0 : Ref sig .tc := ⟨.vmem, 18, rfl⟩
abbrev cc1_stg13_1 : Ref sig .tc := ⟨.vmem, 19, rfl⟩
abbrev cc1_stg14_0 : Ref sig .tc := ⟨.vmem, 20, rfl⟩
abbrev cc1_stg14_1 : Ref sig .tc := ⟨.vmem, 21, rfl⟩
abbrev cc1_stg15_0 : Ref sig .tc := ⟨.vmem, 22, rfl⟩
abbrev cc1_stg15_1 : Ref sig .tc := ⟨.vmem, 23, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev cc1_sem11_0 : DmaSem sig := 15
abbrev cc1_sem12_0 : DmaSem sig := 16
abbrev cc1_sem12_1 : DmaSem sig := 17
abbrev cc1_sem13_0 : DmaSem sig := 18
abbrev cc1_sem13_1 : DmaSem sig := 19
abbrev cc1_sem14_0 : DmaSem sig := 20
abbrev cc1_sem14_1 : DmaSem sig := 21
abbrev cc1_sem15_0 : DmaSem sig := 22
abbrev cc1_sem15_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x42 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x42 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x42 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x42 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x42 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S42x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S42x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S42x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S42x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1000x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1000x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]
-- ==== BnProjRefIdeal.lean ====
abbrev S50000x42 : Shape := ⟨2, ![50000, 42]⟩
abbrev S42 : Shape := ⟨1, ![42]⟩
abbrev S42x128 : Shape := ⟨2, ![42, 128]⟩
abbrev S128 : Shape := ⟨1, ![128]⟩
abbrev S_ : Shape := ⟨0, ![]⟩
abbrev S1x42 : Shape := ⟨2, ![1, 42]⟩
abbrev S50000x128 : Shape := ⟨2, ![50000, 128]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S50000x42, .f32⟩
  | .hbm, ⟨1, _⟩ => ⟨S42, .f32⟩
  | .hbm, ⟨2, _⟩ => ⟨S42, .f32⟩
  | .hbm, ⟨3, _⟩ => ⟨S42x128, .f32⟩
  | .hbm, ⟨4, _⟩ => ⟨S128, .f32⟩
  | .hbm, ⟨5, _⟩ => ⟨S42x128, .f32⟩
  | .hbm, ⟨6, _⟩ => ⟨S128, .f32⟩
  | .hbm, ⟨7, _⟩ => ⟨S42x128, .f32⟩
  | .hbm, ⟨8, _⟩ => ⟨S128, .f32⟩
  | .hbm, ⟨9, _⟩ => ⟨S42x128, .f32⟩
  | .hbm, ⟨10, _⟩ => ⟨S128, .f32⟩
  | .hbm, ⟨11, _⟩ => ⟨S_, .f32⟩
  | .hbm, ⟨12, _⟩ => ⟨S42, .f32⟩
  | .hbm, ⟨13, _⟩ => ⟨S_, .f32⟩
  | .hbm, ⟨14, _⟩ => ⟨S42, .f32⟩
  | .hbm, ⟨15, _⟩ => ⟨S42, .f32⟩
  | .hbm, ⟨16, _⟩ => ⟨S1x42, .f32⟩
  | .hbm, ⟨17, _⟩ => ⟨S50000x42, .f32⟩
  | .hbm, ⟨18, _⟩ => ⟨S50000x42, .f32⟩
  | .hbm, ⟨19, _⟩ => ⟨S50000x42, .f32⟩
  | .hbm, ⟨20, _⟩ => ⟨S_, .f32⟩
  | .hbm, ⟨21, _⟩ => ⟨S42, .f32⟩
  | .hbm, ⟨22, _⟩ => ⟨S_, .f32⟩
  | .hbm, ⟨23, _⟩ => ⟨S42, .f32⟩
  | .hbm, ⟨24, _⟩ => ⟨S42, .f32⟩
  | .hbm, ⟨25, _⟩ => ⟨S1x42, .f32⟩
  | .hbm, ⟨26, _⟩ => ⟨S50000x42, .f32⟩
  | .hbm, ⟨27, _⟩ => ⟨S50000x42, .f32⟩
  | .hbm, ⟨28, _⟩ => ⟨S_, .f32⟩
  | .hbm, ⟨29, _⟩ => ⟨S42, .f32⟩
  | .hbm, ⟨30, _⟩ => ⟨S42, .f32⟩
  | .hbm, ⟨31, _⟩ => ⟨S42, .f32⟩
  | .hbm, ⟨32, _⟩ => ⟨S1x42, .f32⟩
  | .hbm, ⟨33, _⟩ => ⟨S50000x42, .f32⟩
  | .hbm, ⟨34, _⟩ => ⟨S50000x42, .f32⟩
  | .hbm, ⟨35, _⟩ => ⟨S1x42, .f32⟩
  | .hbm, ⟨36, _⟩ => ⟨S50000x42, .f32⟩
  | .hbm, ⟨37, _⟩ => ⟨S50000x42, .f32⟩
  | .hbm, ⟨38, _⟩ => ⟨S1x42, .f32⟩
  | .hbm, ⟨39, _⟩ => ⟨S50000x42, .f32⟩
  | .hbm, ⟨40, _⟩ => ⟨S50000x42, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | _, _ => ⟨S50000x42, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Att1.lean ====
abbrev S50000x128 : Shape := ⟨2, ![50000, 128]⟩
abbrev S800000x5 : Shape := ⟨2, ![800000, 5]⟩
abbrev S2x800000 : Shape := ⟨2, ![2, 800000]⟩
abbrev S5x128 : Shape := ⟨2, ![5, 128]⟩
abbrev S128 : Shape := ⟨1, ![128]⟩
abbrev S1x800000 : Shape := ⟨2, ![1, 800000]⟩
abbrev S800000 : Shape := ⟨1, ![800000]⟩
abbrev S1x128 : Shape := ⟨2, ![1, 128]⟩
abbrev S800000x1 : Shape := ⟨2, ![800000, 1]⟩
abbrev S392x128 : Shape := ⟨2, ![392, 128]⟩
abbrev S1x640 : Shape := ⟨2, ![1, 640]⟩
abbrev S640x5 : Shape := ⟨2, ![640, 5]⟩
abbrev S640x1 : Shape := ⟨2, ![640, 1]⟩
abbrev S640x128 : Shape := ⟨2, ![640, 128]⟩
abbrev S1x1 : Shape := ⟨2, ![1, 1]⟩
abbrev S640 : Shape := ⟨1, ![640]⟩

abbrev nBuf : Space → Nat
  | .hbm => 15
  | .vmem => 11
  | .smem => 4
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000x5, .f32⟩
  | .hbm, ⟨3, _⟩ => ⟨S2x800000, .i32⟩
  | .hbm, ⟨4, _⟩ => ⟨S5x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S1x128, .f32⟩
  | .hbm, ⟨13, _⟩ => ⟨S800000x1, .f32⟩
  | .hbm, ⟨14, _⟩ => ⟨S392x128, .f32⟩
  | .local _ .vmem, ⟨0, _⟩ => ⟨S640x5, .f32⟩
  | .local _ .vmem, ⟨1, _⟩ => ⟨S640x5, .f32⟩
  | .local _ .vmem, ⟨2, _⟩ => ⟨S50000x128, .f32⟩
  | .local _ .vmem, ⟨3, _⟩ => ⟨S50000x128, .f32⟩
  | .local _ .vmem, ⟨4, _⟩ => ⟨S5x128, .f32⟩
  | .local _ .vmem, ⟨5, _⟩ => ⟨S1x128, .f32⟩
  | .local _ .vmem, ⟨6, _⟩ => ⟨S640x1, .f32⟩
  | .local _ .vmem, ⟨7, _⟩ => ⟨S640x1, .f32⟩
  | .local _ .vmem, ⟨8, _⟩ => ⟨S392x128, .f32⟩
  | .local _ .vmem, ⟨9, _⟩ => ⟨S640x128, .f32⟩
  | .local _ .vmem, ⟨10, _⟩ => ⟨S640x128, .f32⟩
  | .local _ .smem, ⟨0, _⟩ => ⟨S1x640, .i32⟩
  | .local _ .smem, ⟨1, _⟩ => ⟨S1x640, .i32⟩
  | .local _ .smem, ⟨2, _⟩ => ⟨S1x640, .i32⟩
  | .local _ .smem, ⟨3, _⟩ => ⟨S1x640, .i32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![1250], ![false]⟩

@[reducible] def k0_t1_loop : Scf.Loop 32 :=
  let c0_i32_1 : BitVec 32 := 0#32
  let c640_i32 : BitVec 32 := 640#32
  let v3 : BitVec 32 := Scalar.addi c0_i32_1 c640_i32
  let c1_i32 : BitVec 32 := 1#32
  ⟨c0_i32_1, v3, c1_i32⟩
def k0_off1 (k0_t1 : Fin k0_t1_loop.trips) : Fin 2 → Nat :=
  let c0_20 : Index := 0#32
  let c0_i32_1 : BitVec 32 := 0#32
  let c1_i32 : BitVec 32 := 1#32
  let arg12 : BitVec 32 := Scf.iv c0_i32_1 c1_i32 k0_t1
  let v22 : Index := Scalar.indexCast arg12
  ![0, v22.toNat]
def k0_off2 (v23 : BitVec 32) : Fin 2 → Nat :=
  let v26 : Index := Scalar.indexCast v23
  let c0_22 : Index := 0#32
  ![v26.toNat, 0]

def k0_chk1 (v23 : BitVec 32) : Prop :=
  (∀ a, (k0_off2 v23) a + S1x128.size a ≤ S50000x128.size a)
theorem k0_off2_inb : ∀ (v23 : BitVec 32) (k0_hw1 : k0_chk1 v23), ∀ a, (k0_off2 v23) a + S1x128.size a ≤ S50000x128.size a := fun v23 k0_hw1 => k0_hw1

def k0_off3 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v28 : Index := Scalar.indexCast arg12
  let c0_23 : Index := 0#32
  ![v28.toNat, 0]
def k0_off4 (v25 : BitVec 32) : Fin 2 → Nat :=
  let v32 : Index := Scalar.indexCast v25
  let c0_24 : Index := 0#32
  ![v32.toNat, 0]

def k0_chk2 (v25 : BitVec 32) : Prop :=
  (∀ a, (k0_off4 v25) a + S1x128.size a ≤ S50000x128.size a)
theorem k0_off4_inb : ∀ (v25 : BitVec 32) (k0_hw2 : k0_chk2 v25), ∀ a, (k0_off4 v25) a + S1x128.size a ≤ S50000x128.size a := fun v25 k0_hw2 => k0_hw2

def k0_off5 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v34 : Index := Scalar.indexCast arg12
  let c0_25 : Index := 0#32
  ![v34.toNat, 0]
@[reducible] def k0_t2_loop : Scf.Loop 32 :=
  let c0_i32_16 : BitVec 32 := 0#32
  let c640_i32_17 : BitVec 32 := 640#32
  let v21 : BitVec 32 := Scalar.addi c0_i32_16 c640_i32_17
  let c1_i32_18 : BitVec 32 := 1#32
  ⟨c0_i32_16, v21, c1_i32_18⟩
def k0_off6 (k0_t2 : Fin k0_t2_loop.trips) : Fin 2 → Nat :=
  let c0_20 : Index := 0#32
  let c0_i32_16 : BitVec 32 := 0#32
  let c1_i32_18 : BitVec 32 := 1#32
  let arg12 : BitVec 32 := Scf.iv c0_i32_16 c1_i32_18 k0_t2
  let v22 : Index := Scalar.indexCast arg12
  ![0, v22.toNat]
def k0_off7 (k0_t2 : Fin k0_t2_loop.trips) : Fin 2 → Nat :=
  let c0_i32_16 : BitVec 32 := 0#32
  let c1_i32_18 : BitVec 32 := 1#32
  let arg12 : BitVec 32 := Scf.iv c0_i32_16 c1_i32_18 k0_t2
  let v24 : Index := Scalar.indexCast arg12
  let c0_21 : Index := 0#32
  ![v24.toNat, 0]
def k0_off8 (v23 : BitVec 32) : Fin 2 → Nat :=
  let c128_i32 : BitVec 32 := 128#32
  let v27 : BitVec 32 := Scalar.divsi v23 c128_i32
  let v28 : Index := Scalar.indexCast v27
  let c0_22 : Index := 0#32
  ![v28.toNat, 0]

def k0_chk3 (v23 : BitVec 32) : Prop :=
  (∀ a, (k0_off8 v23) a + S1x128.size a ≤ S392x128.size a)
theorem k0_off8_inb : ∀ (v23 : BitVec 32) (k0_hw3 : k0_chk3 v23), ∀ a, (k0_off8 v23) a + S1x128.size a ≤ S392x128.size a := fun v23 k0_hw3 => k0_hw3

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S1x640 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x640 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S50000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S640x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S392x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Att1RefIdeal.lean ====
abbrev S50000x128 : Shape := ⟨2, ![50000, 128]⟩
abbrev S800000x5 : Shape := ⟨2, ![800000, 5]⟩
abbrev S2x800000 : Shape := ⟨2, ![2, 800000]⟩
abbrev S5x128 : Shape := ⟨2, ![5, 128]⟩
abbrev S128 : Shape := ⟨1, ![128]⟩
abbrev S1x800000 : Shape := ⟨2, ![1, 800000]⟩
abbrev S800000 : Shape := ⟨1, ![800000]⟩
abbrev S800000x128 : Shape := ⟨2, ![800000, 128]⟩
abbrev S1x128 : Shape := ⟨2, ![1, 128]⟩
abbrev S_ : Shape := ⟨0, ![]⟩
abbrev S800000x1 : Shape := ⟨2, ![800000, 1]⟩

abbrev nBuf : Space → Nat
  | .hbm => 41
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000x5, .f32⟩
  | .hbm, ⟨3, _⟩ => ⟨S2x800000, .i32⟩
  | .hbm, ⟨4, _⟩ => ⟨S5x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S800000x128, .f32⟩
  | .hbm, ⟨11, _⟩ => ⟨S1x128, .f32⟩
  | .hbm, ⟨12, _⟩ => ⟨S800000x128, .f32⟩
  | .hbm, ⟨13, _⟩ => ⟨S800000x128, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S800000, .f32⟩
  | .hbm, ⟨36, _⟩ => ⟨S_, .f32⟩
  | .hbm, ⟨37, _⟩ => ⟨S_, .f32⟩
  | .hbm, ⟨38, _⟩ => ⟨S800000, .f32⟩
  | .hbm, ⟨39, _⟩ => ⟨S800000, .f32⟩
  | .hbm, ⟨40, _⟩ => ⟨S800000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Att2.lean ====
abbrev S800000x1 : Shape := ⟨2, ![800000, 1]⟩
abbrev S392x128 : Shape := ⟨2, ![392, 128]⟩
abbrev S2x800000 : Shape := ⟨2, ![2, 800000]⟩
abbrev S1x800000 : Shape := ⟨2, ![1, 800000]⟩
abbrev S800000 : Shape := ⟨1, ![800000]⟩
abbrev S1x640 : Shape := ⟨2, ![1, 640]⟩
abbrev S640x1 : Shape := ⟨2, ![640, 1]⟩
abbrev S1x1 : Shape := ⟨2, ![1, 1]⟩
abbrev S1x128 : Shape := ⟨2, ![1, 128]⟩
abbrev S1 : Shape := ⟨1, ![1]⟩

abbrev nBuf : Space → Nat
  | .hbm => 8
  | .vmem => 7
  | .smem => 2
  | _ => 0

abbrev bufTy : (tb : Table) → Fin (tcTables nBuf tb) → BufTy
  | .hbm, ⟨0, _⟩ => ⟨S800000x1, .f32⟩
  | .hbm, ⟨1, _⟩ => ⟨S392x128, .f32⟩
  | .hbm, ⟨2, _⟩ => ⟨S2x800000, .i32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000x1, .f32⟩
  | .hbm, ⟨7, _⟩ => ⟨S392x128, .f32⟩
  | .local _ .vmem, ⟨0, _⟩ => ⟨S640x1, .f32⟩
  | .local _ .vmem, ⟨1, _⟩ => ⟨S640x1, .f32⟩
  | .local _ .vmem, ⟨2, _⟩ => ⟨S392x128, .f32⟩
  | .local _ .vmem, ⟨3, _⟩ => ⟨S640x1, .f32⟩
  | .local _ .vmem, ⟨4, _⟩ => ⟨S640x1, .f32⟩
  | .local _ .vmem, ⟨5, _⟩ => ⟨S392x128, .f32⟩
  | .local _ .vmem, ⟨6, _⟩ => ⟨S640x1, .f32⟩
  | .local _ .smem, ⟨0, _⟩ => ⟨S1x640, .i32⟩
  | .local _ .smem, ⟨1, _⟩ => ⟨S1x640, .i32⟩
  | _, _ => ⟨S800000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![1250], ![false]⟩

@[reducible] def k0_t1_loop : Scf.Loop 32 :=
  let c0_i32_1 : BitVec 32 := 0#32
  let c640_i32 : BitVec 32 := 640#32
  let v3 : BitVec 32 := Scalar.addi c0_i32_1 c640_i32
  let c1_i32 : BitVec 32 := 1#32
  ⟨c0_i32_1, v3, c1_i32⟩
def k0_off1 (k0_t1 : Fin k0_t1_loop.trips) : Fin 2 → Nat :=
  let c0_12 : Index := 0#32
  let c0_i32_1 : BitVec 32 := 0#32
  let c1_i32 : BitVec 32 := 1#32
  let arg7 : BitVec 32 := Scf.iv c0_i32_1 c1_i32 k0_t1
  let v10 : Index := Scalar.indexCast arg7
  ![0, v10.toNat]
def k0_off2 (v11 : BitVec 32) : Fin 2 → Nat :=
  let c128_i32 : BitVec 32 := 128#32
  let v12 : BitVec 32 := Scalar.divsi v11 c128_i32
  let v13 : Index := Scalar.indexCast v12
  let c0_13 : Index := 0#32
  ![v13.toNat, 0]

def k0_chk1 (v11 : BitVec 32) : Prop :=
  (∀ a, (k0_off2 v11) a + S1x128.size a ≤ S392x128.size a)
theorem k0_off2_inb : ∀ (v11 : BitVec 32) (k0_hw1 : k0_chk1 v11), ∀ a, (k0_off2 v11) a + S1x128.size a ≤ S392x128.size a := fun v11 k0_hw1 => k0_hw1

def k0_off3 (k0_t1 : Fin k0_t1_loop.trips) : Fin 2 → Nat :=
  let c0_i32_1 : BitVec 32 := 0#32
  let c1_i32 : BitVec 32 := 1#32
  let arg7 : BitVec 32 := Scf.iv c0_i32_1 c1_i32 k0_t1
  let v23 : Index := Scalar.indexCast arg7
  let c0_16 : Index := 0#32
  ![v23.toNat, 0]
@[reducible] def k0_t2_loop : Scf.Loop 32 :=
  let c0_i32_8 : BitVec 32 := 0#32
  let c640_i32_9 : BitVec 32 := 640#32
  let v9 : BitVec 32 := Scalar.addi c0_i32_8 c640_i32_9
  let c1_i32_10 : BitVec 32 := 1#32
  ⟨c0_i32_8, v9, c1_i32_10⟩
def k0_off4 (k0_t2 : Fin k0_t2_loop.trips) : Fin 2 → Nat :=
  let c0_12 : Index := 0#32
  let c0_i32_8 : BitVec 32 := 0#32
  let c1_i32_10 : BitVec 32 := 1#32
  let arg7 : BitVec 32 := Scf.iv c0_i32_8 c1_i32_10 k0_t2
  let v10 : Index := Scalar.indexCast arg7
  ![0, v10.toNat]
def k0_off5 (k0_t2 : Fin k0_t2_loop.trips) : Fin 2 → Nat :=
  let c0_i32_8 : BitVec 32 := 0#32
  let c1_i32_10 : BitVec 32 := 1#32
  let arg7 : BitVec 32 := Scf.iv c0_i32_8 c1_i32_10 k0_t2
  let v12 : Index := Scalar.indexCast arg7
  let c0_13 : Index := 0#32
  ![v12.toNat, 0]
def k0_off6 (v11 : BitVec 32) : Fin 2 → Nat :=
  let c128_i32 : BitVec 32 := 128#32
  let v15 : BitVec 32 := Scalar.divsi v11 c128_i32
  let v16 : Index := Scalar.indexCast v15
  let c0_14 : Index := 0#32
  ![v16.toNat, 0]

def k0_chk2 (v11 : BitVec 32) : Prop :=
  (∀ a, (k0_off6 v11) a + S1x128.size a ≤ S392x128.size a)
theorem k0_off6_inb : ∀ (v11 : BitVec 32) (k0_hw2 : k0_chk2 v11), ∀ a, (k0_off6 v11) a + S1x128.size a ≤ S392x128.size a := fun v11 k0_hw2 => k0_hw2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S1x640 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S392x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S392x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Att2RefIdeal.lean ====
abbrev S800000x1 : Shape := ⟨2, ![800000, 1]⟩
abbrev S392x128 : Shape := ⟨2, ![392, 128]⟩
abbrev S2x800000 : Shape := ⟨2, ![2, 800000]⟩
abbrev S1x800000 : Shape := ⟨2, ![1, 800000]⟩
abbrev S800000 : Shape := ⟨1, ![800000]⟩
abbrev S50176 : Shape := ⟨1, ![50176]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S800000x1, .f32⟩
  | .hbm, ⟨1, _⟩ => ⟨S392x128, .f32⟩
  | .hbm, ⟨2, _⟩ => ⟨S2x800000, .i32⟩
  | .hbm, ⟨3, _⟩ => ⟨S1x800000, .i32⟩
  | .hbm, ⟨4, _⟩ => ⟨S800000, .i32⟩
  | .hbm, ⟨5, _⟩ => ⟨S50176, .f32⟩
  | .hbm, ⟨6, _⟩ => ⟨S800000, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000, .f32⟩
  | .hbm, ⟨16, _⟩ => ⟨S800000, .f32⟩
  | .hbm, ⟨17, _⟩ => ⟨S800000, .f32⟩
  | .hbm, ⟨18, _⟩ => ⟨S_, .f32⟩
  | .hbm, ⟨19, _⟩ => ⟨S50176, .f32⟩
  | .hbm, ⟨20, _⟩ => ⟨S800000x1, .i32⟩
  | .hbm, ⟨21, _⟩ => ⟨S50176, .f32⟩
  | .hbm, ⟨22, _⟩ => ⟨S800000x1, .f32⟩
  | .hbm, ⟨23, _⟩ => ⟨S392x128, .f32⟩
  | _, _ => ⟨S800000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Mean.lean ====
abbrev S10000x128 : Shape := ⟨2, ![10000, 128]⟩
abbrev S10000x1 : Shape := ⟨2, ![10000, 1]⟩
abbrev S8x128 : Shape := ⟨2, ![8, 128]⟩
abbrev S1000x128 : Shape := ⟨2, ![1000, 128]⟩
abbrev S1000x1 : Shape := ⟨2, ![1000, 1]⟩
abbrev S1x128 : Shape := ⟨2, ![1, 128]⟩
abbrev S128 : Shape := ⟨1, ![128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x1, .f32⟩
  | .hbm, ⟨2, _⟩ => ⟨S10000x128, .f32⟩
  | .hbm, ⟨3, _⟩ => ⟨S8x128, .f32⟩
  | .local _ .vmem, ⟨0, _⟩ => ⟨S1000x128, .f32⟩
  | .local _ .vmem, ⟨1, _⟩ => ⟨S1000x128, .f32⟩
  | .local _ .vmem, ⟨2, _⟩ => ⟨S1000x1, .f32⟩
  | .local _ .vmem, ⟨3, _⟩ => ⟨S1000x1, .f32⟩
  | .local _ .vmem, ⟨4, _⟩ => ⟨S1000x128, .f32⟩
  | .local _ .vmem, ⟨5, _⟩ => ⟨S1000x128, .f32⟩
  | .local _ .vmem, ⟨6, _⟩ => ⟨S8x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MeanRefIdeal.lean ====
abbrev S10000x128 : Shape := ⟨2, ![10000, 128]⟩
abbrev S10000x1 : Shape := ⟨2, ![10000, 1]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x1, .f32⟩
  | .hbm, ⟨2, _⟩ => ⟨S_, .f32⟩
  | .hbm, ⟨3, _⟩ => ⟨S_, .f32⟩
  | .hbm, ⟨4, _⟩ => ⟨S10000x1, .f32⟩
  | .hbm, ⟨5, _⟩ => ⟨S10000x1, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Proof.GruAValue.lean ====
/- The gated recurrent unit over 50000 nodes: the array the kernel leaves is the reference's cell. -/
module

public import proofs.«01_k».proof.Proof.Gen.GruAIdeal.Value
public import proofs.«01_k».proof.Proof.Gen.GruARefIdeal.Read
public import proofs.«01_k».proof.Defs
public import Idealize.ShloMosaic.Lib.Pipeline.ValueKit
public import Idealize.ShloMosaic.Lib.Claim

@[expose] public section

set_option maxRecDepth 16384

noncomputable section

namespace Cert.GruAIdeal.Cell

open Cert.GruAIdeal Cert.GruAIdeal.Gen Idealize.ShloMosaic Idealize.ShloMosaic.TcCoe Idealize.SL.Sem
open Idealize.ShloMosaic.Pipeline (Dat)
open Cert.GruARefIdeal.Read

variable (m : (ℓ : Loc nD τ sig) → Buf (Elt Ideal) ℓ)

/-- The reference's cell of the message, the state and the cell's parameters. -/
abbrev REF (X H : FVec Ideal S50000x128 .f32) (Wi Wh : FVec Ideal S384x128 .f32) (bi bh : FVec Ideal S384 .f32) : FVec Ideal S50000x128 .f32 :=
  val_main_v37 (F := Ideal) X H Wi Wh bi bh

/-- Every window's block index at every grid point: the row windows move with the point, the parameters stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- What grid point `t` stores at index `y` of its block is the reference's cell at the array index there. -/
theorem point (c : Dev nD) (t : Fin cfg0.N) (y) :
    k0_pay1 (iblk m c 0 t) (iblk m c 2 t) (iblk m c 4 t) (iblk m c 1 t) (iblk m c 3 t) (iblk m c 5 t) (iblk m c 1 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb y) := by
  pointwise [k0_pay1, REF, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, val_main_cst_2, val_main_cst_3]
  unfold Ideal.logistic
  blk_point [iblk, V, idx t]

/-- The result array after the run is the reference's cell of the arguments. -/
theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

/-- The two programs, run from memories that agree on the arguments, end with equal results and unchanged
    arguments. -/
theorem algebraic : Cert.algebraic_GruAIdeal_GruARefIdeal := by
  pair_intro
  · run_from Cert.GruAIdeal.Gen.run_main m g
  · run_from Cert.GruARefIdeal.Value.run m' g'
    refine (Cert.GruARefIdeal.Read.val_main_v37_eq m' c).trans ?_
    obtain ⟨h0, h1, h2, h3, h4, h5⟩ := hagree c
    rw [h0, h1, h2, h3, h4, h5]
    exact (final m c).symm

end Cert.GruAIdeal.Cell

end
-- ==== Proof.GruBValue.lean ====
/- The gated recurrent unit over 10000 nodes: the array the kernel leaves is the reference's cell. -/
module

public import proofs.«01_k».proof.Proof.Gen.GruBIdeal.Value
public import proofs.«01_k».proof.Proof.Gen.GruBRefIdeal.Read
public import proofs.«01_k».proof.Defs
public import Idealize.ShloMosaic.Lib.Pipeline.ValueKit
public import Idealize.ShloMosaic.Lib.Claim

@[expose] public section

set_option maxRecDepth 16384

noncomputable section

namespace Cert.GruBIdeal.Cell

open Cert.GruBIdeal Cert.GruBIdeal.Gen Idealize.ShloMosaic Idealize.ShloMosaic.TcCoe Idealize.SL.Sem
open Idealize.ShloMosaic.Pipeline (Dat)
open Cert.GruBRefIdeal.Read

variable (m : (ℓ : Loc nD τ sig) → Buf (Elt Ideal) ℓ)

/-- The reference's cell of the message, the state and the cell's parameters. -/
abbrev REF (X H : FVec Ideal S10000x128 .f32) (Wi Wh : FVec Ideal S384x128 .f32) (bi bh : FVec Ideal S384 .f32) : FVec Ideal S10000x128 .f32 :=
  val_main_v37 (F := Ideal) X H Wi Wh bi bh

/-- Every window's block index at every grid point: the row windows move with the point, the parameters stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- What grid point `t` stores at index `y` of its block is the reference's cell at the array index there. -/
theorem point (c : Dev nD) (t : Fin cfg0.N) (y) :
    k0_pay1 (iblk m c 0 t) (iblk m c 2 t) (iblk m c 4 t) (iblk m c 1 t) (iblk m c 3 t) (iblk m c 5 t) (iblk m c 1 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb y) := by
  pointwise [k0_pay1, REF, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, val_main_cst_2, val_main_cst_3]
  unfold Ideal.logistic
  blk_point [iblk, V, idx t]

/-- The result array after the run is the reference's cell of the arguments. -/
theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  exact point m c t y

/-- The two programs, run from memories that agree on the arguments, end with equal results and unchanged
    arguments. -/
theorem algebraic : Cert.algebraic_GruBIdeal_GruBRefIdeal := by
  pair_intro
  · run_from Cert.GruBIdeal.Gen.run_main m g
  · run_from Cert.GruBRefIdeal.Value.run m' g'
    refine (Cert.GruBRefIdeal.Read.val_main_v37_eq m' c).trans ?_
    obtain ⟨h0, h1, h2, h3, h4, h5⟩ := hagree c
    rw [h0, h1, h2, h3, h4, h5]
    exact (final m c).symm

end Cert.GruBIdeal.Cell

end
-- ==== Proof.MatAValue.lean ====
/- The message product of the graph convolution over 50000 nodes: the array the kernel leaves is the reference's
   matrix product. -/
module

public import proofs.«01_k».proof.Proof.Gen.MatAIdeal.Value
public import proofs.«01_k».proof.Proof.Gen.MatARefIdeal.Run
public import proofs.«01_k».proof.Defs
public import Idealize.ShloMosaic.Lib.Pipeline.ValueKit
public import Idealize.ShloMosaic.Lib.Claim

@[expose] public section

set_option maxRecDepth 16384

noncomputable section

namespace Cert.MatAIdeal.Product

open Cert.MatAIdeal Cert.MatAIdeal.Gen Idealize.ShloMosaic Idealize.ShloMosaic.TcCoe Idealize.SL.Sem
open Idealize.ShloMosaic.Pipeline (Dat)

variable (m : (ℓ : Loc nD τ sig) → Buf (Elt Ideal) ℓ)

/-- The reference's product of the node features and the weight. -/
abbrev REF (X : FVec Ideal S50000x128 .f32) (W : FVec Ideal S128x128 .f32) : FVec Ideal S50000x128 .f32 :=
  Host.dotGeneral Cert.MatARefIdeal.dot_S50000x128_S128x128_S50000x128_1_0_0_1_n_n none X W

/-- Every window's block index at every grid point: the row windows move with the point, the weight stays. -/
theorem idx : ∀ t : Fin cfg0.N, win0_0.index t = ![t.val, 0] ∧ win0_1.index t = ![0, 0] ∧ win0_2.index t = ![t.val, 0] :=
  (by decide +kernel : ∀ t : Fin grid0.N, _)

/-- What grid point `t` stores at index `y` of its block is the reference's product at the array index there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the reference's product of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The two programs, run from memories that agree on the arguments, end with equal results and unchanged
    arguments. -/
theorem algebraic : Cert.algebraic_MatAIdeal_MatARefIdeal := by
  pair_intro
  · run_from Cert.MatAIdeal.Gen.run_main m g
  · run_from Cert.MatARefIdeal.Value.run m' g'
    exact (final m c).symm

end Cert.MatAIdeal.Product

end
-- ==== Proof.MatBValue.lean ====
/- The message product of the graph convolution over 10000 nodes: the array the kernel leaves is the reference's
   matrix product. -/
module

public import proofs.«01_k».proof.Proof.Gen.MatBIdeal.Value
public import proofs.«01_k».proof.Proof.Gen.MatBRefIdeal.Run
public import proofs.«01_k».proof.Defs
public import Idealize.ShloMosaic.Lib.Pipeline.ValueKit
public import Idealize.ShloMosaic.Lib.Claim

@[expose] public section

set_option maxRecDepth 16384

noncomputable section

namespace Cert.MatBIdeal.Product

open Cert.MatBIdeal Cert.MatBIdeal.Gen Idealize.ShloMosaic Idealize.ShloMosaic.TcCoe Idealize.SL.Sem
open Idealize.ShloMosaic.Pipeline (Dat)

variable (m : (ℓ : Loc nD τ sig) → Buf (Elt Ideal) ℓ)

/-- The reference's product of the node features and the weight. -/
abbrev REF (X : FVec Ideal S10000x128 .f32) (W : FVec Ideal S128x128 .f32) : FVec Ideal S10000x128 .f32 :=
  Host.dotGeneral Cert.MatBRefIdeal.dot_S10000x128_S128x128_S10000x128_1_0_0_1_n_n none X W

/-- Every window's block index at every grid point: the row windows move with the point, the weight stays. -/
theorem idx : ∀ t : Fin cfg0.N, win0_0.index t = ![t.val, 0] ∧ win0_1.index t = ![0, 0] ∧ win0_2.index t = ![t.val, 0] :=
  (by decide +kernel : ∀ t : Fin grid0.N, _)

/-- What grid point `t` stores at index `y` of its block is the reference's product at the array index there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the reference's product of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The two programs, run from memories that agree on the arguments, end with equal results and unchanged
    arguments. -/
theorem algebraic : Cert.algebraic_MatBIdeal_MatBRefIdeal := by
  pair_intro
  · run_from Cert.MatBIdeal.Gen.run_main m g
  · run_from Cert.MatBRefIdeal.Value.run m' g'
    exact (final m c).symm

end Cert.MatBIdeal.Product

end
-- ==== Proof.AddMatValue.lean ====
/- The skip connection and the first message product over 50000 nodes: the two arrays the kernel leaves are the
   reference's sum and the matrix product of that sum. -/
module

public import proofs.«01_k».proof.Proof.Gen.AddMatIdeal.Value
public import proofs.«01_k».proof.Proof.Gen.AddMatRefIdeal.Run
public import proofs.«01_k».proof.Defs
public import Idealize.ShloMosaic.Lib.Pipeline.ValueKit
public import Idealize.ShloMosaic.Lib.Claim

@[expose] public section

set_option maxRecDepth 16384

noncomputable section

namespace Cert.AddMatIdeal.Product

open Cert.AddMatIdeal Cert.AddMatIdeal.Gen Idealize.ShloMosaic Idealize.ShloMosaic.TcCoe Idealize.SL.Sem
open Idealize.ShloMosaic.Pipeline (Dat)

variable (m : (ℓ : Loc nD τ sig) → Buf (Elt Ideal) ℓ)

/-- The reference's skip connection: the sum of the two feature arrays. -/
abbrev SUM (X S : FVec Ideal S50000x128 .f32) : FVec Ideal S50000x128 .f32 := addf X S

/-- The reference's product of the summed features and the weight. -/
abbrev PROD (X S : FVec Ideal S50000x128 .f32) (W : FVec Ideal S128x128 .f32) : FVec Ideal S50000x128 .f32 :=
  Host.dotGeneral Cert.AddMatRefIdeal.dot_S50000x128_S128x128_S50000x128_1_0_0_1_n_n none (addf X S) W

/-- Every window's block index at every grid point: the row windows move with the point, the weight stays. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, _)

/-- The first result array after the run is the sum of the arguments. -/
theorem final_sum (c : Dev nD) : (dats m 0 c).arrAt 3 (cfgs 0).N
    = SUM (m ((c : Thread nD τ).loc main_arg0)) (m ((c : Thread nD τ).loc main_arg1)) := by
  refine (dats m 0 c).arrAt_eq_of_covers 3 _ (by decide +kernel) fun t _ y => ?_
  blk_simp
  rw [after0_3]; frame_out
  pointwise [k0_pay1, SUM]
  blk_point [iblk, V, idx t]

/-- The second result array after the run is the reference's product of the sum and the weight. -/
theorem final_prod (c : Dev nD) : (dats m 0 c).arrAt 4 (cfgs 0).N
    = PROD (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  pointwise [k0_pay2, k0_pay1, PROD]
  blk_point [iblk, V, idx t]

/-- The two programs, run from memories that agree on the arguments, end with equal results and unchanged
    arguments. -/
theorem algebraic : Cert.algebraic_AddMatIdeal_AddMatRefIdeal := by
  pair_intro
  · run_from Cert.AddMatIdeal.Gen.run_main m g
  · run_from Cert.AddMatRefIdeal.Value.run m' g'
    · exact (final_sum m c).symm
    · exact (final_prod m c).symm

end Cert.AddMatIdeal.Product

end
-- ==== Proof.Rows.lean ====
/- Facts shared by the calls that follow indices: a word that the precondition bounds names a row that there is, and a
   loop that stores one block of a target per trip leaves the target. -/
module

public import Idealize.ShloMosaic.Lib.Pipeline.ValueKit
public import Idealize.ShloMosaic.Lib.StableHlo.Predicate

@[expose] public section

noncomputable section

namespace Cert.Rows

open Idealize.ShloMosaic Idealize.SL.Sem

/-- A word whose tests `0 ≤ v` and `v < N`, both signed, hold together is below `N` as a natural number. -/
theorem toNat_lt_of_tests {v : BitVec 32} (N : ℕ) (hN : N < 2 ^ 31)
    (h : IntOp.andi (IntOp.cmpi .sge v 0#32) (IntOp.cmpi .slt v (BitVec.ofNat 32 N)) = 1#1) : v.toNat < N := by
  have h' : ((0#32).sle v && v.slt (BitVec.ofNat 32 N)) = true := by
    revert h
    simp only [IntOp.andi, IntOp.cmpi]
    cases (0#32).sle v <;> cases v.slt (BitVec.ofNat 32 N) <;> decide
  obtain ⟨h0, h1⟩ := Bool.and_eq_true_iff.mp h'
  have hn : (BitVec.ofNat 32 N).toInt = N := StableHlo.Predicate.toInt_ofNat_small _ hN
  simp only [BitVec.sle, BitVec.slt, decide_eq_true_eq, hn] at h0 h1
  simp only [BitVec.toInt, BitVec.toNat_ofNat] at h0 h1
  have := v.isLt
  omega

/-- The row of an `n`-row table that a word names. -/
abbrev row (n : ℕ) [NeZero n] (w : BitVec 32) : Fin n := ⟨w.toNat % n, Nat.mod_lt _ (NeZero.pos n)⟩

/-- A word below the number of rows is the row it names. -/
theorem eq_ofNat_row {n : ℕ} [NeZero n] {w : BitVec 32} (h : w.toNat < n) : w = BitVec.ofNat 32 (row n w).val := by
  apply BitVec.eq_of_toNat_eq
  have := w.isLt
  rw [BitVec.toNat_ofNat, show (row n w).val = w.toNat from Nat.mod_eq_of_lt h, Nat.mod_eq_of_lt this]

/-- The host's treatment of a negative index leaves a word that is not negative as it is. -/
theorem wrap_of_lt {w : BitVec 32} (c : BitVec 32) (h : w.toNat < 2 ^ 31) :
    Scalar.select (IntOp.cmpi .slt w 0#32) (IntOp.addi w c) w = w := by
  have h' : w.slt 0#32 = false := by
    simp only [BitVec.slt, BitVec.toInt, BitVec.toNat_ofNat, decide_eq_false_iff_not]
    omega
  simp only [Scalar.select, IntOp.cmpi, h']
  rfl

variable {S : Shape} {e : EltTy} {Val : EltTy → Type}

/-- Pieces gathered trip by trip, each trip adding one block of `G` in front of the earlier ones: after trips that
    together cover the shape, the pieces leave `G`. -/
theorem canon_of_trips [∀ e, Nonempty (Val e)] (G : S.Idx → Val e) (N : ℕ) (P : ℕ → List (View.Piece Val S e))
    (p : (k : ℕ) → k < N → View.Piece Val S e) (h0 : P 0 = [])
    (hs : ∀ k (hk : k < N), P (k + 1) = p k hk :: P k)
    (hp : ∀ k (hk : k < N), ∀ x : (p k hk).1.shape.Idx, (p k hk).2 x = G ((p k hk).1.emb x))
    (hc : ∀ y : S.Idx, ∃ k, ∃ hk : k < N, y ∈ (p k hk).1.set) : View.canon (P N) = G := by
  have hm : ∀ n, n ≤ N → (∀ q ∈ P n, ∀ x : q.1.shape.Idx, q.2 x = G (q.1.emb x))
      ∧ ∀ k (hk : k < N), k < n → p k hk ∈ P n := by
    intro n
    induction n with
    | zero => intro _; rw [h0]; exact ⟨fun q hq => absurd hq List.not_mem_nil, fun k _ hk => absurd hk (Nat.not_lt_zero k)⟩
    | succ n ih =>
      intro hn
      obtain ⟨ih1, ih2⟩ := ih (Nat.le_of_succ_le hn)
      rw [hs n hn]
      refine ⟨fun q hq => ?_, fun k hk hkn => ?_⟩
      · rcases List.mem_cons.mp hq with rfl | hq
        · exact hp n hn
        · exact ih1 q hq
      · rcases Nat.lt_succ_iff_lt_or_eq.mp hkn with hlt | rfl
        · exact List.mem_cons_of_mem _ (ih2 k hk hlt)
        · exact List.mem_cons_self
  funext y
  obtain ⟨k, hk, hy⟩ := hc y
  exact View.canon_apply_of_pieces G (P N) (hm N le_rfl).1 y ⟨_, (hm N le_rfl).2 k hk hk, hy⟩

end Cert.Rows

end
-- ==== Proof.PairHeadValue.lean ====
/- The pair head: the precondition bounds the pairs' indices, the loop gathers the two rows of every pair, and the
   array the kernel leaves is the reference's. -/
module

public import proofs.«01_k».proof.Proof.Gen.PairHeadIdeal.Value
public import proofs.«01_k».proof.Proof.Gen.PairHeadRefIdeal.Run
public import proofs.«01_k».proof.Proof.Gen.PairHeadRefIdeal.Read
public import proofs.«01_k».proof.Proof.Gen.Pre_pairs_in_range
public import proofs.«01_k».proof.Proof.Rows
public import proofs.«01_k».proof.Defs
public import Idealize.ShloMosaic.Lib.Pipeline.ValueKit
public import Idealize.ShloMosaic.Lib.Routing.Ops
public import Idealize.ShloMosaic.Lib.Claim

@[expose] public section

set_option maxRecDepth 16384

noncomputable section

namespace Cert.PairHeadIdeal.Head

open Cert.PairHeadIdeal Cert.PairHeadIdeal.Gen Idealize.ShloMosaic Idealize.ShloMosaic.TcCoe Idealize.SL.Sem
open Idealize.ShloMosaic.Pipeline (Dat)
open Cert.PairHeadRefIdeal.Read Cert.Rows

variable (m : (ℓ : Loc nD τ sig) → Buf (Elt Ideal) ℓ)

/-- Every window's block index at every grid point. -/
theorem idx : ∀ t : Fin cfg0.N, win0_0.index t = ![0, t.val] ∧ win0_1.index t = ![0, t.val] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- The first index of pair `k` of point `t`'s block is the first index of every second column of the argument. -/
theorem word0 (c : Dev nD) (t : Fin cfg0.N) (i : S1x3200.Idx) (j : Fin 160000) (hj : (j : ℕ) = 2 * (t.val * 3200 + (i 1).val)) :
    iblk m c 0 t i = m ((c : Thread nD τ).loc main_arg1) (ix2 (0 : Fin 2) j) := by
  unfold iblk
  entry_read
  blk_simp
  pointwise
  blk_ext [idx t]

/-- The second index of pair `k` of point `t`'s block is the second index of every second column of the argument. -/
theorem word1 (c : Dev nD) (t : Fin cfg0.N) (i : S1x3200.Idx) (j : Fin 160000) (hj : (j : ℕ) = 2 * (t.val * 3200 + (i 1).val)) :
    iblk m c 1 t i = m ((c : Thread nD τ).loc main_arg1) (ix2 (1 : Fin 2) j) := by
  unfold iblk
  entry_read
  blk_simp
  pointwise
  blk_ext [idx t]

/-- Under the precondition every index is below the number of rows. -/
theorem bound (h : Cert.Pre_PairHeadIdeal m) (c : Dev nD) (y : S2x160000.Idx) :
    BitVec.toNat (m ((c : Thread nD τ).loc main_arg1) y) < 10000 :=
  toNat_lt_of_tests 10000 (by decide) (congrFun (h c) y)

/-- The side conditions of the two gathers follow from the precondition. -/
theorem hyps_of_pre (h : Cert.Pre_PairHeadIdeal m) : Hyps m := by
  have hw0 : ∀ (c : Dev nD) (t : Fin cfg0.N) (i : S1x3200.Idx), BitVec.toNat (iblk m c 0 t i) < 10000 := fun c t i => by
    have ht : t.val < 25 := t.isLt
    have hi : (i 1).val < 3200 := (i 1).isLt
    exact (congrArg BitVec.toNat (word0 m c t i ⟨2 * (t.val * 3200 + (i 1).val), by omega⟩ rfl)).trans_lt (bound m h c _)
  have hw1 : ∀ (c : Dev nD) (t : Fin cfg0.N) (i : S1x3200.Idx), BitVec.toNat (iblk m c 1 t i) < 10000 := fun c t i => by
    have ht : t.val < 25 := t.isLt
    have hi : (i 1).val < 3200 := (i 1).isLt
    exact (congrArg BitVec.toNat (word1 m c t i ⟨2 * (t.val * 3200 + (i 1).val), by omega⟩ rfl)).trans_lt (bound m h c _)
  have chk1 : ∀ v : BitVec 32, v.toNat < 10000 → k0_chk1 v := fun v hv => by
    unfold k0_chk1 k0_off2; intro a; fin_cases a <;> simp [Scalar.indexCast] <;> omega
  have chk2 : ∀ v : BitVec 32, v.toNat < 10000 → k0_chk2 v := fun v hv => by
    unfold k0_chk2 k0_off4; intro a; fin_cases a <;> simp [Scalar.indexCast] <;> omega
  refine Hyps.of (fun c t kq hkq => ?_) (fun c t kq hkq => ?_)
  · rw [View.readAt_apply, Memref.IsWhole.read_unread]; exact chk1 _ (hw0 c t _)
  · rw [View.readAt_apply, Memref.IsWhole.read_unread]; exact chk2 _ (hw1 c t _)

/-- A word that passes the first gather's side condition names a row of the features. -/
theorem lt_of_chk1 {v : BitVec 32} (h : k0_chk1 v) : v.toNat < 10000 := by
  have h0 : v.toNat + 1 ≤ 10000 := h 0
  omega

/-- A word that passes the second gather's side condition names a row of the features. -/
theorem lt_of_chk2 {v : BitVec 32} (h : k0_chk2 v) : v.toNat < 10000 := by
  have h0 : v.toNat + 1 ≤ 10000 := h 0
  omega

/-- The pieces the loop's first `n` trips store at point `t`, per scratch buffer. -/
abbrev pieces (hH : Hyps m) (c : Dev nD) (t : Fin cfg0.N) (n : ℕ) :=
  pb_k0_t1 (F := Ideal) Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    scM0_0 (Memref.isWhole_whole _) scM0_1 (Memref.isWhole_whole _)
    ((hs0_0 t).unread (iblk m c 0 t)) ((hs0_1 t).unread (iblk m c 1 t)) ((hs0_2 t).unread (iblk m c 2 t))
    (Hyps.c0 hH c t) (Hyps.c1 hH c t) n

/-- The rows that a block of indices names. -/
abbrev rowsOf (X : FVec Ideal S10000x128 .f32) (W : IVec S1x3200 32) : FVec Ideal S3200x128 .f32 :=
  fun y => X (ix2 (row 10000 (W (ix2 (0 : Fin 1) (y 0)))) (y 1))

/-- One trip: the row loaded at a word's row is, at row `k` of the target, the row that the word names. -/
theorem gather_step (X : FVec Ideal S10000x128 .f32) (W : IVec S1x3200 32) (k : Fin 3200) (w : BitVec 32) (hw : w = W (ix2 (0 : Fin 1) k))
    (hb : w.toNat < 10000) (off off' : Fin 2 → ℕ) (ho : off = ![w.toNat, 0]) (ho' : off' = ![k.val, 0])
    (inb : ∀ a, off a + S1x128.size a ≤ S10000x128.size a) (inb' : ∀ a, off' a + S1x128.size a ≤ S3200x128.size a) (x : S1x128.Idx) :
    X ((Rect.unit (s := S10000x128) off S1x128.size inb).toLoadRect.idx x)
      = rowsOf X W ((Rect.unit (s := S3200x128) off' S1x128.size inb').emb x) := by
  subst ho ho'
  have hx : (x 0).val < 1 := (x 0).isLt
  have e0 : (Rect.unit (s := S3200x128) ![k.val, 0] S1x128.size inb').emb x 0 = k := Fin.ext (by
    show k.val + 1 * (x 0).val = k.val; omega)
  refine congrArg X (funext fun a => Fin.ext ?_)
  match a with
  | ⟨0, _⟩ =>
    show w.toNat + 1 * (x 0).val = (W (ix2 (0 : Fin 1) ((Rect.unit (s := S3200x128) ![k.val, 0] S1x128.size inb').emb x 0))).toNat % 10000
    rw [e0, ← hw]; omega
  | ⟨1, _⟩ => rfl

/-- Row `k` of the target is stored by trip `k`. -/
theorem row_covered (y : S3200x128.Idx) (off : Fin 2 → ℕ) (ho : off = ![(y 0).val, 0])
    (inb : ∀ a, off a + S1x128.size a ≤ S3200x128.size a) : y ∈ (Rect.unit (s := S3200x128) off S1x128.size inb).set := by
  subst ho
  rw [Rect.mem_set_unit]
  intro a
  match a with
  | ⟨0, _⟩ => exact ⟨le_rfl, Nat.lt_succ_self _⟩
  | ⟨1, _⟩ => exact ⟨Nat.zero_le _, by show (y 1).val < 0 + 128; have := (y 1).isLt; simpa using this⟩

/-- After the loop the first scratch buffer holds the rows that the first indices name. -/
theorem gathered0 (hH : Hyps m) (c : Dev nD) (t : Fin cfg0.N) :
    View.canon (pieces m hH c t 3200).1 = rowsOf (iblk m c 2 t) (iblk m c 0 t) := by
  refine canon_of_trips _ 3200 (fun n => (pieces m hH c t n).1)
    (fun k hk => ⟨Rect.unit (s := S3200x128) (k0_off3 ⟨k, hk⟩) S1x128.size (k0_off3_inb ⟨k, hk⟩),
      k0_pay1 ((ms0_2 t).view.readAt (Elt Ideal) (Rect.unit (s := S10000x128) (k0_off2 _) S1x128.size (k0_off2_inb _ (Hyps.c0 hH c t k hk))).toLoadRect ((hs0_2 t).unread (iblk m c 2 t)))⟩)
    rfl (fun k hk => ?_) (fun k hk x => ?_) fun y => ⟨(y 0).val, (y 0).isLt, row_covered y _ (k0_off3_eq ⟨(y 0).val, (y 0).isLt⟩) (k0_off3_inb _)⟩
  · refine (congrArg Prod.fst (pb_k0_t1_succ (F := Ideal) Variants.none c none (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t)
      scM0_0 (Memref.isWhole_whole _) scM0_1 (Memref.isWhole_whole _)
      ((hs0_0 t).unread (iblk m c 0 t)) ((hs0_1 t).unread (iblk m c 1 t)) ((hs0_2 t).unread (iblk m c 2 t))
      (Hyps.c0 hH c t) (Hyps.c1 hH c t) ⟨k, hk⟩)).trans ?_
    dsimp only
    unfold trip_k0_t1
    rfl
  · dsimp only
    unfold k0_pay1
    rw [shapeCast_self, View.readAt_apply, Memref.IsWhole.read_unread]
    refine gather_step (iblk m c 2 t) (iblk m c 0 t) ⟨k, hk⟩ _ ?_ (lt_of_chk1 (Hyps.c0 hH c t k hk)) _ _ rfl (k0_off3_eq _) _ _ x
    rw [View.readAt_apply, Memref.IsWhole.read_unread]
    refine congrArg (iblk m c 0 t) ?_
    funext a
    match a with
    | ⟨0, _⟩ => exact Subsingleton.elim (α := Fin 1) _ _
    | ⟨1, _⟩ => exact Fin.ext (by show k0_off1 ⟨k, hk⟩ 1 + 1 * 0 = k; rw [k0_off1_eq]; rfl)

/-- After the loop the second scratch buffer holds the rows that the second indices name. -/
theorem gathered1 (hH : Hyps m) (c : Dev nD) (t : Fin cfg0.N) :
    View.canon (pieces m hH c t 3200).2 = rowsOf (iblk m c 2 t) (iblk m c 1 t) := by
  refine canon_of_trips _ 3200 (fun n => (pieces m hH c t n).2)
    (fun k hk => ⟨Rect.unit (s := S3200x128) (k0_off5 ⟨k, hk⟩) S1x128.size (k0_off5_inb ⟨k, hk⟩),
      k0_pay2 ((ms0_2 t).view.readAt (Elt Ideal) (Rect.unit (s := S10000x128) (k0_off4 _) S1x128.size (k0_off4_inb _ (Hyps.c1 hH c t k hk))).toLoadRect ((hs0_2 t).unread (iblk m c 2 t)))⟩)
    rfl (fun k hk => ?_) (fun k hk x => ?_) fun y => ⟨(y 0).val, (y 0).isLt, row_covered y _ (k0_off5_eq ⟨(y 0).val, (y 0).isLt⟩) (k0_off5_inb _)⟩
  · refine (congrArg Prod.snd (pb_k0_t1_succ (F := Ideal) Variants.none c none (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t)
      scM0_0 (Memref.isWhole_whole _) scM0_1 (Memref.isWhole_whole _)
      ((hs0_0 t).unread (iblk m c 0 t)) ((hs0_1 t).unread (iblk m c 1 t)) ((hs0_2 t).unread (iblk m c 2 t))
      (Hyps.c0 hH c t) (Hyps.c1 hH c t) ⟨k, hk⟩)).trans ?_
    dsimp only
    unfold trip_k0_t1
    rfl
  · dsimp only
    unfold k0_pay2
    rw [shapeCast_self, View.readAt_apply, Memref.IsWhole.read_unread]
    refine gather_step (iblk m c 2 t) (iblk m c 1 t) ⟨k, hk⟩ _ ?_ (lt_of_chk2 (Hyps.c1 hH c t k hk)) _ _ rfl (k0_off5_eq _) _ _ x
    rw [View.readAt_apply, Memref.IsWhole.read_unread]
    refine congrArg (iblk m c 1 t) ?_
    funext a
    match a with
    | ⟨0, _⟩ => exact Subsingleton.elim (α := Fin 1) _ _
    | ⟨1, _⟩ => exact Fin.ext (by show k0_off1 ⟨k, hk⟩ 1 + 1 * 0 = k; rw [k0_off1_eq]; rfl)

/-- A gather of rows through one row of the indices reads the rows those indices name. -/
theorem gather_at (X : FVec Ideal S10000x128 .f32) (E : IVec S2x160000 32) (hE : ∀ y, (E y).toNat < 10000) (j : Fin 160000) (k : Fin 128) :
    val_main_v8 (F := Ideal) X E (ix2 j k) = X (ix2 (row 10000 (E (ix2 (0 : Fin 2) j))) k)
    ∧ val_main_v17 (F := Ideal) X E (ix2 j k) = X (ix2 (row 10000 (E (ix2 (1 : Fin 2) j))) k) := by
  constructor
  · refine Routing.gather_row _ rfl rfl rfl rfl rfl X (val_main_v7 (F := Ideal) E) j k _ ?_ (by decide)
    pointwise [val_main_v7, val_main_v6, val_main_v5, val_main_v4, val_main_v3, val_main_v2, val_main_v1, val_main_v0, val_main_c, val_main_c_0]
    exact (wrap_of_lt _ ((hE (ix2 (0 : Fin 2) j)).trans (by decide))).trans (eq_ofNat_row (hE (ix2 (0 : Fin 2) j)))
  · refine Routing.gather_row _ rfl rfl rfl rfl rfl X (val_main_v16 (F := Ideal) E) j k _ ?_ (by decide)
    pointwise [val_main_v16, val_main_v15, val_main_v14, val_main_v13, val_main_v12, val_main_v11, val_main_v10, val_main_v9, val_main_c_1, val_main_c_2]
    exact (wrap_of_lt _ ((hE (ix2 (1 : Fin 2) j)).trans (by decide))).trans (eq_ofNat_row (hE (ix2 (1 : Fin 2) j)))

/-- Row `r` of the reference's pair array: the two rows that the indices of column `2 r` name, side by side. -/
theorem pair_at (X : FVec Ideal S10000x128 .f32) (E : IVec S2x160000 32) (hE : ∀ y, (E y).toNat < 10000) (r : Fin 80000) (k : Fin 128) (j : Fin 160000)
    (hj : j.val = 2 * r.val) :
    val_main_v19 (F := Ideal) X E (ix2 r (⟨k.val, by omega⟩ : Fin 256)) = X (ix2 (row 10000 (E (ix2 (0 : Fin 2) j))) k)
    ∧ val_main_v19 (F := Ideal) X E (ix2 r (⟨128 + k.val, by omega⟩ : Fin 256)) = X (ix2 (row 10000 (E (ix2 (1 : Fin 2) j))) k) := by
  have hr := r.isLt
  obtain rfl : (⟨2 * r.val, by clear hj; omega⟩ : Fin 160000) = j := Fin.ext hj.symm
  constructor
  · pointwise [val_main_v19, val_main_v18]
    exact (gather_at X E hE _ k).1
  · pointwise [val_main_v19, val_main_v18]
    exact (gather_at X E hE _ k).2

/-- A sum over 256 columns is the sum over the first 128 and the sum over the last 128. -/
theorem sum_halves {M : Type} [AddCommMonoid M] (f : Fin 256 → M) :
    ∑ k, f k = ∑ k : Fin 128, f ⟨k.val, by omega⟩ + ∑ k : Fin 128, f ⟨128 + k.val, by omega⟩ :=
  Fin.sum_univ_add (a := 128) (b := 128) f

/-- The reference's result. -/
abbrev REF (X : FVec Ideal S10000x128 .f32) (E : IVec S2x160000 32) (W1 : FVec Ideal S256x128 .f32) (b1 : FVec Ideal S128 .f32)
    (W2 : FVec Ideal S128x1 .f32) (b2 : FVec Ideal S1 .f32) : FVec Ideal S80000x1 .f32 := val_main_v28 (F := Ideal) X E W1 b1 W2 b2

/-- The first weight block is the first 128 rows of the weights. -/
theorem wblk0 (c : Dev nD) (t : Fin cfg0.N) (k x : Fin 128) :
    iblk m c 3 t (ix2 k x) = m ((c : Thread nD τ).loc main_arg2) (ix2 (⟨k.val, by omega⟩ : Fin 256) x) := by
  unfold iblk; entry_read; blk_simp; pointwise; blk_ext [idx t]

/-- The second weight block is the last 128 rows of the weights. -/
theorem wblk1 (c : Dev nD) (t : Fin cfg0.N) (k x : Fin 128) :
    iblk m c 4 t (ix2 k x) = m ((c : Thread nD τ).loc main_arg2) (ix2 (⟨128 + k.val, by omega⟩ : Fin 256) x) := by
  unfold iblk; entry_read; blk_simp; pointwise; blk_ext [idx t]

/-- The bias blocks are the biases and the last weights' block is the last weights. -/
theorem bblk (c : Dev nD) (t : Fin cfg0.N) (x : Fin 128) :
    iblk m c 5 t (ix2 (0 : Fin 1) x) = m ((c : Thread nD τ).loc main_arg3) (ix1 x)
    ∧ (∀ z : Fin 1, iblk m c 6 t (ix2 x z) = m ((c : Thread nD τ).loc main_arg4) (ix2 x z))
    ∧ iblk m c 7 t (ix2 (0 : Fin 1) (0 : Fin 1)) = m ((c : Thread nD τ).loc main_arg5) (ix1 (0 : Fin 1)) := by
  refine ⟨?_, fun z => ?_, ?_⟩
  · unfold iblk; entry_read; blk_simp; pointwise; blk_ext [idx t]
  · blk_ext [iblk, V, idx t]
  · unfold iblk; entry_read; blk_simp; pointwise; blk_ext [idx t]

/-- The features' block is the features. -/
theorem xblk (c : Dev nD) (t : Fin cfg0.N) (i : S10000x128.Idx) : iblk m c 2 t i = m ((c : Thread nD τ).loc main_arg0) i := by
  blk_ext [iblk, V, idx t]

/-- A load of a whole buffer at offset zero reads its contents. -/
theorem load_whole (C G : FVec Ideal S3200x128 .f32) (inb) (hC : C = G) :
    (fun j => C ((Rect.unit (s := S3200x128) ![0, 0] ![3200, 128] inb).toLoadRect.idx j)) = G := by
  rw [hC]
  exact View.ld_unit_zero (Val := Elt Ideal) (e := .f32) (by decide) inb G

/-- What grid point `t` stores at index `y` of its block is the reference's value at the array index there. -/
theorem point (h : Cert.Pre_PairHeadIdeal m) (c : Dev nD) (t : Fin cfg0.N) (y) :
    k0_pay3 (rowsOf (iblk m c 2 t) (iblk m c 0 t)) (iblk m c 3 t) (rowsOf (iblk m c 2 t) (iblk m c 1 t)) (iblk m c 4 t) (iblk m c 5 t) (iblk m c 6 t) (iblk m c 7 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 8).blk t).view.emb y) := by
  pointwise [k0_pay3, REF, val_main_v20, val_main_v21, val_main_v22, val_main_v23, val_main_v24, val_main_v25, val_main_v26, val_main_v27, val_main_v28, val_main_call0_v0, val_main_call0_cst]
  have ht : t.val < 25 := t.isLt
  have hy : (y 0).val < 3200 := (y 0).isLt
  obtain ⟨r, hr⟩ : ∃ r : Fin 80000, r.val = t.val * 3200 + (y 0).val := ⟨⟨_, by omega⟩, rfl⟩
  have er : (((cfg0.win 8).blk t).view.emb y) 0 = r := by
    refine Fin.ext (Eq.trans ?_ hr.symm)
    blk_ext [idx t]
  have ec : (((cfg0.win 8).blk t).view.emb y) 1 = y 1 := Subsingleton.elim (α := Fin 1) _ _
  have e0 := fun k => (pair_at (m ((c : Thread nD τ).loc main_arg0)) (m ((c : Thread nD τ).loc main_arg1)) (bound m h c) r k ⟨2 * r.val, by omega⟩ rfl)
  have f0 : ∀ k, rowsOf (iblk m c 2 t) (iblk m c 0 t) (ix2 (y 0) k) = _ := fun k =>
    ((xblk m c t _).trans (congrArg (fun w => m ((c : Thread nD τ).loc main_arg0) (ix2 (row 10000 w) k)) (word0 m c t (ix2 (0 : Fin 1) (y 0)) ⟨2 * r.val, by omega⟩ (by show 2 * r.val = _; rw [hr]; rfl)))).trans (e0 k).1.symm
  have f1 : ∀ k, rowsOf (iblk m c 2 t) (iblk m c 1 t) (ix2 (y 0) k) = _ := fun k =>
    ((xblk m c t _).trans (congrArg (fun w => m ((c : Thread nD τ).loc main_arg0) (ix2 (row 10000 w) k)) (word1 m c t (ix2 (0 : Fin 1) (y 0)) ⟨2 * r.val, by omega⟩ (by show 2 * r.val = _; rw [hr]; rfl)))).trans (e0 k).2.symm
  refine congrArg₂ (· + ·) (Finset.sum_congr rfl fun x _ => congrArg₂ (· * ·) (congrArg (max · 0) (congrArg₂ (· + ·) ?_ (bblk m c t x).1)) ?_) (bblk m c t 0).2.2
  · refine Eq.trans ?_ (sum_halves _).symm
    exact congrArg₂ (· + ·) (Finset.sum_congr rfl fun k _ => congrArg₂ (· * ·) ((f0 k).trans (by rw [← er])) (wblk0 m c t k x))
      (Finset.sum_congr rfl fun k _ => congrArg₂ (· * ·) ((f1 k).trans (by rw [← er])) (wblk1 m c t k x))
  · exact ((bblk m c t x).2.1 (y 1)).trans (congrArg (fun z => m ((c : Thread nD τ).loc main_arg4) (ix2 x z)) ec.symm)

/-- The result array after the run is the reference of the arguments. -/
theorem final (h : Cert.Pre_PairHeadIdeal m) (c : Dev nD) : (dats m (hyps_of_pre m h) 0 c).arrAt 8 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m _ 0 c).arrAt_eq_of_covers 8 _ (by decide +kernel) fun t _ y => ?_
  blk_simp
  rw [after0_8]; unfold outsAt0; frame_out
  rw [View.readCov_eq_canon', View.readCov_eq_canon']
  rw [show Scf.trips (0#32) (Scalar.addi 0#32 3200#32) 1#32 = 3200 by decide +kernel]
  exact (congrArg₂ (fun a b => k0_pay3 a (iblk m c 3 t) b (iblk m c 4 t) (iblk m c 5 t) (iblk m c 6 t) (iblk m c 7 t) y)
    (load_whole _ _ _ (gathered0 m (hyps_of_pre m h) c t)) (load_whole _ _ _ (gathered1 m (hyps_of_pre m h) c t))).trans (point m h c t y)

/-- The two programs, run from memories that agree on the arguments, end with equal results and unchanged
    arguments. -/
theorem algebraic : Cert.algebraic_PairHeadIdeal_PairHeadRefIdeal := by
  pair_intro
  · run_from Cert.PairHeadIdeal.Gen.run_main m g (hyps_of_pre m hpre)
  · run_from Cert.PairHeadRefIdeal.Value.run m' g'
    refine (Cert.PairHeadRefIdeal.Read.val_main_v28_eq _ _ _ _ _ _).trans ?_
    exact (final m hpre c).symm

end Cert.PairHeadIdeal.Head

end
-- ==== Proof.SegSum.lean ====
/- Facts shared by the calls that sum rows by target: a loop whose trips each add one row of a table into the row of an
   array that a word names, and an accumulating scatter of rows. Both are sums over the edges into a row. -/
module

public import proofs.«01_k».proof.Proof.Rows
public import Idealize.ShloMosaic.Lib.Pipeline.ValueKit
public import Idealize.ShloMosaic.Lib.Routing.Ops
public import Idealize.ShloMosaic.Lib.Routing.OpsPair
public import Idealize.ShloMosaic.Lib.WritesUnit

@[expose] public section

noncomputable section

namespace Cert.SegSum

open Idealize.ShloMosaic Idealize.ShloMosaic.Routing Idealize.SL.Sem

variable {sig : RefSig} {κ : Kind} {sp : Space} {n B : ℕ}

/-- What edge number `k` adds at an index, of edges given by their target rows and by the rows they carry: the carried
    row's entry if the index is in the target row, and nothing otherwise. -/
abbrev edge (d : ℕ) (g : Fin B → EReal) (y : (⟨2, ![n, B]⟩ : Shape).Idx) : EReal := if (y 0).val = d then g (y 1) else 0

/-- A store of one row that is the row it replaces plus a row `g` adds `g` to that row and leaves the others. -/
theorem read_add_row (v : View sig κ sp (⟨2, ![n, B]⟩ : Shape) .f32) (f : v.ty.Contents (Elt Ideal))
    (L : List (View.Piece (Elt Ideal) (⟨2, ![n, B]⟩ : Shape) .f32)) (d : ℕ) (off : Fin 2 → ℕ) (ho : off = ![d, 0])
    (inb : ∀ a : Fin 2, off a + (![1, B] : Fin 2 → ℕ) a ≤ (![n, B] : Fin 2 → ℕ) a)
    (w : (Rect.unit (s := ⟨2, ![n, B]⟩) off ![1, B] inb).shape.Idx → EReal) (g : Fin B → EReal)
    (hw : ∀ z : Fin B, ∀ y : (⟨2, ![n, B]⟩ : Shape).Idx, (y 0).val = d → (y 1).val = z.val →
      w (ix2 (0 : Fin 1) z) = v.read (Elt Ideal) (v.writes (Elt Ideal) f L) y + g z)
    (y : (⟨2, ![n, B]⟩ : Shape).Idx) :
    v.read (Elt Ideal) (v.writes (Elt Ideal) f ((⟨Rect.unit (s := ⟨2, ![n, B]⟩) off ![1, B] inb, w⟩ :
        View.Piece (Elt Ideal) (⟨2, ![n, B]⟩ : Shape) .f32) :: L)) y
      = v.read (Elt Ideal) (v.writes (Elt Ideal) f L) y + edge d g y := by
  by_cases h : (y 0).val = d
  · refine (View.read_writes_cons_rows_of_mem (o := d) v f inb w L y (ix2 (0 : Fin 1) (y 1)) ho h rfl).trans ?_
    rw [hw (y 1) y h rfl, edge, if_pos h]
  · refine (View.read_writes_cons_rows_of_not_mem (o := d) (W := 1) v f inb w L y ho rfl (by omega)).trans ?_
    rw [edge, if_neg h, add_zero]

/-- A loop each of whose trips adds its edge adds the sum of its edges. -/
theorem read_trips (v : View sig κ sp (⟨2, ![n, B]⟩ : Shape) .f32) (f : v.ty.Contents (Elt Ideal)) (N : ℕ)
    (P : ℕ → List (View.Piece (Elt Ideal) (⟨2, ![n, B]⟩ : Shape) .f32)) (d : Fin N → ℕ) (g : Fin N → Fin B → EReal) (h0 : P 0 = [])
    (hs : ∀ k : Fin N, ∀ y, v.read (Elt Ideal) (v.writes (Elt Ideal) f (P (k.val + 1))) y
      = v.read (Elt Ideal) (v.writes (Elt Ideal) f (P k.val)) y + edge (d k) (g k) y) (y : (⟨2, ![n, B]⟩ : Shape).Idx) :
    v.read (Elt Ideal) (v.writes (Elt Ideal) f (P N)) y = v.read (Elt Ideal) f y + ∑ k : Fin N, edge (d k) (g k) y := by
  have key : ∀ M (hM : M ≤ N), v.read (Elt Ideal) (v.writes (Elt Ideal) f (P M)) y
      = v.read (Elt Ideal) f y + ∑ k : Fin M, edge (d (k.castLE hM)) (g (k.castLE hM)) y := by
    intro M
    induction M with
    | zero => intro _; rw [h0, View.writes_nil, Finset.univ_eq_empty, Finset.sum_empty, add_zero]
    | succ M ih =>
      intro hM
      rw [Fin.sum_univ_castSucc, ← add_assoc]
      refine (hs ⟨M, hM⟩ y).trans (congrArg (· + _) ?_)
      exact ih (Nat.le_of_succ_le hM)
  exact key N le_rfl

/-- An update of a scatter of rows, one index word each, lands in the row its word names, read signed, at its own
    column. -/
theorem scatter_row_lands {E : ℕ} (d : ScatterDims (shape2 n B) (shape2 E 1) (shape2 E B)) (huw : d.updateWindowDims = [1])
    (hiw : d.insertedWindowDims = [0]) (hsd : d.scatterDimsToOperandDims = [0]) (hivd : d.indexVectorDim = 1)
    (idx : IVec (shape2 E 1) 32) (e : Fin E) (b : Fin B) (r : Fin n) (q : Fin B) :
    d.resultIdx? (ix2 e b) idx = some (ix2 r q) ↔ (idx (ix2 e (0 : Fin 1))).toInt = (r.val : Int) ∧ b = q := by
  obtain ⟨uw, iw, sd, iv, wf⟩ := d
  dsimp only at huw hiw hsd hivd
  subst huw hiw hsd hivd
  have s0 : ScatterDims.start ⟨[1], [0], [0], 1, wf⟩ (ix2 e b) idx 0 = (idx (ix2 e (0 : Fin 1))).toInt := by
    unfold ScatterDims.start
    rw [dif_pos (List.mem_singleton.2 rfl)]
    refine congrArg (fun i => (idx i).toInt) (funext fun a => ?_)
    match a with
    | ⟨0, _⟩ => rfl
    | ⟨1, _⟩ => rfl
  have s1 : ScatterDims.start ⟨[1], [0], [0], 1, wf⟩ (ix2 e b) idx 1 = 0 := by
    unfold ScatterDims.start
    exact dif_neg (fun h => by cases List.mem_singleton.1 h)
  have w0 : ScatterDims.window ⟨[1], [0], [0], 1, wf⟩ (ix2 e b) 0 = 0 := by
    unfold ScatterDims.window
    rw [dif_neg fun h => (of_decide_eq_true (List.mem_filter.1 h).2) (List.mem_singleton.2 rfl)]
  have w1 : ScatterDims.window ⟨[1], [0], [0], 1, wf⟩ (ix2 e b) 1 = b.val := rfl
  rw [Routing.resultIdx?_eq_some]
  refine (Fin.forall_fin_two (p := fun a : Fin 2 => ScatterDims.start ⟨[1], [0], [0], 1, wf⟩ (ix2 e b) idx a
    + (ScatterDims.window ⟨[1], [0], [0], 1, wf⟩ (ix2 e b) a : Int) = ((ix2 r q a).val : Int))).trans ?_
  rw [s0, s1, w0, w1, Fin.ext_iff]
  show (_ = (r.val : Int) ∧ _ = (q.val : Int)) ↔ _
  omega

/-- An accumulating scatter of rows at an index: what was there plus the sum of the edges into its row. -/
theorem scatter_rows {E : ℕ} (d : ScatterDims (shape2 n B) (shape2 E 1) (shape2 E B)) (huw : d.updateWindowDims = [1])
    (hiw : d.insertedWindowDims = [0]) (hsd : d.scatterDimsToOperandDims = [0]) (hivd : d.indexVectorDim = 1)
    (x : (shape2 n B).Idx → EReal) (idx : IVec (shape2 E 1) 32) (upd : (shape2 E B).Idx → EReal)
    (he : ∀ e, (idx (ix2 e (0 : Fin 1))).toNat < 2 ^ 31) (r : Fin n) (q : Fin B) :
    Ideal.hostScatterAdd d x idx upd (ix2 r q)
      = x (ix2 r q) + ∑ e : Fin E, edge (n := n) (idx (ix2 e (0 : Fin 1))).toNat (fun b => upd (ix2 e b)) (ix2 r q) := by
  unfold Ideal.hostScatterAdd
  refine congrArg (_ + ·) ?_
  rw [Finset.sum_filter, sum_idx2]
  refine Finset.sum_congr rfl fun e _ => ?_
  have hi : (idx (ix2 e (0 : Fin 1))).toInt = ((idx (ix2 e (0 : Fin 1))).toNat : Int) := by
    have := he e
    simp only [BitVec.toInt]
    omega
  by_cases h : r.val = (idx (ix2 e (0 : Fin 1))).toNat
  · refine Eq.trans ?_ (if_pos h).symm
    refine (Finset.sum_eq_single q (fun b _ hb => if_neg fun hl => hb ?_) fun hq => absurd (Finset.mem_univ q) hq).trans (if_pos ?_)
    · exact ((scatter_row_lands d huw hiw hsd hivd idx e b r q).1 hl).2
    · exact (scatter_row_lands d huw hiw hsd hivd idx e q r q).2 ⟨by omega, rfl⟩
  · refine Eq.trans ?_ (if_neg h).symm
    refine Finset.sum_eq_zero fun b _ => if_neg fun hl => h ?_
    have := ((scatter_row_lands d huw hiw hsd hivd idx e b r q).1 hl).1
    omega

/-- An update of a scatter of scalars, one index word each, lands in the place its word names, read signed. -/
theorem scatter_entry_lands {E : ℕ} (d : ScatterDims (shape1 n) (shape2 E 1) (shape1 E)) (huw : d.updateWindowDims = [])
    (hiw : d.insertedWindowDims = [0]) (hsd : d.scatterDimsToOperandDims = [0]) (hivd : d.indexVectorDim = 1)
    (idx : IVec (shape2 E 1) 32) (e : Fin E) (r : Fin n) :
    d.resultIdx? (ix1 e) idx = some (ix1 r) ↔ (idx (ix2 e (0 : Fin 1))).toInt = (r.val : Int) := by
  obtain ⟨uw, iw, sd, iv, wf⟩ := d
  dsimp only at huw hiw hsd hivd
  subst huw hiw hsd hivd
  have s0 : ScatterDims.start ⟨[], [0], [0], 1, wf⟩ (ix1 e) idx 0 = (idx (ix2 e (0 : Fin 1))).toInt := by
    unfold ScatterDims.start
    rw [dif_pos (List.mem_singleton.2 rfl)]
    refine congrArg (fun i => (idx i).toInt) (funext fun a => ?_)
    match a with
    | ⟨0, _⟩ => rfl
    | ⟨1, _⟩ => rfl
  have w0 : ScatterDims.window ⟨[], [0], [0], 1, wf⟩ (ix1 e) 0 = 0 := by
    unfold ScatterDims.window
    rw [dif_neg fun h => (of_decide_eq_true (List.mem_filter.1 h).2) (List.mem_singleton.2 rfl)]
  rw [Routing.resultIdx?_eq_some]
  refine (Fin.forall_fin_one (p := fun a : Fin 1 => ScatterDims.start ⟨[], [0], [0], 1, wf⟩ (ix1 e) idx a
    + (ScatterDims.window ⟨[], [0], [0], 1, wf⟩ (ix1 e) a : Int) = ((ix1 r a).val : Int))).trans ?_
  rw [s0, w0]
  show (_ = (r.val : Int)) ↔ _
  omega

/-- An accumulating scatter of scalars at a place: what was there plus the sum of the updates whose word names it. -/
theorem scatter_entries {E : ℕ} (d : ScatterDims (shape1 n) (shape2 E 1) (shape1 E)) (huw : d.updateWindowDims = [])
    (hiw : d.insertedWindowDims = [0]) (hsd : d.scatterDimsToOperandDims = [0]) (hivd : d.indexVectorDim = 1)
    (x : (shape1 n).Idx → EReal) (idx : IVec (shape2 E 1) 32) (upd : (shape1 E).Idx → EReal)
    (he : ∀ e, (idx (ix2 e (0 : Fin 1))).toNat < 2 ^ 31) (r : Fin n) :
    Ideal.hostScatterAdd d x idx upd (ix1 r)
      = x (ix1 r) + ∑ e : Fin E, if r.val = (idx (ix2 e (0 : Fin 1))).toNat then upd (ix1 e) else 0 := by
  unfold Ideal.hostScatterAdd
  refine congrArg (_ + ·) ?_
  rw [Finset.sum_filter]
  have hj : ∀ j : (shape1 E).Idx, ix1 (n0 := E) (j 0) = j := fun j => funext fun a => match a with | ⟨0, _⟩ => rfl
  refine (Fintype.sum_equiv (Equiv.piUnique fun a : Fin 1 => Fin ((![E] : Fin 1 → ℕ) a)) _
    (fun e : Fin E => if d.resultIdx? (ix1 e) idx = some (ix1 r) then upd (ix1 e) else 0) fun j =>
      congrArg (fun j => if d.resultIdx? j idx = some (ix1 r) then upd j else 0) (hj j).symm).trans
    (Finset.sum_congr rfl fun e _ => if_congr ?_ rfl rfl)
  have hi : (idx (ix2 e (0 : Fin 1))).toInt = ((idx (ix2 e (0 : Fin 1))).toNat : Int) := by
    have := he e
    simp only [BitVec.toInt]
    omega
  refine (scatter_entry_lands d huw hiw hsd hivd idx e r).trans ?_
  omega

end Cert.SegSum

end
-- ==== Proof.SegAValue.lean ====
/- The message sum over the larger graph: the loop adds one row per edge, the grid accumulates the blocks of edges, and the
   array the kernel leaves is the reference's accumulating scatter. -/
module

public import proofs.«01_k».proof.Proof.Gen.SegAIdeal.Value
public import proofs.«01_k».proof.Proof.Gen.SegARefIdeal.Run
public import proofs.«01_k».proof.Proof.Gen.SegARefIdeal.Read
public import proofs.«01_k».proof.Proof.Gen.Pre_inner_in_range
public import proofs.«01_k».proof.Proof.SegSum
public import proofs.«01_k».proof.Defs
public import Idealize.ShloMosaic.Lib.Pipeline.ValueKit
public import Idealize.ShloMosaic.Lib.Routing.Ops
public import Idealize.ShloMosaic.Lib.WritesUnit
public import Idealize.ShloMosaic.Lib.Claim

@[expose] public section

set_option maxRecDepth 16384

noncomputable section

namespace Cert.SegAIdeal.Seg

open Cert.SegAIdeal Cert.SegAIdeal.Gen Idealize.ShloMosaic Idealize.ShloMosaic.TcCoe Idealize.SL.Sem
open Idealize.ShloMosaic.Pipeline (Dat)
open Cert.SegARefIdeal.Read Cert.Rows Cert.SegSum

variable (m : (ℓ : Loc nD τ sig) → Buf (Elt Ideal) ℓ)

/-- Every window's block index at every grid point. -/
theorem idx : ∀ t : Fin cfg0.N, win0_0.index t = ![0, t.val] ∧ win0_1.index t = ![0, t.val] ∧ win0_2.index t = ![0, 0]
    ∧ win0_3.index t = ![0, 0] :=
  (by decide +kernel : ∀ t : Fin grid0.N, _)

/-- Source `k` of point `t`'s block is the source of edge `640 t + k`. -/
theorem word0 (c : Dev nD) (t : Fin cfg0.N) (i : S1x640.Idx) (j : Fin 800000) (hj : (j : ℕ) = t.val * 640 + (i 1).val) :
    iblk m c 0 t i = m ((c : Thread nD τ).loc main_arg1) (ix2 (0 : Fin 2) j) := by
  unfold iblk
  entry_read
  blk_simp
  pointwise
  blk_ext [idx t]

/-- Target `k` of point `t`'s block is the target of edge `640 t + k`. -/
theorem word1 (c : Dev nD) (t : Fin cfg0.N) (i : S1x640.Idx) (j : Fin 800000) (hj : (j : ℕ) = t.val * 640 + (i 1).val) :
    iblk m c 1 t i = m ((c : Thread nD τ).loc main_arg1) (ix2 (1 : Fin 2) j) := by
  unfold iblk
  entry_read
  blk_simp
  pointwise
  blk_ext [idx t]

/-- The table's block is the table. -/
theorem tblk (c : Dev nD) (t : Fin cfg0.N) (i : S50000x128.Idx) : iblk m c 2 t i = m ((c : Thread nD τ).loc main_arg0) i := by
  blk_ext [iblk, V, idx t]

/-- Under the precondition every index is below the number of rows. -/
theorem bound (h : Cert.Pre_SegAIdeal m) (c : Dev nD) (y : S2x800000.Idx) :
    BitVec.toNat (m ((c : Thread nD τ).loc main_arg1) y) < 50000 :=
  toNat_lt_of_tests 50000 (by decide) (congrFun (h c) y)

/-- The side conditions of the loop's loads and stores follow from the precondition. -/
theorem hyps_of_pre (h : Cert.Pre_SegAIdeal m) : Hyps m := by
  have hw0 : ∀ (c : Dev nD) (t : Fin cfg0.N) (i : S1x640.Idx), BitVec.toNat (iblk m c 0 t i) < 50000 := fun c t i => by
    have ht : t.val < 1250 := t.isLt
    have hi : (i 1).val < 640 := (i 1).isLt
    exact (congrArg BitVec.toNat (word0 m c t i ⟨t.val * 640 + (i 1).val, by omega⟩ rfl)).trans_lt (bound m h c _)
  have hw1 : ∀ (c : Dev nD) (t : Fin cfg0.N) (i : S1x640.Idx), BitVec.toNat (iblk m c 1 t i) < 50000 := fun c t i => by
    have ht : t.val < 1250 := t.isLt
    have hi : (i 1).val < 640 := (i 1).isLt
    exact (congrArg BitVec.toNat (word1 m c t i ⟨t.val * 640 + (i 1).val, by omega⟩ rfl)).trans_lt (bound m h c _)
  have chk2 : ∀ v : BitVec 32, v.toNat < 50000 → k0_chk2 v := fun v hv => by
    unfold k0_chk2 k0_off3; intro a; fin_cases a <;> simp [Scalar.indexCast] <;> omega
  have chk1 : ∀ v : BitVec 32, v.toNat < 50000 → k0_chk1 v := fun v hv => by
    unfold k0_chk1 k0_off2 k0_off4; constructor <;> intro a <;> fin_cases a <;> simp [Scalar.indexCast] <;> omega
  refine Hyps.of (fun c t kq hkq => ?_) (fun c t kq hkq => ?_)
  · rw [View.readAt_apply, Memref.IsWhole.read_unread]; exact chk2 _ (hw0 c t _)
  · rw [View.readAt_apply, Memref.IsWhole.read_unread]; exact chk1 _ (hw1 c t _)

/-- A word that passes the source's side condition names a row of the table. -/
theorem lt_of_chk2 {v : BitVec 32} (h : k0_chk2 v) : v.toNat < 50000 := by
  have h0 : v.toNat + 1 ≤ 50000 := h 0
  omega

/-- The source words of point `t`'s block. -/
abbrev src (c : Dev nD) (t : Fin cfg0.N) : IVec S1x640 32 := iblk m c 0 t
/-- The target words of point `t`'s block. -/
abbrev dst (c : Dev nD) (t : Fin cfg0.N) : IVec S1x640 32 := iblk m c 1 t
/-- The table as point `t` has it. -/
abbrev tbl (c : Dev nD) (t : Fin cfg0.N) : FVec Ideal S50000x128 .f32 := iblk m c 2 t

/-- What the edges of point `t`'s block add at an index. -/
abbrev term (c : Dev nD) (t : Fin cfg0.N) (y : S50000x128.Idx) : EReal :=
  ∑ k : Fin 640, edge (dst m c t (ix2 (0 : Fin 1) k)).toNat (fun z : Fin 128 => tbl m c t (ix2 (row 50000 (src m c t (ix2 (0 : Fin 1) k))) z)) y

/-- The pieces the loop's first `N` trips store at point `t`, over contents `f`. -/
abbrev pieces (hH : Hyps m) (c : Dev nD) (t : Fin cfg0.N) (f : (ms0_3 t).view.ty.Contents (Elt Ideal)) (N : ℕ) :=
  pb_k0_t1 (F := Ideal) Variants.none c none (grid0.coords t) (ms0_0 t) (hs0_0 t) (ms0_1 t) (hs0_1 t) (ms0_2 t) (hs0_2 t) (ms0_3 t) (hs0_3 t)
    ((hs0_0 t).unread (iblk m c 0 t)) ((hs0_1 t).unread (iblk m c 1 t)) ((hs0_2 t).unread (iblk m c 2 t)) f
    (Hyps.c0 hH c t) (Hyps.c1 hH c t) N

/-- The stored row: the row read plus the table's row. -/
theorem pay_add (v9 v12 : FVec Ideal S1x128 .f32) (x : S1x128.Idx) : k0_pay2 v9 v12 x = v9 x + v12 x := by
  unfold k0_pay2
  rw [shapeCast_self]
  rfl

/-- The block the first point clears is zero. -/
theorem pay_zero (y : S50000x128.Idx) : k0_pay1 (F := Ideal) y = 0 := by
  pointwise [k0_pay1]

/-- The loop adds the block's edges to what the output held. -/
theorem loop_adds (hH : Hyps m) (c : Dev nD) (t : Fin cfg0.N) (f : (ms0_3 t).view.ty.Contents (Elt Ideal)) (y : S50000x128.Idx) :
    (ms0_3 t).view.read (Elt Ideal) ((ms0_3 t).view.writes (Elt Ideal) f (pieces m hH c t f 640)) y
      = (ms0_3 t).view.read (Elt Ideal) f y + term m c t y := by
  refine read_trips (n := 50000) (B := 128) (ms0_3 t).view f 640 (pieces m hH c t f) _ _ rfl (fun k y => ?_) y
  have e0 : ∀ W : IVec S1x640 32, W ((Rect.unit (s := S1x640) (k0_off1 ⟨k.val, k.isLt⟩) S1x1.size (k0_off1_inb ⟨k.val, k.isLt⟩)).toLoadRect.idx
      (Shape.Idx.first (numel1_S1x1.symm ▸ Nat.one_pos))) = W (ix2 (0 : Fin 1) k) := fun W => by
    refine congrArg W (funext fun a => ?_)
    match a with
    | ⟨0, _⟩ => exact Subsingleton.elim (α := Fin 1) _ _
    | ⟨1, _⟩ => exact Fin.ext (by show k0_off1 ⟨k.val, k.isLt⟩ 1 + 1 * 0 = k.val; rw [k0_off1_eq]; rfl)
  have r0 : (ms0_0 t).view.readAt (Elt Ideal) (Rect.unit (s := S1x640) (k0_off1 ⟨k.val, k.isLt⟩) S1x1.size (k0_off1_inb ⟨k.val, k.isLt⟩)).toLoadRect
      ((hs0_0 t).unread (iblk m c 0 t)) (Shape.Idx.first (numel1_S1x1.symm ▸ Nat.one_pos)) = src m c t (ix2 (0 : Fin 1) k) := by
    rw [View.readAt_apply, Memref.IsWhole.read_unread]; exact e0 _
  have r1 : (ms0_1 t).view.readAt (Elt Ideal) (Rect.unit (s := S1x640) (k0_off1 ⟨k.val, k.isLt⟩) S1x1.size (k0_off1_inb ⟨k.val, k.isLt⟩)).toLoadRect
      ((hs0_1 t).unread (iblk m c 1 t)) (Shape.Idx.first (numel1_S1x1.symm ▸ Nat.one_pos)) = dst m c t (ix2 (0 : Fin 1) k) := by
    rw [View.readAt_apply, Memref.IsWhole.read_unread]; exact e0 _
  have es : (src m c t (ix2 (0 : Fin 1) k)).toNat < 50000 := r0 ▸ lt_of_chk2 (Hyps.c0 hH c t k.val k.isLt)
  rw [show pieces m hH c t f (k.val + 1) = _ from pb_k0_t1_succ (F := Ideal) Variants.none c none (grid0.coords t) (ms0_0 t) (hs0_0 t) (ms0_1 t) (hs0_1 t) (ms0_2 t) (hs0_2 t) (ms0_3 t) (hs0_3 t)
    ((hs0_0 t).unread (iblk m c 0 t)) ((hs0_1 t).unread (iblk m c 1 t)) ((hs0_2 t).unread (iblk m c 2 t)) f
    (Hyps.c0 hH c t) (Hyps.c1 hH c t) k]
  unfold tripL_k0_t1 trip_k0_t1
  dsimp only
  rw [List.singleton_append]
  refine read_add_row (n := 50000) (B := 128) (ms0_3 t).view f _ _ _ ?_ _ _ _ (fun z x hx hz => ?_) y
  · exact congrArg (fun w : BitVec 32 => ![w.toNat, 0]) r1
  · refine (pay_add _ _ _).trans (congrArg₂ (· + ·) ?_ ?_)
    · rw [View.readAt_apply]
      refine congrArg _ (funext fun a => Fin.ext ?_)
      match a with
      | ⟨0, _⟩ => exact (congrArg BitVec.toNat r1).trans hx.symm
      | ⟨1, _⟩ => exact (show 0 + 1 * z.val = (x 1).val by omega)
    · rw [View.readAt_apply, Memref.IsWhole.read_unread]
      refine congrArg (iblk m c 2 t) (funext fun a => Fin.ext ?_)
      match a with
      | ⟨0, _⟩ => exact (congrArg BitVec.toNat r0).trans (Nat.mod_eq_of_lt es).symm
      | ⟨1, _⟩ => exact (show 0 + 1 * z.val = z.val by omega)

/-- The first point starts from zeros. -/
theorem first (hH : Hyps m) (c : Dev nD) (t : Fin cfg0.N) (h0 : t.val % 1250 = 0) (y : S50000x128.Idx) :
    outsAt0 m hH c t.val t.isLt y = 0 + term m c t y := by
  rw [outsAt0_A m hH c t h0]
  unfold out0_A_3
  rw [← View.read_writes_of_cover (ms0_3 t).view (ms0_3 t).view.junk _ _ _ (cover0_A_3 c _ _ _ _ _ _ _ _ _ _ _ _ _ _ _)]
  unfold kernelRun0_A
  dsimp only
  rw [show Scf.trips (0#32) (Scalar.addi 0#32 640#32) 1#32 = 640 by decide +kernel, View.writes_append]
  refine (loop_adds m hH c t _ y).trans (congrArg (· + _) ?_)
  refine (View.read_writes_cons_rows_of_mem (o := 0) (size := ![50000, 128]) _ _ _ _ [] y y rfl (Nat.zero_add _).symm rfl).trans ?_
  exact pay_zero y

/-- A later point adds to what the point before left. -/
theorem later (hH : Hyps m) (c : Dev nD) (t : Fin cfg0.N) (h0 : ¬ t.val % 1250 = 0) (y : S50000x128.Idx) :
    outsAt0 m hH c t.val t.isLt y
      = outsAt0 m hH c (t.val - 1) (Nat.lt_of_le_of_lt (Nat.sub_le _ _) t.isLt) y + term m c t y := by
  rw [outsAt0_B m hH c t h0]
  unfold out0_B_3 kernelRun0_B
  dsimp only
  rw [show Scf.trips (0#32) (Scalar.addi 0#32 640#32) 1#32 = 640 by decide +kernel]
  refine (loop_adds m hH c t _ y).trans (congrArg (· + _) ?_)
  rw [Memref.IsWhole.read_unread]

/-- A gather of rows through the first row of the edges reads the rows that the sources name. -/
theorem gather_at (X : FVec Ideal S50000x128 .f32) (E : IVec S2x800000 32) (hE : ∀ y, (E y).toNat < 50000) (e : Fin 800000) (b : Fin 128) :
    val_main_v10 (F := Ideal) X E (ix2 e b) = X (ix2 (row 50000 (E (ix2 (0 : Fin 2) e))) b) := by
  refine Routing.gather_row _ rfl rfl rfl rfl rfl X (val_main_v9 (F := Ideal) E) e b _ ?_ (by decide)
  pointwise [val_main_v9, val_main_v8, val_main_v7, val_main_v6, val_main_v5, val_main_v4, val_main_v1, val_main_v0, val_main_c, val_main_c_0]
  exact (wrap_of_lt _ ((hE (ix2 (0 : Fin 2) e)).trans (by decide))).trans (eq_ofNat_row (hE (ix2 (0 : Fin 2) e)))

/-- The reference at an index: the sum of the edges into its row. -/
theorem ref_at (X : FVec Ideal S50000x128 .f32) (E : IVec S2x800000 32) (hE : ∀ y, (E y).toNat < 50000) (r : Fin 50000) (q : Fin 128) :
    val_main_v13 (F := Ideal) X E (ix2 r q)
      = 0 + ∑ e : Fin 800000, edge (n := 50000) (E (ix2 (1 : Fin 2) e)).toNat (fun b : Fin 128 => X (ix2 (row 50000 (E (ix2 (0 : Fin 2) e))) b)) (ix2 r q) := by
  have hd : ∀ e : Fin 800000, val_main_v12 (F := Ideal) E (ix2 e (0 : Fin 1)) = E (ix2 (1 : Fin 2) e) := fun e => by
    pointwise [val_main_v12, val_main_v3, val_main_v2]
  have hz : val_main_v11 (F := Ideal) (ix2 r q) = 0 := by
    pointwise [val_main_v11, val_main_cst]
  refine (scatter_rows _ rfl rfl rfl rfl (val_main_v11 (F := Ideal)) (val_main_v12 (F := Ideal) E) (val_main_v10 (F := Ideal) X E)
    (fun e => by rw [hd]; exact (hE _).trans (by decide)) r q).trans ?_
  rw [hz]
  refine congrArg (_ + ·) (Finset.sum_congr rfl fun e _ => ?_)
  rw [hd, funext fun b => gather_at X E hE e b]

/-- The last point of the grid. -/
abbrev last : Fin cfg0.N := ⟨1249, by decide⟩

/-- After the last point the output holds the sum of all the edges. -/
theorem total (h : Cert.Pre_SegAIdeal m) (c : Dev nD) (r : Fin 50000) (q : Fin 128) :
    outsAt0 m (hyps_of_pre m h) c last.val last.isLt (ix2 r q)
      = val_main_v13 (F := Ideal) (m ((c : Thread nD τ).loc main_arg0)) (m ((c : Thread nD τ).loc main_arg1)) (ix2 r q) := by
  refine Eq.trans ?_ (ref_at _ _ (bound m h c) r q).symm
  rw [Pipeline.eq_sum_fin_of_reset_step_apply_of_flush
    (fun n hn (y : S50000x128.Idx) => outsAt0 m (hyps_of_pre m h) c n hn y) 1250 (fun _ => 0) (fun t y => term m c t y)
    (fun t h0 y => first m _ c t h0 y) (fun t h0 y => later m _ c t h0 y) last (by decide) (ix2 r q)]
  refine congrArg (_ + ·) (Fin.sum_mul_add_congr fun s k hl => ?_)
  have e0 := word0 m c ⟨1250 * (last.val / 1250) + s.val, Pipeline.run_point_lt_of_flush last (by decide) s⟩ (ix2 (0 : Fin 1) k)
    ⟨s.val * 640 + k.val, hl⟩ (by show s.val * 640 + k.val = (1250 * (1249 / 1250) + s.val) * 640 + k.val; omega)
  have e1 := word1 m c ⟨1250 * (last.val / 1250) + s.val, Pipeline.run_point_lt_of_flush last (by decide) s⟩ (ix2 (0 : Fin 1) k)
    ⟨s.val * 640 + k.val, hl⟩ (by show s.val * 640 + k.val = (1250 * (1249 / 1250) + s.val) * 640 + k.val; omega)
  unfold dst src tbl
  rw [e0, e1]
  refine congrArg (fun g => edge (n := 50000) (B := 128) _ g (ix2 r q)) (funext fun z => ?_)
  exact tblk m c _ _

/-- The output's block is the whole array. -/
theorem whole_blk (t : Fin cfg0.N) (y : S50000x128.Idx) : y = ((cfg0.win 3).blk t).view.emb y := by
  blk_ext [idx t]

/-- The result array after the run is the reference of the arguments. -/
theorem final (h : Cert.Pre_SegAIdeal m) (c : Dev nD) : (dats m (hyps_of_pre m h) 0 c).arrAt 3 (cfgs 0).N
    = val_main_v13 (F := Ideal) (m ((c : Thread nD τ).loc main_arg0)) (m ((c : Thread nD τ).loc main_arg1)) := by
  refine (dats m _ 0 c).arrAt_eq_of_covers 3 _ (by decide +kernel) fun t hf y => ?_
  have ht : t = last := Fin.ext (by have := (flush0_3 t).mp hf; have : t.val < 1250 := t.isLt; show t.val = 1249; omega)
  subst ht
  blk_simp
  rw [after0_3]
  have e : outsAt0 m (hyps_of_pre m h) c last.val last.isLt y = outsAt0 m (hyps_of_pre m h) c last.val last.isLt (((cfg0.win 3).blk last).view.emb y) :=
    congrArg (outsAt0 m (hyps_of_pre m h) c last.val last.isLt) (whole_blk last y)
  refine e.trans ?_
  have key : ∀ z : S50000x128.Idx, outsAt0 m (hyps_of_pre m h) c last.val last.isLt z
      = val_main_v13 (F := Ideal) (m ((c : Thread nD τ).loc main_arg0)) (m ((c : Thread nD τ).loc main_arg1)) z := fun z => by
    rw [← ix2_eta (n0 := 50000) (n1 := 128) z]
    exact total m h c (z 0) (z 1)
  exact key _

/-- The two programs, run from memories that agree on the arguments, end with equal results and unchanged
    arguments. -/
theorem algebraic : Cert.algebraic_SegAIdeal_SegARefIdeal := by
  pair_intro
  · run_from Cert.SegAIdeal.Gen.run_main m g (hyps_of_pre m hpre)
  · refine θ_run_mono (Cert.SegARefIdeal.Value.run m' g') fun r hr c => ?_
    obtain ⟨h1, h2, h3⟩ := hr c
    refine ⟨?_, h2, h3⟩
    have e := h1.trans (Cert.SegARefIdeal.Read.val_main_v13_eq (F := Ideal) _ _)
    rw [(hagree c).1, (hagree c).2] at e
    exact e.trans (final m hpre c).symm

end Cert.SegAIdeal.Seg

end
-- ==== Proof.SegBValue.lean ====
/- The message sum over the smaller graph: the loop adds one row per edge, the grid accumulates the blocks of edges, and the
   array the kernel leaves is the reference's accumulating scatter. -/
module

public import proofs.«01_k».proof.Proof.Gen.SegBIdeal.Value
public import proofs.«01_k».proof.Proof.Gen.SegBRefIdeal.Run
public import proofs.«01_k».proof.Proof.Gen.SegBRefIdeal.Read
public import proofs.«01_k».proof.Proof.Gen.Pre_edges_in_range
public import proofs.«01_k».proof.Proof.SegSum
public import proofs.«01_k».proof.Defs
public import Idealize.ShloMosaic.Lib.Pipeline.ValueKit
public import Idealize.ShloMosaic.Lib.Routing.Ops
public import Idealize.ShloMosaic.Lib.WritesUnit
public import Idealize.ShloMosaic.Lib.Claim

@[expose] public section

set_option maxRecDepth 16384

noncomputable section

namespace Cert.SegBIdeal.Seg

open Cert.SegBIdeal Cert.SegBIdeal.Gen Idealize.ShloMosaic Idealize.ShloMosaic.TcCoe Idealize.SL.Sem
open Idealize.ShloMosaic.Pipeline (Dat)
open Cert.SegBRefIdeal.Read Cert.Rows Cert.SegSum

variable (m : (ℓ : Loc nD τ sig) → Buf (Elt Ideal) ℓ)

/-- Every window's block index at every grid point. -/
theorem idx : ∀ t : Fin cfg0.N, win0_0.index t = ![0, t.val] ∧ win0_1.index t = ![0, t.val] ∧ win0_2.index t = ![0, 0]
    ∧ win0_3.index t = ![0, 0] :=
  (by decide +kernel : ∀ t : Fin grid0.N, _)

/-- Source `k` of point `t`'s block is the source of edge `640 t + k`. -/
theorem word0 (c : Dev nD) (t : Fin cfg0.N) (i : S1x640.Idx) (j : Fin 160000) (hj : (j : ℕ) = t.val * 640 + (i 1).val) :
    iblk m c 0 t i = m ((c : Thread nD τ).loc main_arg1) (ix2 (0 : Fin 2) j) := by
  unfold iblk
  entry_read
  blk_simp
  pointwise
  blk_ext [idx t]

/-- Target `k` of point `t`'s block is the target of edge `640 t + k`. -/
theorem word1 (c : Dev nD) (t : Fin cfg0.N) (i : S1x640.Idx) (j : Fin 160000) (hj : (j : ℕ) = t.val * 640 + (i 1).val) :
    iblk m c 1 t i = m ((c : Thread nD τ).loc main_arg1) (ix2 (1 : Fin 2) j) := by
  unfold iblk
  entry_read
  blk_simp
  pointwise
  blk_ext [idx t]

/-- The table's block is the table. -/
theorem tblk (c : Dev nD) (t : Fin cfg0.N) (i : S10000x128.Idx) : iblk m c 2 t i = m ((c : Thread nD τ).loc main_arg0) i := by
  blk_ext [iblk, V, idx t]

/-- Under the precondition every index is below the number of rows. -/
theorem bound (h : Cert.Pre_SegBIdeal m) (c : Dev nD) (y : S2x160000.Idx) :
    BitVec.toNat (m ((c : Thread nD τ).loc main_arg1) y) < 10000 :=
  toNat_lt_of_tests 10000 (by decide) (congrFun (h c) y)

/-- The side conditions of the loop's loads and stores follow from the precondition. -/
theorem hyps_of_pre (h : Cert.Pre_SegBIdeal m) : Hyps m := by
  have hw0 : ∀ (c : Dev nD) (t : Fin cfg0.N) (i : S1x640.Idx), BitVec.toNat (iblk m c 0 t i) < 10000 := fun c t i => by
    have ht : t.val < 250 := t.isLt
    have hi : (i 1).val < 640 := (i 1).isLt
    exact (congrArg BitVec.toNat (word0 m c t i ⟨t.val * 640 + (i 1).val, by omega⟩ rfl)).trans_lt (bound m h c _)
  have hw1 : ∀ (c : Dev nD) (t : Fin cfg0.N) (i : S1x640.Idx), BitVec.toNat (iblk m c 1 t i) < 10000 := fun c t i => by
    have ht : t.val < 250 := t.isLt
    have hi : (i 1).val < 640 := (i 1).isLt
    exact (congrArg BitVec.toNat (word1 m c t i ⟨t.val * 640 + (i 1).val, by omega⟩ rfl)).trans_lt (bound m h c _)
  have chk2 : ∀ v : BitVec 32, v.toNat < 10000 → k0_chk2 v := fun v hv => by
    unfold k0_chk2 k0_off3; intro a; fin_cases a <;> simp [Scalar.indexCast] <;> omega
  have chk1 : ∀ v : BitVec 32, v.toNat < 10000 → k0_chk1 v := fun v hv => by
    unfold k0_chk1 k0_off2 k0_off4; constructor <;> intro a <;> fin_cases a <;> simp [Scalar.indexCast] <;> omega
  refine Hyps.of (fun c t kq hkq => ?_) (fun c t kq hkq => ?_)
  · rw [View.readAt_apply, Memref.IsWhole.read_unread]; exact chk2 _ (hw0 c t _)
  · rw [View.readAt_apply, Memref.IsWhole.read_unread]; exact chk1 _ (hw1 c t _)

/-- A word that passes the source's side condition names a row of the table. -/
theorem lt_of_chk2 {v : BitVec 32} (h : k0_chk2 v) : v.toNat < 10000 := by
  have h0 : v.toNat + 1 ≤ 10000 := h 0
  omega

/-- The source words of point `t`'s block. -/
abbrev src (c : Dev nD) (t : Fin cfg0.N) : IVec S1x640 32 := iblk m c 0 t
/-- The target words of point `t`'s block. -/
abbrev dst (c : Dev nD) (t : Fin cfg0.N) : IVec S1x640 32 := iblk m c 1 t
/-- The table as point `t` has it. -/
abbrev tbl (c : Dev nD) (t : Fin cfg0.N) : FVec Ideal S10000x128 .f32 := iblk m c 2 t

/-- What the edges of point `t`'s block add at an index. -/
abbrev term (c : Dev nD) (t : Fin cfg0.N) (y : S10000x128.Idx) : EReal :=
  ∑ k : Fin 640, edge (dst m c t (ix2 (0 : Fin 1) k)).toNat (fun z : Fin 128 => tbl m c t (ix2 (row 10000 (src m c t (ix2 (0 : Fin 1) k))) z)) y

/-- The pieces the loop's first `N` trips store at point `t`, over contents `f`. -/
abbrev pieces (hH : Hyps m) (c : Dev nD) (t : Fin cfg0.N) (f : (ms0_3 t).view.ty.Contents (Elt Ideal)) (N : ℕ) :=
  pb_k0_t1 (F := Ideal) Variants.none c none (grid0.coords t) (ms0_0 t) (hs0_0 t) (ms0_1 t) (hs0_1 t) (ms0_2 t) (hs0_2 t) (ms0_3 t) (hs0_3 t)
    ((hs0_0 t).unread (iblk m c 0 t)) ((hs0_1 t).unread (iblk m c 1 t)) ((hs0_2 t).unread (iblk m c 2 t)) f
    (Hyps.c0 hH c t) (Hyps.c1 hH c t) N

/-- The stored row: the row read plus the table's row. -/
theorem pay_add (v9 v12 : FVec Ideal S1x128 .f32) (x : S1x128.Idx) : k0_pay2 v9 v12 x = v9 x + v12 x := by
  unfold k0_pay2
  rw [shapeCast_self]
  rfl

/-- The block the first point clears is zero. -/
theorem pay_zero (y : S10000x128.Idx) : k0_pay1 (F := Ideal) y = 0 := by
  pointwise [k0_pay1]

/-- The loop adds the block's edges to what the output held. -/
theorem loop_adds (hH : Hyps m) (c : Dev nD) (t : Fin cfg0.N) (f : (ms0_3 t).view.ty.Contents (Elt Ideal)) (y : S10000x128.Idx) :
    (ms0_3 t).view.read (Elt Ideal) ((ms0_3 t).view.writes (Elt Ideal) f (pieces m hH c t f 640)) y
      = (ms0_3 t).view.read (Elt Ideal) f y + term m c t y := by
  refine read_trips (n := 10000) (B := 128) (ms0_3 t).view f 640 (pieces m hH c t f) _ _ rfl (fun k y => ?_) y
  have e0 : ∀ W : IVec S1x640 32, W ((Rect.unit (s := S1x640) (k0_off1 ⟨k.val, k.isLt⟩) S1x1.size (k0_off1_inb ⟨k.val, k.isLt⟩)).toLoadRect.idx
      (Shape.Idx.first (numel1_S1x1.symm ▸ Nat.one_pos))) = W (ix2 (0 : Fin 1) k) := fun W => by
    refine congrArg W (funext fun a => ?_)
    match a with
    | ⟨0, _⟩ => exact Subsingleton.elim (α := Fin 1) _ _
    | ⟨1, _⟩ => exact Fin.ext (by show k0_off1 ⟨k.val, k.isLt⟩ 1 + 1 * 0 = k.val; rw [k0_off1_eq]; rfl)
  have r0 : (ms0_0 t).view.readAt (Elt Ideal) (Rect.unit (s := S1x640) (k0_off1 ⟨k.val, k.isLt⟩) S1x1.size (k0_off1_inb ⟨k.val, k.isLt⟩)).toLoadRect
      ((hs0_0 t).unread (iblk m c 0 t)) (Shape.Idx.first (numel1_S1x1.symm ▸ Nat.one_pos)) = src m c t (ix2 (0 : Fin 1) k) := by
    rw [View.readAt_apply, Memref.IsWhole.read_unread]; exact e0 _
  have r1 : (ms0_1 t).view.readAt (Elt Ideal) (Rect.unit (s := S1x640) (k0_off1 ⟨k.val, k.isLt⟩) S1x1.size (k0_off1_inb ⟨k.val, k.isLt⟩)).toLoadRect
      ((hs0_1 t).unread (iblk m c 1 t)) (Shape.Idx.first (numel1_S1x1.symm ▸ Nat.one_pos)) = dst m c t (ix2 (0 : Fin 1) k) := by
    rw [View.readAt_apply, Memref.IsWhole.read_unread]; exact e0 _
  have es : (src m c t (ix2 (0 : Fin 1) k)).toNat < 10000 := r0 ▸ lt_of_chk2 (Hyps.c0 hH c t k.val k.isLt)
  rw [show pieces m hH c t f (k.val + 1) = _ from pb_k0_t1_succ (F := Ideal) Variants.none c none (grid0.coords t) (ms0_0 t) (hs0_0 t) (ms0_1 t) (hs0_1 t) (ms0_2 t) (hs0_2 t) (ms0_3 t) (hs0_3 t)
    ((hs0_0 t).unread (iblk m c 0 t)) ((hs0_1 t).unread (iblk m c 1 t)) ((hs0_2 t).unread (iblk m c 2 t)) f
    (Hyps.c0 hH c t) (Hyps.c1 hH c t) k]
  unfold tripL_k0_t1 trip_k0_t1
  dsimp only
  rw [List.singleton_append]
  refine read_add_row (n := 10000) (B := 128) (ms0_3 t).view f _ _ _ ?_ _ _ _ (fun z x hx hz => ?_) y
  · exact congrArg (fun w : BitVec 32 => ![w.toNat, 0]) r1
  · refine (pay_add _ _ _).trans (congrArg₂ (· + ·) ?_ ?_)
    · rw [View.readAt_apply]
      refine congrArg _ (funext fun a => Fin.ext ?_)
      match a with
      | ⟨0, _⟩ => exact (congrArg BitVec.toNat r1).trans hx.symm
      | ⟨1, _⟩ => exact (show 0 + 1 * z.val = (x 1).val by omega)
    · rw [View.readAt_apply, Memref.IsWhole.read_unread]
      refine congrArg (iblk m c 2 t) (funext fun a => Fin.ext ?_)
      match a with
      | ⟨0, _⟩ => exact (congrArg BitVec.toNat r0).trans (Nat.mod_eq_of_lt es).symm
      | ⟨1, _⟩ => exact (show 0 + 1 * z.val = z.val by omega)

/-- The first point starts from zeros. -/
theorem first (hH : Hyps m) (c : Dev nD) (t : Fin cfg0.N) (h0 : t.val % 250 = 0) (y : S10000x128.Idx) :
    outsAt0 m hH c t.val t.isLt y = 0 + term m c t y := by
  rw [outsAt0_A m hH c t h0]
  unfold out0_A_3
  rw [← View.read_writes_of_cover (ms0_3 t).view (ms0_3 t).view.junk _ _ _ (cover0_A_3 c _ _ _ _ _ _ _ _ _ _ _ _ _ _ _)]
  unfold kernelRun0_A
  dsimp only
  rw [show Scf.trips (0#32) (Scalar.addi 0#32 640#32) 1#32 = 640 by decide +kernel, View.writes_append]
  refine (loop_adds m hH c t _ y).trans (congrArg (· + _) ?_)
  refine (View.read_writes_cons_rows_of_mem (o := 0) (size := ![10000, 128]) _ _ _ _ [] y y rfl (Nat.zero_add _).symm rfl).trans ?_
  exact pay_zero y

/-- A later point adds to what the point before left. -/
theorem later (hH : Hyps m) (c : Dev nD) (t : Fin cfg0.N) (h0 : ¬ t.val % 250 = 0) (y : S10000x128.Idx) :
    outsAt0 m hH c t.val t.isLt y
      = outsAt0 m hH c (t.val - 1) (Nat.lt_of_le_of_lt (Nat.sub_le _ _) t.isLt) y + term m c t y := by
  rw [outsAt0_B m hH c t h0]
  unfold out0_B_3 kernelRun0_B
  dsimp only
  rw [show Scf.trips (0#32) (Scalar.addi 0#32 640#32) 1#32 = 640 by decide +kernel]
  refine (loop_adds m hH c t _ y).trans (congrArg (· + _) ?_)
  rw [Memref.IsWhole.read_unread]

/-- A gather of rows through the first row of the edges reads the rows that the sources name. -/
theorem gather_at (X : FVec Ideal S10000x128 .f32) (E : IVec S2x160000 32) (hE : ∀ y, (E y).toNat < 10000) (e : Fin 160000) (b : Fin 128) :
    val_main_v10 (F := Ideal) X E (ix2 e b) = X (ix2 (row 10000 (E (ix2 (0 : Fin 2) e))) b) := by
  refine Routing.gather_row _ rfl rfl rfl rfl rfl X (val_main_v9 (F := Ideal) E) e b _ ?_ (by decide)
  pointwise [val_main_v9, val_main_v8, val_main_v7, val_main_v6, val_main_v5, val_main_v4, val_main_v1, val_main_v0, val_main_c, val_main_c_0]
  exact (wrap_of_lt _ ((hE (ix2 (0 : Fin 2) e)).trans (by decide))).trans (eq_ofNat_row (hE (ix2 (0 : Fin 2) e)))

/-- The reference at an index: the sum of the edges into its row. -/
theorem ref_at (X : FVec Ideal S10000x128 .f32) (E : IVec S2x160000 32) (hE : ∀ y, (E y).toNat < 10000) (r : Fin 10000) (q : Fin 128) :
    val_main_v13 (F := Ideal) X E (ix2 r q)
      = 0 + ∑ e : Fin 160000, edge (n := 10000) (E (ix2 (1 : Fin 2) e)).toNat (fun b : Fin 128 => X (ix2 (row 10000 (E (ix2 (0 : Fin 2) e))) b)) (ix2 r q) := by
  have hd : ∀ e : Fin 160000, val_main_v12 (F := Ideal) E (ix2 e (0 : Fin 1)) = E (ix2 (1 : Fin 2) e) := fun e => by
    pointwise [val_main_v12, val_main_v3, val_main_v2]
  have hz : val_main_v11 (F := Ideal) (ix2 r q) = 0 := by
    pointwise [val_main_v11, val_main_cst]
  refine (scatter_rows _ rfl rfl rfl rfl (val_main_v11 (F := Ideal)) (val_main_v12 (F := Ideal) E) (val_main_v10 (F := Ideal) X E)
    (fun e => by rw [hd]; exact (hE _).trans (by decide)) r q).trans ?_
  rw [hz]
  refine congrArg (_ + ·) (Finset.sum_congr rfl fun e _ => ?_)
  rw [hd, funext fun b => gather_at X E hE e b]

/-- The last point of the grid. -/
abbrev last : Fin cfg0.N := ⟨249, by decide⟩

/-- After the last point the output holds the sum of all the edges. -/
theorem total (h : Cert.Pre_SegBIdeal m) (c : Dev nD) (r : Fin 10000) (q : Fin 128) :
    outsAt0 m (hyps_of_pre m h) c last.val last.isLt (ix2 r q)
      = val_main_v13 (F := Ideal) (m ((c : Thread nD τ).loc main_arg0)) (m ((c : Thread nD τ).loc main_arg1)) (ix2 r q) := by
  refine Eq.trans ?_ (ref_at _ _ (bound m h c) r q).symm
  rw [Pipeline.eq_sum_fin_of_reset_step_apply_of_flush
    (fun n hn (y : S10000x128.Idx) => outsAt0 m (hyps_of_pre m h) c n hn y) 250 (fun _ => 0) (fun t y => term m c t y)
    (fun t h0 y => first m _ c t h0 y) (fun t h0 y => later m _ c t h0 y) last (by decide) (ix2 r q)]
  refine congrArg (_ + ·) (Fin.sum_mul_add_congr fun s k hl => ?_)
  have e0 := word0 m c ⟨250 * (last.val / 250) + s.val, Pipeline.run_point_lt_of_flush last (by decide) s⟩ (ix2 (0 : Fin 1) k)
    ⟨s.val * 640 + k.val, hl⟩ (by show s.val * 640 + k.val = (250 * (249 / 250) + s.val) * 640 + k.val; omega)
  have e1 := word1 m c ⟨250 * (last.val / 250) + s.val, Pipeline.run_point_lt_of_flush last (by decide) s⟩ (ix2 (0 : Fin 1) k)
    ⟨s.val * 640 + k.val, hl⟩ (by show s.val * 640 + k.val = (250 * (249 / 250) + s.val) * 640 + k.val; omega)
  unfold dst src tbl
  rw [e0, e1]
  refine congrArg (fun g => edge (n := 10000) (B := 128) _ g (ix2 r q)) (funext fun z => ?_)
  exact tblk m c _ _

/-- The output's block is the whole array. -/
theorem whole_blk (t : Fin cfg0.N) (y : S10000x128.Idx) : y = ((cfg0.win 3).blk t).view.emb y := by
  blk_ext [idx t]

/-- The result array after the run is the reference of the arguments. -/
theorem final (h : Cert.Pre_SegBIdeal m) (c : Dev nD) : (dats m (hyps_of_pre m h) 0 c).arrAt 3 (cfgs 0).N
    = val_main_v13 (F := Ideal) (m ((c : Thread nD τ).loc main_arg0)) (m ((c : Thread nD τ).loc main_arg1)) := by
  refine (dats m _ 0 c).arrAt_eq_of_covers 3 _ (by decide +kernel) fun t hf y => ?_
  have ht : t = last := Fin.ext (by have := (flush0_3 t).mp hf; have : t.val < 250 := t.isLt; show t.val = 249; omega)
  subst ht
  blk_simp
  rw [after0_3]
  have e : outsAt0 m (hyps_of_pre m h) c last.val last.isLt y = outsAt0 m (hyps_of_pre m h) c last.val last.isLt (((cfg0.win 3).blk last).view.emb y) :=
    congrArg (outsAt0 m (hyps_of_pre m h) c last.val last.isLt) (whole_blk last y)
  refine e.trans ?_
  have key : ∀ z : S10000x128.Idx, outsAt0 m (hyps_of_pre m h) c last.val last.isLt z
      = val_main_v13 (F := Ideal) (m ((c : Thread nD τ).loc main_arg0)) (m ((c : Thread nD τ).loc main_arg1)) z := fun z => by
    rw [← ix2_eta (n0 := 10000) (n1 := 128) z]
    exact total m h c (z 0) (z 1)
  exact key _

/-- The two programs, run from memories that agree on the arguments, end with equal results and unchanged
    arguments. -/
theorem algebraic : Cert.algebraic_SegBIdeal_SegBRefIdeal := by
  pair_intro
  · run_from Cert.SegBIdeal.Gen.run_main m g (hyps_of_pre m hpre)
  · refine θ_run_mono (Cert.SegBRefIdeal.Value.run m' g') fun r hr c => ?_
    obtain ⟨h1, h2, h3⟩ := hr c
    refine ⟨?_, h2, h3⟩
    have e := h1.trans (Cert.SegBRefIdeal.Read.val_main_v13_eq (F := Ideal) _ _)
    rw [(hagree c).1, (hagree c).2] at e
    exact e.trans (final m hpre c).symm

end Cert.SegBIdeal.Seg

end
-- ==== Proof.BnProjRun.lean ====
/- The normalisation and the four projections, run: both pipelines and the host steps between them, so that a final
   memory holds every buffer at the contents the second pipeline leaves. -/
module

public import proofs.«01_k».proof.Proof.Gen.BnProjIdeal.Frame
public import Idealize.ShloMosaic.Lib.Pipeline.ValueKit
public import Idealize.ShloMosaic.Lib.Claim

@[expose] public section

set_option maxRecDepth 16384

noncomputable section

namespace Cert.BnProjIdeal.Bn

open Cert.BnProjIdeal Cert.BnProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, faulting nowhere, with each buffer at the contents the last segment leaves. -/
theorem run_all : θ_run defs (onTc (τ := τ) (main (F := F))) ⟨m, fun _ => 0, ρ⟩ (fun r =>
    ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- The four results after an execution are the second pipeline's output arrays, and the arguments are unchanged. -/
theorem run : θ_run defs (onTc (τ := τ) (main (F := F))) ⟨m, fun _ => 0, ρ⟩ (fun r => ∀ c : Dev nD,
      r.2.mem ((c.tc : Thread nD τ).loc main_v7_0) = (dat1 (V2 m ρ) c).arrAt 12 cfg1.N
      ∧ r.2.mem ((c.tc : Thread nD τ).loc main_v7_1) = (dat1 (V2 m ρ) c).arrAt 13 cfg1.N
      ∧ r.2.mem ((c.tc : Thread nD τ).loc main_v7_2) = (dat1 (V2 m ρ) c).arrAt 14 cfg1.N
      ∧ r.2.mem ((c.tc : Thread nD τ).loc main_v7_3) = (dat1 (V2 m ρ) c).arrAt 15 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    have out (w : Fin cfg1.W) (hw : ¬ (Proc.devRef .tc (Pipeline.arrRef spec1 w) : DevRef τ sig).isScoped) :
        r.2.mem ((c.tc : Thread nD τ).loc (Pipeline.arrRef spec1 w)) = (dat1 (V2 m ρ) c).arrAt w cfg1.N :=
      (h c _ (mem_uc _ hw)).trans (W3_arr m ρ c w)
    have arg (a : Ref sig .tc) (ha : a ∈ argRefs) (hu : ¬ (Proc.devRef .tc a : DevRef τ sig).isScoped) :
        r.2.mem ((c.tc : Thread nD τ).loc a) = m ((c.tc : Thread nD τ).loc a) :=
      (h c _ (mem_uc a hu)).trans (W3_args m ρ c a ha)
    ⟨out 12 (by decide), out 13 (by decide), out 14 (by decide), out 15 (by decide),
     arg main_arg0 (by decide) (by decide),
     arg main_arg1 (by decide) (by decide),
     arg main_arg2 (by decide) (by decide),
     arg main_arg3 (by decide) (by decide),
     arg main_arg4 (by decide) (by decide),
     arg main_arg5 (by decide) (by decide),
     arg main_arg6 (by decide) (by decide),
     arg main_arg7 (by decide) (by decide),
     arg main_arg8 (by decide) (by decide),
     arg main_arg9 (by decide) (by decide),
     arg main_arg10 (by decide) (by decide)⟩) (run_all m ρ)

end Cert.BnProjIdeal.Bn

end
-- ==== Proof.BnProjMoments.lean ====
/- The column sums and the column sums of squares of the features, as the first pipeline of the normalisation leaves
   them: rows 0 and 1 of its one output block, accumulated over the 50 row blocks. -/
module

public import proofs.«01_k».proof.Proof.Gen.BnProjIdeal.Frame
public import Idealize.ShloMosaic.Lib.Pipeline.ValueKit
public import Idealize.ShloMosaic.Lib.Claim
public import Idealize.ShloMosaic.Lib.WritesUnit
public import Idealize.ShloMosaic.Lib.Pipeline.ReadBack

@[expose] public section

set_option maxRecDepth 16384

noncomputable section

namespace Cert.BnProjIdeal.Bn

open Cert.BnProjIdeal Cert.BnProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The first stored row: the row read plus the column sums of the block. -/
theorem pay_sum (x0 : Vec Ideal S1000x42 .f32) (v : Vec Ideal S1x42 .f32) (j : Fin 42) :
    k0_pay2 x0 v (ix2 (0 : Fin 1) j) = v (ix2 (0 : Fin 1) j) + ∑ k : Fin 1000, x0 (ix2 k j) := by
  pointwise [k0_pay2]

/-- The second stored row: the row read plus the column sums of the squares of the block. -/
theorem pay_sq (x0 : Vec Ideal S1000x42 .f32) (v : Vec Ideal S1x42 .f32) (j : Fin 42) :
    k0_pay3 x0 v (ix2 (0 : Fin 1) j) = v (ix2 (0 : Fin 1) j) + ∑ k : Fin 1000, x0 (ix2 k j) * x0 (ix2 k j) := by
  pointwise [k0_pay3]

/-- The block the first point clears is zero. -/
theorem pay_zero (y : S8x42.Idx) : k0_pay1 (F := Ideal) y = 0 := by
  pointwise [k0_pay1]

section Steps

variable (c : Dev nD) (i : grid0.Coords) (arg1 : Memref sig .tc .vmem S1000x42 .f32) (harg1 : arg1.IsWhole)
    (arg2 : Memref sig .tc .vmem S8x42 .f32) (harg2 : arg2.IsWhole) (x0 : Vec Ideal S1000x42 .f32)

/-- Row 0 after the first point: the column sums of its block. -/
theorem first_sum (hc0 : cond0_0 i) (j : Fin 42) :
    out0_A_1 c i arg1 harg1 arg2 harg2 hc0 x0 (ix2 (0 : Fin 8) j) = 0 + ∑ k : Fin 1000, x0 (ix2 k j) := by
  frame_out
  rw [← View.read_writes_junk_apply_eq_canon arg2.view]
  refine (View.read_writes_cons_rows_of_not_mem (o := 1) (W := 1) _ _ _ _ _ _ rfl rfl (Or.inl Nat.zero_lt_one)).trans ?_
  refine (View.read_writes_cons_rows_of_mem (o := 0) (size := ![1, 42]) _ _ _ _ _
    (ix2 (0 : Fin 8) j) (ix2 (0 : Fin 1) j) rfl rfl rfl).trans ?_
  refine (pay_sum _ _ _).trans ?_
  refine congrArg (· + _) ?_
  rw [View.readCov_fill _ _ _ _ _ (fun a => by fin_cases a <;> rfl)]
  exact pay_zero _

/-- Row 1 after the first point: the column sums of squares of its block. -/
theorem first_sq (hc0 : cond0_0 i) (j : Fin 42) :
    out0_A_1 c i arg1 harg1 arg2 harg2 hc0 x0 (ix2 (1 : Fin 8) j) = 0 + ∑ k : Fin 1000, x0 (ix2 k j) * x0 (ix2 k j) := by
  frame_out
  rw [← View.read_writes_junk_apply_eq_canon arg2.view]
  refine (View.read_writes_cons_rows_of_mem (o := 1) (size := ![1, 42]) _ _ _ _ _
    (ix2 (1 : Fin 8) j) (ix2 (0 : Fin 1) j) rfl rfl rfl).trans ?_
  refine (pay_sq _ _ _).trans ?_
  refine congrArg (· + _) ?_
  rw [View.readCov_skip _ _ _ _ _ (by decide +kernel), View.readCov_fill _ _ _ _ _ (fun a => by fin_cases a <;> rfl)]
  exact pay_zero _

/-- Row 0 after a later point: what it held plus the column sums of the point's block. -/
theorem later_sum (hc0 : ¬cond0_0 i) (xo : Vec Ideal S8x42 .f32) (j : Fin 42) :
    out0_B_1 c i arg1 harg1 arg2 harg2 hc0 x0 xo (ix2 (0 : Fin 8) j)
      = xo (ix2 (0 : Fin 8) j) + ∑ k : Fin 1000, x0 (ix2 k j) := by
  frame_out
  refine (View.read_writes_cons_rows_of_not_mem (o := 1) (W := 1) _ _ _ _ _ _ rfl rfl (Or.inl Nat.zero_lt_one)).trans ?_
  refine (View.read_writes_cons_rows_of_mem (o := 0) (size := ![1, 42]) _ _ _ _ _
    (ix2 (0 : Fin 8) j) (ix2 (0 : Fin 1) j) rfl rfl rfl).trans ?_
  refine (pay_sum _ _ _).trans ?_
  refine congrArg (· + _) ?_
  exact View.ld_unit_apply_of xo _ _ _ _ _ (fun a => by fin_cases a <;> simp)

/-- Row 1 after a later point: what it held plus the column sums of squares of the point's block. -/
theorem later_sq (hc0 : ¬cond0_0 i) (xo : Vec Ideal S8x42 .f32) (j : Fin 42) :
    out0_B_1 c i arg1 harg1 arg2 harg2 hc0 x0 xo (ix2 (1 : Fin 8) j)
      = xo (ix2 (1 : Fin 8) j) + ∑ k : Fin 1000, x0 (ix2 k j) * x0 (ix2 k j) := by
  frame_out
  refine (View.read_writes_cons_rows_of_mem (o := 1) (size := ![1, 42]) _ _ _ _ _
    (ix2 (1 : Fin 8) j) (ix2 (0 : Fin 1) j) rfl rfl rfl).trans ?_
  refine (pay_sq _ _ _).trans ?_
  refine congrArg (· + _) ?_
  exact View.ld_unit_apply_of xo _ _ _ _ _ (fun a => by fin_cases a <;> simp)

end Steps

/-- Every window's block index at every grid point: the features move with the point, the sums stay. -/
theorem idx0 : ∀ t : Fin cfg0.N, win0_0.index t = ![t.val, 0] ∧ win0_1.index t = ![0, 0] :=
  (by decide +kernel : ∀ t : Fin grid0.N, _)

/-- The features. -/
abbrev feat (c : Dev nD) : FVec Ideal S50000x42 .f32 := m ((c : Thread nD τ).loc main_arg0)

/-- The block of features of point `t`. -/
abbrev featBlk (c : Dev nD) (t : Fin cfg0.N) : FVec Ideal S1000x42 .f32 := iblk0 (V0 m ρ) c 0 t

/-- Row `k` of the block of features of point `t` is row `1000 t + k` of the features. -/
theorem blk0 (c : Dev nD) (t : Fin cfg0.N) (k : Fin 1000) (j : Fin 42) :
    featBlk m ρ c t (ix2 k j)
      = feat m c (ix2 (⟨1000 * t.val + k.val, by have : t.val < 50 := t.isLt; omega⟩ : Fin 50000) j) := by
  unfold featBlk iblk0
  blk_simp
  blk_ext [idx0 t]

/-- The last point of the first pipeline. -/
abbrev last0 : Fin cfg0.N := ⟨49, by decide⟩

/-- The array of sums after the first pipeline is the block its last point leaves. -/
theorem final0 (c : Dev nD) : (dat0 (V0 m ρ) c).arrAt 1 cfg0.N
    = outsAt0 (V0 m ρ) c last0.val last0.isLt := by
  refine (dat0 (V0 m ρ) c).arrAt_eq_of_covers 1 _ (by decide +kernel) fun t hf y => ?_
  have ht : t = last0 := Fin.ext (by have := (flush0_1 t).mp hf; have : t.val < 50 := t.isLt; show t.val = 49; omega)
  subst ht
  blk_simp
  rw [after0_1]
  refine congrArg (outsAt0 (V0 m ρ) c last0.val last0.isLt) ?_
  blk_ext [idx0 last0]

/-- Row 0 of the array of sums: the sum of each column over all rows. -/
theorem moment_sum (c : Dev nD) (j : Fin 42) :
    outsAt0 (V0 m ρ) c last0.val last0.isLt (ix2 (0 : Fin 8) j) = ∑ k : Fin 50000, feat m c (ix2 k j) := by
  rw [Pipeline.eq_sum_fin_of_reset_step_apply_of_flush
    (fun n h (j : Fin 42) => outsAt0 (V0 m ρ) c n h (ix2 (0 : Fin 8) j)) 50 (fun _ => 0)
    (fun t j => ∑ k : Fin 1000, featBlk m ρ c t (ix2 k j))
    (fun t h j => by rw [outsAt0_A (V0 m ρ) c t h]; exact first_sum c _ _ _ _ _ _ _ j)
    (fun t h j => by rw [outsAt0_B (V0 m ρ) c t h]; exact later_sum c _ _ _ _ _ _ _ _ j) last0 (by decide) j, zero_add]
  refine Fin.sum_mul_add_congr fun s k hl => ?_
  have e : featBlk m ρ c ⟨50 * (last0.val / 50) + s.val, Pipeline.run_point_lt_of_flush last0 (by decide) s⟩ (ix2 k j)
      = feat m c (ix2 (⟨s.val * 1000 + k.val, hl⟩ : Fin 50000) j) :=
    (blk0 m ρ c _ k j).trans (congrArg (fun a => feat m c (ix2 a j)) (Fin.ext (by
      show 1000 * (50 * (49 / 50) + s.val) + k.val = s.val * 1000 + k.val; omega)))
  rw [e]

/-- Row 1 of the array of sums: the sum of the squares of each column over all rows. -/
theorem moment_sq (c : Dev nD) (j : Fin 42) :
    outsAt0 (V0 m ρ) c last0.val last0.isLt (ix2 (1 : Fin 8) j) = ∑ k : Fin 50000, feat m c (ix2 k j) * feat m c (ix2 k j) := by
  rw [Pipeline.eq_sum_fin_of_reset_step_apply_of_flush
    (fun n h (j : Fin 42) => outsAt0 (V0 m ρ) c n h (ix2 (1 : Fin 8) j)) 50 (fun _ => 0)
    (fun t j => ∑ k : Fin 1000, featBlk m ρ c t (ix2 k j) * featBlk m ρ c t (ix2 k j))
    (fun t h j => by rw [outsAt0_A (V0 m ρ) c t h]; exact first_sq c _ _ _ _ _ _ _ j)
    (fun t h j => by rw [outsAt0_B (V0 m ρ) c t h]; exact later_sq c _ _ _ _ _ _ _ _ j) last0 (by decide) j, zero_add]
  refine Fin.sum_mul_add_congr fun s k hl => ?_
  have e : featBlk m ρ c ⟨50 * (last0.val / 50) + s.val, Pipeline.run_point_lt_of_flush last0 (by decide) s⟩ (ix2 k j)
      = feat m c (ix2 (⟨s.val * 1000 + k.val, hl⟩ : Fin 50000) j) :=
    (blk0 m ρ c _ k j).trans (congrArg (fun a => feat m c (ix2 a j)) (Fin.ext (by
      show 1000 * (50 * (49 / 50) + s.val) + k.val = s.val * 1000 + k.val; omega)))
  rw [e]

end Cert.BnProjIdeal.Bn

end
-- ==== Proof.BnProjNorm.lean ====
/- The two ways to normalise a column of finite numbers: by the mean of the squares less the square of the mean, times a
   reciprocal square root, and by the mean of the squared differences, divided by a square root. -/
module

public import Idealize.ShloMosaic.Lib.Pipeline.ValueKit
public import Idealize.ShloMosaic.PureOps.Ideal.Laws

@[expose] public section

noncomputable section

namespace Cert.BnProjIdeal.Bn

open Idealize.ShloMosaic

/-- The mean of the squares less the square of the mean is the mean of the squared differences. -/
theorem variance_eq (g : Fin 50000 → ℝ) :
    (∑ i, g i * g i) / 50000 - (∑ i, g i) / 50000 * ((∑ i, g i) / 50000)
      = (∑ i, (g i - (∑ i, g i) / 50000) * (g i - (∑ i, g i) / 50000)) / 50000 := by
  generalize hS : (∑ i, g i) = S
  have h (i : Fin 50000) : (g i - S / 50000) * (g i - S / 50000)
      = g i * g i - 2 * (S / 50000) * g i + S / 50000 * (S / 50000) := by ring
  simp only [h, Finset.sum_add_distrib, Finset.sum_sub_distrib, ← Finset.mul_sum, hS, Finset.sum_const, Finset.card_univ,
    Fintype.card_fin, nsmul_eq_mul]
  push_cast
  ring

/-- A sum of reals read as extended reals. -/
theorem coe_sum (g : Fin 50000 → ℝ) : (∑ i, (g i : EReal)) = ((∑ i, g i : ℝ) : EReal) :=
  (map_sum (⟨⟨fun r : ℝ => (r : EReal), EReal.coe_zero⟩, EReal.coe_add⟩ : ℝ →+ EReal) g Finset.univ).symm

/-- Multiplying by the reciprocal square root of a positive number divides by its square root. -/
theorem mul_rsqrt (x : EReal) (v : ℝ) (hv : 0 < v) : x * Ideal.rsqrt (v : EReal) = Ideal.div x (Ideal.sqrt (v : EReal)) := by
  have hs : (0 : ℝ) < Real.sqrt v := Real.sqrt_pos.mpr hv
  rw [Ideal.rsqrt_coe, Ideal.sqrt_coe]
  simp [Ideal.div, hv.ne', hv.not_gt, hs.ne', hv.le]
  rw [EReal.coe_inv]

/-- The two normalisations agree on finite columns. -/
theorem normalise (f : Fin 50000 → EReal) (hf : ∀ i, ∃ r : ℝ, f i = (r : EReal)) (e : ℝ) (he : 0 < e) (a : Fin 50000) :
    (f a - Ideal.div (∑ i, f i) ((50000 : ℝ) : EReal))
        * Ideal.rsqrt (Ideal.div (∑ i, f i * f i) ((50000 : ℝ) : EReal)
          - Ideal.div (∑ i, f i) ((50000 : ℝ) : EReal) * Ideal.div (∑ i, f i) ((50000 : ℝ) : EReal) + (e : EReal))
      = Ideal.div (f a - Ideal.div (∑ i, f i) ((50000 : ℝ) : EReal))
        (Ideal.sqrt (Ideal.div (∑ i, (f i - Ideal.div (∑ i, f i) ((50000 : ℝ) : EReal))
          * (f i - Ideal.div (∑ i, f i) ((50000 : ℝ) : EReal))) ((50000 : ℝ) : EReal) + (e : EReal))) := by
  choose g hg using hf
  obtain rfl : f = fun i => (g i : EReal) := funext hg
  have hd (r : ℝ) : Ideal.div (r : EReal) ((50000 : ℝ) : EReal) = ((r / 50000 : ℝ) : EReal) := by
    rw [Ideal.div_coe (y := (50000 : ℝ)) (by norm_num), ← EReal.coe_mul, mul_one_div]
  simp only [coe_sum, hd, ← EReal.coe_mul, ← EReal.coe_sub, ← EReal.coe_add]
  rw [variance_eq]
  refine mul_rsqrt _ _ (add_pos_of_nonneg_of_pos ?_ he)
  exact div_nonneg (Finset.sum_nonneg fun i _ => mul_self_nonneg _) (by norm_num)

/-- The number of rows, as the programs write it. -/
theorem rows_eq : Ideal.ofBits .f32 0x47435000#32 = ((50000 : ℝ) : EReal) := by
  simp [Ideal.ofBits, Ideal.ieee, -EReal.coe_mul]; norm_num

/-- The small constant added to a variance is a positive real. -/
theorem eps_eq : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- A value whose magnitude is below infinity is a real. -/
theorem real_of_abs_lt (x : EReal)
    (h : FloatOps.cmpf (F := Ideal) (φ := .f32) .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x with
  | bot => exact absurd h' (by simp [Ideal.cmp])
  | coe r => exact ⟨r, rfl⟩
  | top => exact absurd h' (by simp [Ideal.cmp])

end Cert.BnProjIdeal.Bn

end
-- ==== Proof.BnProjValue.lean ====
/- The normalisation of the node features and the four projections. -/
module

public import proofs.«01_k».proof.Proof.BnProjRun
public import proofs.«01_k».proof.Proof.BnProjMoments
public import proofs.«01_k».proof.Proof.BnProjNorm
public import proofs.«01_k».proof.Proof.Gen.BnProjRefIdeal.Read
public import proofs.«01_k».proof.Proof.Gen.Pre_features_finite
public import proofs.«01_k».proof.Defs
public import Idealize.ShloMosaic.Lib.Pipeline.ValueKit
public import Idealize.ShloMosaic.Lib.Claim

@[expose] public section

set_option maxRecDepth 16384

noncomputable section

namespace Cert.BnProjIdeal.Bn

open Cert.BnProjIdeal Cert.BnProjIdeal.Gen Idealize.ShloMosaic Idealize.ShloMosaic.TcCoe Idealize.SL.Sem
open Cert.BnProjRefIdeal.Read
open Idealize.ShloMosaic.Pipeline (Dat)

variable (m : (ℓ : Loc nD τ sig) → Buf (Elt Ideal) ℓ) (ρ : Dev nD → PrngReg)

/-- Under the precondition every feature is a real. -/
theorem finite (h : Cert.Pre_BnProjIdeal m) (c : Dev nD) (y : S50000x42.Idx) : ∃ r : ℝ, feat m c y = (r : EReal) :=
  real_of_abs_lt _ (congrFun (h c) y)

/-- The normalised block, at an index. -/
theorem pay4 (st : Vec Ideal S8x42 .f32) (x : Vec Ideal S1000x42 .f32) (g b : Vec Ideal S1x42 .f32) (k : Fin 1000)
    (j : Fin 42) : k1_pay4 st x g b (ix2 k j)
      = (x (ix2 k j) - Ideal.div (st (ix2 (0 : Fin 8) j)) ((50000 : ℝ) : EReal))
        * Ideal.rsqrt (Ideal.div (st (ix2 (1 : Fin 8) j)) ((50000 : ℝ) : EReal)
          - Ideal.div (st (ix2 (0 : Fin 8) j)) ((50000 : ℝ) : EReal) * Ideal.div (st (ix2 (0 : Fin 8) j)) ((50000 : ℝ) : EReal)
          + Ideal.ofBits .f32 0x3727C5AC#32) * g (ix2 (0 : Fin 1) j) + b (ix2 (0 : Fin 1) j) := by
  rw [← rows_eq]
  pointwise [k1_pay4]

/-- The reference's normalised features, at an index. -/
theorem ref24 (x : FVec Ideal S50000x42 .f32) (g b : FVec Ideal S42 .f32) (k : Fin 50000) (j : Fin 42) :
    val_main_v24 (F := Ideal) x g b (ix2 k j)
      = Ideal.div (x (ix2 k j) - Ideal.div (∑ i, x (ix2 i j)) ((50000 : ℝ) : EReal))
        (Ideal.sqrt (Ideal.div (∑ i, (x (ix2 i j) - Ideal.div (∑ i, x (ix2 i j)) ((50000 : ℝ) : EReal))
          * (x (ix2 i j) - Ideal.div (∑ i, x (ix2 i j)) ((50000 : ℝ) : EReal))) ((50000 : ℝ) : EReal)
          + Ideal.ofBits .f32 0x3727C5AC#32)) * g (ix1 j) + b (ix1 j) := by
  rw [← rows_eq]
  pointwise [val_main_v24, val_main_v23, val_main_v22, val_main_v21, val_main_v20, val_main_v19, val_main_v18, val_main_v17,
    val_main_v16, val_main_v15, val_main_v14, val_main_v13, val_main_cst_3, val_main_v12, val_main_v11, val_main_v10,
    val_main_v9, val_main_v8, val_main_cst_2, val_main_v7, val_main_cst_1, val_main_v6, val_main_v5, val_main_v4,
    val_main_v3, val_main_v2, val_main_v1, val_main_cst_0, val_main_v0, val_main_cst]

/-- A projection: the rows of `H` times a weight, plus a bias. -/
def proj {n : ℕ} (H : Fin n → Fin 42 → EReal) (W : FVec Ideal S42x128 .f32) (b : Fin 128 → EReal) (k : Fin n) (j : Fin 128) :
    EReal := ∑ q : Fin 42, H k q * W (ix2 q j) + b j

/-- The first projection of the normalised block, at an index. -/
theorem pay5 (st : Vec Ideal S8x42 .f32) (x : Vec Ideal S1000x42 .f32) (g b : Vec Ideal S1x42 .f32)
    (W : Vec Ideal S42x128 .f32) (c : Vec Ideal S1x128 .f32) (k : Fin 1000) (j : Fin 128) :
    k1_pay5 st x g b W c (ix2 k j) = proj (fun k q => k1_pay4 st x g b (ix2 k q)) W (fun j => c (ix2 (0 : Fin 1) j)) k j := by
  unfold k1_pay5
  generalize k1_pay4 st x g b = H
  pointwise [proj]

/-- The second projection of the normalised block, at an index. -/
theorem pay16 (st : Vec Ideal S8x42 .f32) (x : Vec Ideal S1000x42 .f32) (g b : Vec Ideal S1x42 .f32)
    (W : Vec Ideal S42x128 .f32) (c : Vec Ideal S1x128 .f32) (k : Fin 1000) (j : Fin 128) :
    k1_pay1 (k1_pay6 st x g b W) c (ix2 k j)
      = proj (fun k q => k1_pay4 st x g b (ix2 k q)) W (fun j => c (ix2 (0 : Fin 1) j)) k j := by
  unfold k1_pay1 k1_pay6
  generalize k1_pay4 st x g b = H
  pointwise [proj]

/-- The third projection of the normalised block, at an index. -/
theorem pay2 (H : FVec Ideal S1000x42 .f32)
    (W : Vec Ideal S42x128 .f32) (c : Vec Ideal S1x128 .f32) (k : Fin 1000) (j : Fin 128) :
    k1_pay2 H W c (ix2 k j) = proj (fun k q => H (ix2 k q)) W (fun j => c (ix2 (0 : Fin 1) j)) k j := by
  pointwise [k1_pay2, proj]

/-- The fourth projection of the normalised block, at an index. -/
theorem pay3 (H : FVec Ideal S1000x42 .f32)
    (W : Vec Ideal S42x128 .f32) (c : Vec Ideal S1x128 .f32) (k : Fin 1000) (j : Fin 128) :
    k1_pay3 H W c (ix2 k j) = proj (fun k q => H (ix2 k q)) W (fun j => c (ix2 (0 : Fin 1) j)) k j := by
  pointwise [k1_pay3, proj]

/-- The reference's projection, at an index. -/
theorem ref28 (x : FVec Ideal S50000x42 .f32) (g b : FVec Ideal S42 .f32) (W : FVec Ideal S42x128 .f32)
    (c : FVec Ideal S128 .f32) (k : Fin 50000) (j : Fin 128) :
    val_main_v28 (F := Ideal) x g b W c (ix2 k j)
      = proj (fun k q => val_main_v24 (F := Ideal) x g b (ix2 k q)) W (fun j => c (ix1 j)) k j := by
  unfold val_main_v28 val_main_v25
  generalize val_main_v24 (F := Ideal) x g b = H
  pointwise [val_main_v27, val_main_v26, proj]

/-- Every window's block index of the second pipeline at every grid point: the features and the results move with the
    point, everything else stays. -/
theorem idx1 : ∀ t : Fin cfg1.N, win1_0.index t = ![t.val, 0] ∧ win1_1.index t = ![0, 0] ∧ win1_2.index t = ![0, 0]
    ∧ win1_3.index t = ![0, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![0, 0]
    ∧ win1_11.index t = ![0, 0] ∧ win1_12.index t = ![t.val, 0] ∧ win1_13.index t = ![t.val, 0]
    ∧ win1_14.index t = ![t.val, 0] ∧ win1_15.index t = ![t.val, 0] :=
  (by decide +kernel : ∀ t : Fin grid1.N, _)

/-- The second pipeline's feature block at a grid point holds the rows of that point. -/
theorem in_feat (c : Dev nD) (t : Fin cfg1.N) (k : Fin 1000) (j : Fin 42) :
    (iblk1 (V2 m ρ) c 0 t : FVec Ideal S1000x42 .f32) (ix2 k j)
      = feat m c (ix2 (⟨1000 * t.val + k.val, by have : t.val < 50 := t.isLt; omega⟩ : Fin 50000) j) := by
  have hv : V2 m ρ c (Pipeline.arrRef spec1 0) = m ((c : Thread nD τ).loc main_arg0) := W2_args m ρ c main_arg0 (by decide)
  unfold iblk1
  rw [hv]
  blk_simp
  blk_ext [idx1 t]

/-- The sums the second pipeline reads are those the first pipeline ends with. -/
theorem in_sums (c : Dev nD) (t : Fin cfg1.N) :
    (iblk1 (V2 m ρ) c 1 t : FVec Ideal S8x42 .f32) = outsAt0 (V0 m ρ) c last0.val last0.isLt := by
  have hv : V2 m ρ c (Pipeline.arrRef spec1 1) = outsAt0 (V0 m ρ) c last0.val last0.isLt :=
    (W2_of m ρ c main_v0 (by decide)).trans ((W1_arr m ρ c 1).trans (final0 m ρ c))
  unfold iblk1
  rw [hv]
  funext y
  blk_simp
  refine congrArg (outsAt0 (V0 m ρ) c last0.val last0.isLt) ?_
  blk_ext [idx1 t]

/-- The scale and shift rows of the second pipeline are the arguments, laid out as rows by the host. -/
theorem in_scale_shift (c : Dev nD) (t : Fin cfg1.N) (j : Fin 42) :
    (iblk1 (V2 m ρ) c 2 t : FVec Ideal S1x42 .f32) (ix2 (0 : Fin 1) j) = m ((c : Thread nD τ).loc main_arg1) (ix1 j)
    ∧ (iblk1 (V2 m ρ) c 3 t : FVec Ideal S1x42 .f32) (ix2 (0 : Fin 1) j) = m ((c : Thread nD τ).loc main_arg2) (ix1 j) := by
  refine ⟨?_, ?_⟩ <;>
    (unfold iblk1
     dsimp only [V2, W2]
     entry_read
     rw [W1_args m ρ c _ (by decide)]
     blk_simp
     pointwise []
     blk_ext [idx1 t])

/-- The bias rows of the second pipeline are the arguments, laid out as rows by the host. -/
theorem in_bias (c : Dev nD) (t : Fin cfg1.N) (j : Fin 128) :
    (iblk1 (V2 m ρ) c 5 t : FVec Ideal S1x128 .f32) (ix2 (0 : Fin 1) j) = m ((c : Thread nD τ).loc main_arg4) (ix1 j)
    ∧ (iblk1 (V2 m ρ) c 7 t : FVec Ideal S1x128 .f32) (ix2 (0 : Fin 1) j) = m ((c : Thread nD τ).loc main_arg6) (ix1 j)
    ∧ (iblk1 (V2 m ρ) c 9 t : FVec Ideal S1x128 .f32) (ix2 (0 : Fin 1) j) = m ((c : Thread nD τ).loc main_arg8) (ix1 j)
    ∧ (iblk1 (V2 m ρ) c 11 t : FVec Ideal S1x128 .f32) (ix2 (0 : Fin 1) j) = m ((c : Thread nD τ).loc main_arg10) (ix1 j) := by
  refine ⟨?_, ?_, ?_, ?_⟩ <;>
    (unfold iblk1
     dsimp only [V2, W2]
     entry_read
     rw [W1_args m ρ c _ (by decide)]
     blk_simp
     pointwise []
     blk_ext [idx1 t])

/-- The weights of the second pipeline are the arguments. -/
theorem in_weights (c : Dev nD) (t : Fin cfg1.N) :
    (iblk1 (V2 m ρ) c 4 t : FVec Ideal S42x128 .f32) = m ((c : Thread nD τ).loc main_arg3)
    ∧ (iblk1 (V2 m ρ) c 6 t : FVec Ideal S42x128 .f32) = m ((c : Thread nD τ).loc main_arg5)
    ∧ (iblk1 (V2 m ρ) c 8 t : FVec Ideal S42x128 .f32) = m ((c : Thread nD τ).loc main_arg7)
    ∧ (iblk1 (V2 m ρ) c 10 t : FVec Ideal S42x128 .f32) = m ((c : Thread nD τ).loc main_arg9) := by
  refine ⟨?_, ?_, ?_, ?_⟩ <;>
    (unfold iblk1
     dsimp only [V2]
     rw [W2_args m ρ c _ (by decide)]
     funext y
     blk_simp
     refine congrArg (m (Thread.loc c.tc _)) ?_
     blk_ext [idx1 t])

/-- The normalised block at a grid point holds the reference's normalised features of its rows. -/
theorem rows_norm (h : Cert.Pre_BnProjIdeal m) (c : Dev nD) (t : Fin cfg1.N) (k : Fin 1000) (j : Fin 42) :
    k1_pay4 (iblk1 (V2 m ρ) c 1 t) (iblk1 (V2 m ρ) c 0 t) (iblk1 (V2 m ρ) c 2 t) (iblk1 (V2 m ρ) c 3 t) (ix2 k j)
      = val_main_v24 (F := Ideal) (feat m c) (m ((c : Thread nD τ).loc main_arg1)) (m ((c : Thread nD τ).loc main_arg2))
        (ix2 (⟨1000 * t.val + k.val, by have : t.val < 50 := t.isLt; omega⟩ : Fin 50000) j) := by
  obtain ⟨e, he, hc⟩ := eps_eq
  rw [pay4, ref24, in_feat, in_sums, (in_scale_shift m ρ c t j).1, (in_scale_shift m ρ c t j).2, moment_sum, moment_sq, hc,
    normalise (fun i => feat m c (ix2 i j)) (fun i => finite m h c _) e he]

/-- A block of projected rows holds the reference's projection of the same rows, whichever weight and bias are used. -/
theorem rows_proj (h : Cert.Pre_BnProjIdeal m) (c : Dev nD) (t : Fin cfg1.N) (W : FVec Ideal S42x128 .f32)
    (b : FVec Ideal S128 .f32) (W' : FVec Ideal S42x128 .f32) (b' : FVec Ideal S1x128 .f32) (hW : W' = W)
    (hb : ∀ j, b' (ix2 (0 : Fin 1) j) = b (ix1 j)) (k : Fin 1000) (j : Fin 128) :
    proj (fun k q => k1_pay4 (iblk1 (V2 m ρ) c 1 t) (iblk1 (V2 m ρ) c 0 t) (iblk1 (V2 m ρ) c 2 t) (iblk1 (V2 m ρ) c 3 t)
        (ix2 k q)) W' (fun j => b' (ix2 (0 : Fin 1) j)) k j
      = val_main_v28 (F := Ideal) (feat m c) (m ((c : Thread nD τ).loc main_arg1)) (m ((c : Thread nD τ).loc main_arg2)) W b
        (ix2 (⟨1000 * t.val + k.val, by have : t.val < 50 := t.isLt; omega⟩ : Fin 50000) j) := by
  subst hW
  rw [ref28]
  unfold proj
  simp only [hb, rows_norm m ρ h c t]

/-- The first result array after the run is the reference's projection. -/
theorem final12 (h : Cert.Pre_BnProjIdeal m) (c : Dev nD) : (dat1 (V2 m ρ) c).arrAt 12 cfg1.N
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dat1 (V2 m ρ) c).arrAt_eq_of_covers 12 _ (by decide +kernel) fun t _ y => ?_
  blk_simp
  rw [after1_12]; frame_out
  obtain ⟨k, j, rfl⟩ : ∃ (k : Fin 1000) (j : Fin 128), y = ix2 k j := ⟨y 0, y 1, by funext d; fin_cases d <;> rfl⟩
  refine (pay5 _ _ _ _ _ _ k j).trans ((rows_proj m ρ h c t _ _ _ _ (in_weights m ρ c t).1 (fun j => (in_bias m ρ c t j).1) k j).trans ?_)
  refine congrArg (val_main_v28 (F := Ideal) _ _ _ _ _) ?_
  blk_ext [idx1 t]

/-- The second result array after the run is the reference's projection. -/
theorem final13 (h : Cert.Pre_BnProjIdeal m) (c : Dev nD) : (dat1 (V2 m ρ) c).arrAt 13 cfg1.N
    = val_main_v28 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dat1 (V2 m ρ) c).arrAt_eq_of_covers 13 _ (by decide +kernel) fun t _ y => ?_
  blk_simp
  rw [after1_13]; frame_out
  obtain ⟨k, j, rfl⟩ : ∃ (k : Fin 1000) (j : Fin 128), y = ix2 k j := ⟨y 0, y 1, by funext d; fin_cases d <;> rfl⟩
  refine (pay16 _ _ _ _ _ _ k j).trans ((rows_proj m ρ h c t _ _ _ _ (in_weights m ρ c t).2.1 (fun j => (in_bias m ρ c t j).2.1) k j).trans ?_)
  refine congrArg (val_main_v28 (F := Ideal) _ _ _ _ _) ?_
  blk_ext [idx1 t]

/-- The third result array after the run is the reference's projection. -/
theorem final14 (h : Cert.Pre_BnProjIdeal m) (c : Dev nD) : (dat1 (V2 m ρ) c).arrAt 14 cfg1.N
    = val_main_v28 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  refine (dat1 (V2 m ρ) c).arrAt_eq_of_covers 14 _ (by decide +kernel) fun t _ y => ?_
  blk_simp
  rw [after1_14]; unfold_out out1_14; frame_out
  obtain ⟨k, j, rfl⟩ : ∃ (k : Fin 1000) (j : Fin 128), y = ix2 k j := ⟨y 0, y 1, by funext d; fin_cases d <;> rfl⟩
  refine (pay2 _ _ _ k j).trans ((rows_proj m ρ h c t _ _ _ _ (in_weights m ρ c t).2.2.1 (fun j => (in_bias m ρ c t j).2.2.1) k j).trans ?_)
  refine congrArg (val_main_v28 (F := Ideal) _ _ _ _ _) ?_
  blk_ext [idx1 t]

/-- The fourth result array after the run is the reference's projection. -/
theorem final15 (h : Cert.Pre_BnProjIdeal m) (c : Dev nD) : (dat1 (V2 m ρ) c).arrAt 15 cfg1.N
    = val_main_v28 (F := Ideal) (m ((c : Thread nD τ).loc main_arg0)) (m ((c : Thread nD τ).loc main_arg1)) (m ((c : Thread nD τ).loc main_arg2)) (m ((c : Thread nD τ).loc main_arg9)) (m ((c : Thread nD τ).loc main_arg10)) := by
  refine (dat1 (V2 m ρ) c).arrAt_eq_of_covers 15 _ (by decide +kernel) fun t _ y => ?_
  blk_simp
  rw [after1_15]; unfold_out out1_15; frame_out
  obtain ⟨k, j, rfl⟩ : ∃ (k : Fin 1000) (j : Fin 128), y = ix2 k j := ⟨y 0, y 1, by funext d; fin_cases d <;> rfl⟩
  refine (pay3 _ _ _ k j).trans ((rows_proj m ρ h c t _ _ _ _ (in_weights m ρ c t).2.2.2 (fun j => (in_bias m ρ c t j).2.2.2) k j).trans ?_)
  refine congrArg (val_main_v28 (F := Ideal) _ _ _ _ _) ?_
  blk_ext [idx1 t]

/-- The two programs, run from memories that agree on the arguments and hold finite features, end with equal results
    and unchanged arguments. -/
theorem algebraic : Cert.algebraic_BnProjIdeal_BnProjRefIdeal := by
  pair_intro
  · run_from Cert.BnProjIdeal.Bn.run m g
  · run_from Cert.BnProjRefIdeal.Value.run m' g'
    · exact (val_main_v28_eq _ _ _ _ _).trans (final12 m g hpre c).symm
    · exact (val_main_v28_eq _ _ _ _ _).trans (final13 m g hpre c).symm
    · exact (val_main_v28_eq _ _ _ _ _).trans (final14 m g hpre c).symm
    · exact (val_main_v28_eq _ _ _ _ _).trans (final15 m g hpre c).symm

end Cert.BnProjIdeal.Bn

end
-- ==== Proof.Gather.lean ====
/- Facts shared by the calls of the edge attention: a loop that copies the rows its words name, and the place of a word's
   entry in an array kept as rows of 128. -/
module

public import proofs.«01_k».proof.Proof.Rows
public import Idealize.ShloMosaic.Lib.Affine
public import Idealize.ShloMosaic.Lib.Pipeline.ValueKit
public import Idealize.ShloMosaic.Lib.Routing.Ops

@[expose] public section

noncomputable section

namespace Cert.Gather

open Idealize.ShloMosaic Idealize.SL.Sem Cert.Rows

variable {n N B : ℕ}

/-- The rows of a table that a block of words names. -/
abbrev rowsOf [NeZero n] (X : (⟨2, ![n, B]⟩ : Shape).Idx → EReal) (W : IVec (⟨2, ![1, N]⟩ : Shape) 32) :
    (⟨2, ![N, B]⟩ : Shape).Idx → EReal :=
  fun y => X (ix2 (row n (W (ix2 (0 : Fin 1) (y 0)))) (y 1))

/-- One trip: the row loaded at a word's row is, at row `k` of the target, the row that the word names. -/
theorem gather_step [NeZero n] (X : (⟨2, ![n, B]⟩ : Shape).Idx → EReal) (W : IVec (⟨2, ![1, N]⟩ : Shape) 32) (k : Fin N) (w : BitVec 32)
    (hw : w = W (ix2 (0 : Fin 1) k)) (hb : w.toNat < n) (off off' : Fin 2 → ℕ) (ho : off = ![w.toNat, 0]) (ho' : off' = ![k.val, 0])
    (inb : ∀ a : Fin 2, off a + (![1, B] : Fin 2 → ℕ) a ≤ (![n, B] : Fin 2 → ℕ) a)
    (inb' : ∀ a : Fin 2, off' a + (![1, B] : Fin 2 → ℕ) a ≤ (![N, B] : Fin 2 → ℕ) a) (x : (⟨2, ![1, B]⟩ : Shape).Idx) :
    X ((Rect.unit (s := ⟨2, ![n, B]⟩) off ![1, B] inb).toLoadRect.idx x)
      = rowsOf X W ((Rect.unit (s := ⟨2, ![N, B]⟩) off' ![1, B] inb').emb x) := by
  subst ho ho'
  have hx : (x 0).val < 1 := (x 0).isLt
  have e0 : (Rect.unit (s := ⟨2, ![N, B]⟩) ![k.val, 0] ![1, B] inb').emb x 0 = k := Fin.ext (by
    show k.val + 1 * (x 0).val = k.val; omega)
  refine congrArg X (funext fun a => Fin.ext ?_)
  match a with
  | ⟨0, _⟩ =>
    show w.toNat + 1 * (x 0).val = (W (ix2 (0 : Fin 1) ((Rect.unit (s := ⟨2, ![N, B]⟩) ![k.val, 0] ![1, B] inb').emb x 0))).toNat % n
    rw [e0, ← hw, Nat.mod_eq_of_lt hb]; omega
  | ⟨1, _⟩ => rfl

/-- Row `k` of the target is stored by trip `k`. -/
theorem row_covered (y : (⟨2, ![N, B]⟩ : Shape).Idx) (off : Fin 2 → ℕ) (ho : off = ![(y 0).val, 0])
    (inb : ∀ a : Fin 2, off a + (![1, B] : Fin 2 → ℕ) a ≤ (![N, B] : Fin 2 → ℕ) a) :
    y ∈ (Rect.unit (s := ⟨2, ![N, B]⟩) off ![1, B] inb).set := by
  subst ho
  rw [Rect.mem_set_unit]
  intro a
  match a with
  | ⟨0, _⟩ => exact ⟨le_rfl, Nat.lt_succ_self _⟩
  | ⟨1, _⟩ => exact ⟨Nat.zero_le _, by show (y 1).val < 0 + B; have := (y 1).isLt; simpa using this⟩

/-- A load of a whole buffer at offset zero reads its contents. -/
theorem load_whole (C G : (⟨2, ![N, B]⟩ : Shape).Idx → EReal) (inb : ∀ a : Fin 2, (![0, 0] : Fin 2 → ℕ) a + (![N, B] : Fin 2 → ℕ) a ≤ (![N, B] : Fin 2 → ℕ) a)
    (hC : C = G) : (fun j => C ((Rect.unit (s := ⟨2, ![N, B]⟩) ![0, 0] ![N, B] inb).toLoadRect.idx j)) = G := by
  rw [hC]
  exact View.ld_unit_zero (Val := Elt Ideal) (e := .f32) (funext fun a => by match a with | ⟨0, _⟩ => rfl | ⟨1, _⟩ => rfl) inb G

/-- The quotient by 128 of a word that is not negative. -/
theorem toNat_div128 {v : BitVec 32} (hv : v.toNat < 2 ^ 31) : (Scalar.divsi v 128#32).toNat = v.toNat / 128 := by
  have hm : v.msb = false := by rw [BitVec.msb_eq_false_iff_two_mul_lt]; omega
  rw [Scalar.divsi, IntOp.divsi, if_neg (IntOp.not_corner_of_pos (by decide)), BitVec.sdiv_eq, hm,
    show (128#32 : BitVec 32).msb = false by decide]
  show (v / 128#32).toNat = _
  rw [BitVec.toNat_udiv]
  rfl

/-- A test of a lane's number against the remainder by 128 of a word that is not negative. -/
theorem lane {v : BitVec 32} (hv : v.toNat < 2 ^ 31) {x : ℕ} (hx : x < 128) (a b : EReal) :
    Scalar.select (IntOp.cmpi .eq (BitVec.ofNat 32 x) (Scalar.remsi v 128#32)) a b = if x = v.toNat % 128 then a else b := by
  have hr : (Scalar.remsi v 128#32).toNat = v.toNat % 128 := IntOp.toNat_remsi _ (by omega) 128 (by decide) (by decide)
  unfold Scalar.select
  refine if_congr (show _ = 1#1 ↔ _ from ?_) rfl rfl
  rw [IntOp.cmpi_eq, ← BitVec.toNat_inj, hr, BitVec.toNat_ofNat, Nat.mod_eq_of_lt (by omega)]

/-- Entry `d` of an array of `n` rows of 128, the rows one after the other. -/
abbrev entry [NeZero n] (X : (⟨2, ![n, 128]⟩ : Shape).Idx → EReal) (d : ℕ) : EReal :=
  X (ix2 (⟨d / 128 % n, Nat.mod_lt _ (Nat.pos_of_neZero n)⟩ : Fin n) (⟨d % 128, Nat.mod_lt _ (by decide)⟩ : Fin 128))

/-- In the row loaded at a word's quotient by 128, the lane of the word's remainder holds the word's entry. -/
theorem entry_load [NeZero n] (X : (⟨2, ![n, 128]⟩ : Shape).Idx → EReal) (v : BitVec 32) (hv : v.toNat < n * 128) (hv' : v.toNat < 2 ^ 31)
    (off : Fin 2 → ℕ) (ho : off = ![(Scalar.divsi v 128#32).toNat, 0])
    (inb : ∀ a : Fin 2, off a + (![1, 128] : Fin 2 → ℕ) a ≤ (![n, 128] : Fin 2 → ℕ) a) :
    X ((Rect.unit (s := ⟨2, ![n, 128]⟩) off ![1, 128] inb).toLoadRect.idx
      (ix2 (0 : Fin 1) (⟨v.toNat % 128, Nat.mod_lt _ (by decide)⟩ : Fin 128))) = entry X v.toNat := by
  subst ho
  have hd := toNat_div128 hv'
  refine congrArg X (funext fun a => Fin.ext ?_)
  match a with
  | ⟨0, _⟩ =>
    show (Scalar.divsi v 128#32).toNat + 1 * 0 = v.toNat / 128 % n
    rw [hd, Nat.mod_eq_of_lt (Nat.div_lt_of_lt_mul (by omega))]
    rfl
  | ⟨1, _⟩ => exact (show 0 + 1 * (v.toNat % 128) = v.toNat % 128 by omega)

end Cert.Gather

end
-- ==== Proof.Att1Value.lean ====
/- The edge scores of the attention: the precondition bounds the edges' indices, the first loop gathers the two rows of
   every edge, and the scores the kernel leaves are the reference's. -/
module

public import proofs.«01_k».proof.Proof.Gen.Att1Ideal.Value
public import proofs.«01_k».proof.Proof.Gen.Att1RefIdeal.Run
public import proofs.«01_k».proof.Proof.Gen.Att1RefIdeal.Read
public import proofs.«01_k».proof.Proof.Gen.Pre_att1_in_range
public import proofs.«01_k».proof.Proof.Gather
public import proofs.«01_k».proof.Defs
public import Idealize.ShloMosaic.Lib.Pipeline.ValueKit
public import Idealize.ShloMosaic.Lib.Routing.Ops
public import Idealize.ShloMosaic.Lib.Claim

@[expose] public section

set_option maxRecDepth 16384

noncomputable section

namespace Cert.Att1Ideal.Att

open Cert.Att1Ideal Cert.Att1Ideal.Gen Idealize.ShloMosaic Idealize.ShloMosaic.TcCoe Idealize.SL.Sem
open Idealize.ShloMosaic.Pipeline (Dat)
open Cert.Att1RefIdeal.Read Cert.Rows Cert.Gather

variable (m : (ℓ : Loc nD τ sig) → Buf (Elt Ideal) ℓ)

/-- Every window's block index at every grid point. -/
theorem idx : ∀ t : Fin cfg0.N, win0_0.index t = ![0, t.val] ∧ win0_1.index t = ![0, t.val] ∧ win0_2.index t = ![t.val, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- Source `k` of point `t`'s block is the source of edge `640 t + k`. -/
theorem word0 (c : Dev nD) (t : Fin cfg0.N) (i : S1x640.Idx) (j : Fin 800000) (hj : (j : ℕ) = t.val * 640 + (i 1).val) :
    iblk m c 0 t i = m ((c : Thread nD τ).loc main_arg3) (ix2 (0 : Fin 2) j) := by
  unfold iblk
  entry_read
  blk_simp
  pointwise
  blk_ext [idx t]

/-- Target `k` of point `t`'s block is the target of edge `640 t + k`. -/
theorem word1 (c : Dev nD) (t : Fin cfg0.N) (i : S1x640.Idx) (j : Fin 800000) (hj : (j : ℕ) = t.val * 640 + (i 1).val) :
    iblk m c 1 t i = m ((c : Thread nD τ).loc main_arg3) (ix2 (1 : Fin 2) j) := by
  unfold iblk
  entry_read
  blk_simp
  pointwise
  blk_ext [idx t]

/-- Under the precondition every index is below the number of rows. -/
theorem bound (h : Cert.Pre_Att1Ideal m) (c : Dev nD) (y : S2x800000.Idx) :
    BitVec.toNat (m ((c : Thread nD τ).loc main_arg3) y) < 50000 :=
  toNat_lt_of_tests 50000 (by decide) (congrFun (h c) y)

/-- The side conditions of the loops' loads and stores follow from the precondition. -/
theorem hyps_of_pre (h : Cert.Pre_Att1Ideal m) : Hyps m := by
  have hw0 : ∀ (c : Dev nD) (t : Fin cfg0.N) (i : S1x640.Idx), BitVec.toNat (iblk m c 0 t i) < 50000 := fun c t i => by
    have ht : t.val < 1250 := t.isLt
    have hi : (i 1).val < 640 := (i 1).isLt
    exact (congrArg BitVec.toNat (word0 m c t i ⟨t.val * 640 + (i 1).val, by omega⟩ rfl)).trans_lt (bound m h c _)
  have hw1 : ∀ (c : Dev nD) (t : Fin cfg0.N) (i : S1x640.Idx), BitVec.toNat (iblk m c 1 t i) < 50000 := fun c t i => by
    have ht : t.val < 1250 := t.isLt
    have hi : (i 1).val < 640 := (i 1).isLt
    exact (congrArg BitVec.toNat (word1 m c t i ⟨t.val * 640 + (i 1).val, by omega⟩ rfl)).trans_lt (bound m h c _)
  have chk1 : ∀ v : BitVec 32, v.toNat < 50000 → k0_chk1 v := fun v hv => by
    unfold k0_chk1 k0_off2; intro a; fin_cases a <;> simp [Scalar.indexCast] <;> omega
  have chk2 : ∀ v : BitVec 32, v.toNat < 50000 → k0_chk2 v := fun v hv => by
    unfold k0_chk2 k0_off4; intro a; fin_cases a <;> simp [Scalar.indexCast] <;> omega
  have chk3 : ∀ v : BitVec 32, v.toNat < 50000 → k0_chk3 v := fun v hv => by
    have hd := toNat_div128 (v := v) (by omega)
    unfold k0_chk3 k0_off8; intro a; fin_cases a
    · show (Scalar.divsi v 128#32).toNat + 1 ≤ 392
      omega
    · exact le_rfl
  refine Hyps.of (fun c t kq hkq => ?_) (fun c t kq hkq => ?_) (fun c t kq hkq => ?_)
  · rw [View.readAt_apply, Memref.IsWhole.read_unread]; exact chk1 _ (hw0 c t _)
  · rw [View.readAt_apply, Memref.IsWhole.read_unread]; exact chk2 _ (hw1 c t _)
  · rw [View.readAt_apply, Memref.IsWhole.read_unread]; exact chk3 _ (hw1 c t _)

/-- A word that passes the first gather's side condition names a row. -/
theorem lt_of_chk1 {v : BitVec 32} (h : k0_chk1 v) : v.toNat < 50000 := by
  have h0 : v.toNat + 1 ≤ 50000 := h 0
  omega

/-- A word that passes the second gather's side condition names a row. -/
theorem lt_of_chk2 {v : BitVec 32} (h : k0_chk2 v) : v.toNat < 50000 := by
  have h0 : v.toNat + 1 ≤ 50000 := h 0
  omega

/-- The pieces the first loop's first `n` trips store at point `t`, per scratch buffer. -/
abbrev pieces (hH : Hyps m) (c : Dev nD) (t : Fin cfg0.N) (n : ℕ) :=
  pb_k0_t1 (F := Ideal) Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    scM0_0 (Memref.isWhole_whole _) scM0_1 (Memref.isWhole_whole _)
    ((hs0_0 t).unread (iblk m c 0 t)) ((hs0_1 t).unread (iblk m c 1 t)) ((hs0_3 t).unread (iblk m c 3 t)) ((hs0_4 t).unread (iblk m c 4 t))
    (Hyps.c0 hH c t) (Hyps.c1 hH c t) n

/-- The word a trip reads from a block of words is the block's word of that number. -/
theorem word_at (W : IVec S1x640 32) (k : ℕ) (hk : k < 640) :
    W ((Rect.unit (s := S1x640) (k0_off1 ⟨k, hk⟩) S1x1.size (k0_off1_inb ⟨k, hk⟩)).toLoadRect.idx
      (Shape.Idx.first (numel1_S1x1.symm ▸ Nat.one_pos))) = W (ix2 (0 : Fin 1) (⟨k, hk⟩ : Fin 640)) := by
  refine congrArg W (funext fun a => ?_)
  match a with
  | ⟨0, _⟩ => exact Subsingleton.elim (α := Fin 1) _ _
  | ⟨1, _⟩ => exact Fin.ext (by show k0_off1 ⟨k, hk⟩ 1 + 1 * 0 = k; rw [k0_off1_eq]; rfl)

/-- After the loop the first scratch buffer holds the rows of the keys that the sources name. -/
theorem gathered0 (hH : Hyps m) (c : Dev nD) (t : Fin cfg0.N) :
    View.canon (pieces m hH c t 640).1 = rowsOf (n := 50000) (N := 640) (B := 128) (iblk m c 4 t) (iblk m c 0 t) := by
  refine canon_of_trips _ 640 (fun n => (pieces m hH c t n).1)
    (fun k hk => ⟨Rect.unit (s := S640x128) (k0_off3 ⟨k, hk⟩) S1x128.size (k0_off3_inb ⟨k, hk⟩),
      k0_pay2 ((ms0_4 t).view.readAt (Elt Ideal) (Rect.unit (s := S50000x128) (k0_off2 _) S1x128.size (k0_off2_inb _ (Hyps.c0 hH c t k hk))).toLoadRect ((hs0_4 t).unread (iblk m c 4 t)))⟩)
    rfl (fun k hk => ?_) (fun k hk x => ?_) fun y => ⟨(y 0).val, (y 0).isLt, row_covered (N := 640) (B := 128) y _ (k0_off3_eq ⟨(y 0).val, (y 0).isLt⟩) (k0_off3_inb _)⟩
  · refine (congrArg Prod.fst (pb_k0_t1_succ (F := Ideal) Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    scM0_0 (Memref.isWhole_whole _) scM0_1 (Memref.isWhole_whole _)
    ((hs0_0 t).unread (iblk m c 0 t)) ((hs0_1 t).unread (iblk m c 1 t)) ((hs0_3 t).unread (iblk m c 3 t)) ((hs0_4 t).unread (iblk m c 4 t))
    (Hyps.c0 hH c t) (Hyps.c1 hH c t) ⟨k, hk⟩)).trans ?_
    dsimp only
    unfold trip_k0_t1
    rfl
  · dsimp only
    unfold k0_pay2
    rw [shapeCast_self, View.readAt_apply, Memref.IsWhole.read_unread]
    refine gather_step (n := 50000) (N := 640) (B := 128) (iblk m c 4 t) (iblk m c 0 t) ⟨k, hk⟩ _ ?_ (lt_of_chk1 (Hyps.c0 hH c t k hk)) _ _ rfl (k0_off3_eq _) _ _ x
    rw [View.readAt_apply, Memref.IsWhole.read_unread]
    exact word_at _ k hk

/-- After the loop the second scratch buffer holds the rows of the queries that the targets name. -/
theorem gathered1 (hH : Hyps m) (c : Dev nD) (t : Fin cfg0.N) :
    View.canon (pieces m hH c t 640).2 = rowsOf (n := 50000) (N := 640) (B := 128) (iblk m c 3 t) (iblk m c 1 t) := by
  refine canon_of_trips _ 640 (fun n => (pieces m hH c t n).2)
    (fun k hk => ⟨Rect.unit (s := S640x128) (k0_off5 ⟨k, hk⟩) S1x128.size (k0_off5_inb ⟨k, hk⟩),
      k0_pay3 ((ms0_3 t).view.readAt (Elt Ideal) (Rect.unit (s := S50000x128) (k0_off4 _) S1x128.size (k0_off4_inb _ (Hyps.c1 hH c t k hk))).toLoadRect ((hs0_3 t).unread (iblk m c 3 t)))⟩)
    rfl (fun k hk => ?_) (fun k hk x => ?_) fun y => ⟨(y 0).val, (y 0).isLt, row_covered (N := 640) (B := 128) y _ (k0_off5_eq ⟨(y 0).val, (y 0).isLt⟩) (k0_off5_inb _)⟩
  · refine (congrArg Prod.snd (pb_k0_t1_succ (F := Ideal) Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    scM0_0 (Memref.isWhole_whole _) scM0_1 (Memref.isWhole_whole _)
    ((hs0_0 t).unread (iblk m c 0 t)) ((hs0_1 t).unread (iblk m c 1 t)) ((hs0_3 t).unread (iblk m c 3 t)) ((hs0_4 t).unread (iblk m c 4 t))
    (Hyps.c0 hH c t) (Hyps.c1 hH c t) ⟨k, hk⟩)).trans ?_
    dsimp only
    unfold trip_k0_t1
    rfl
  · dsimp only
    unfold k0_pay3
    rw [shapeCast_self, View.readAt_apply, Memref.IsWhole.read_unread]
    refine gather_step (n := 50000) (N := 640) (B := 128) (iblk m c 3 t) (iblk m c 1 t) ⟨k, hk⟩ _ ?_ (lt_of_chk2 (Hyps.c1 hH c t k hk)) _ _ rfl (k0_off5_eq _) _ _ x
    rw [View.readAt_apply, Memref.IsWhole.read_unread]
    exact word_at _ k hk

/-- A gather of rows through one row of the edges reads the rows that the indices name. -/
theorem gather_at (X : FVec Ideal S50000x128 .f32) (E : IVec S2x800000 32) (hE : ∀ y, (E y).toNat < 50000) (e : Fin 800000) (b : Fin 128) :
    val_main_v14 (F := Ideal) X E (ix2 e b) = X (ix2 (row 50000 (E (ix2 (0 : Fin 2) e))) b)
    ∧ val_main_v22 (F := Ideal) X E (ix2 e b) = X (ix2 (row 50000 (E (ix2 (1 : Fin 2) e))) b) := by
  constructor
  · refine Routing.gather_row _ rfl rfl rfl rfl rfl X (val_main_v13 (F := Ideal) E) e b _ ?_ (by decide)
    pointwise [val_main_v13, val_main_v12, val_main_v11, val_main_v10, val_main_v9, val_main_v8, val_main_v1, val_main_v0, val_main_c, val_main_c_0]
    exact (wrap_of_lt _ ((hE (ix2 (0 : Fin 2) e)).trans (by decide))).trans (eq_ofNat_row (hE (ix2 (0 : Fin 2) e)))
  · refine Routing.gather_row _ rfl rfl rfl rfl rfl X (val_main_v21 (F := Ideal) E) e b _ ?_ (by decide)
    pointwise [val_main_v21, val_main_v20, val_main_v19, val_main_v18, val_main_v17, val_main_v16, val_main_v3, val_main_v2, val_main_c_1, val_main_c_2]
    exact (wrap_of_lt _ ((hE (ix2 (1 : Fin 2) e)).trans (by decide))).trans (eq_ofNat_row (hE (ix2 (1 : Fin 2) e)))

/-- The reference's result. -/
abbrev REF (Q K : FVec Ideal S50000x128 .f32) (A : FVec Ideal S800000x5 .f32) (E : IVec S2x800000 32) (W : FVec Ideal S5x128 .f32)
    (b : FVec Ideal S128 .f32) : FVec Ideal S800000x1 .f32 := val_main_v28 (F := Ideal) Q K A E W b

/-- The queries' and the keys' blocks are the queries and the keys, and the weights' block is the weights. -/
theorem wblk (c : Dev nD) (t : Fin cfg0.N) :
    (∀ i, iblk m c 3 t i = m ((c : Thread nD τ).loc main_arg0) i) ∧ (∀ i, iblk m c 4 t i = m ((c : Thread nD τ).loc main_arg1) i)
    ∧ (∀ i, iblk m c 5 t i = m ((c : Thread nD τ).loc main_arg4) i) := by
  refine ⟨fun i => ?_, fun i => ?_, fun i => ?_⟩
  · blk_ext [iblk, V, idx t]
  · blk_ext [iblk, V, idx t]
  · blk_ext [iblk, V, idx t]

/-- The bias block is the bias. -/
theorem bblk (c : Dev nD) (t : Fin cfg0.N) (x : Fin 128) :
    iblk m c 6 t (ix2 (0 : Fin 1) x) = m ((c : Thread nD τ).loc main_arg5) (ix1 x) := by
  unfold iblk; entry_read; blk_simp; pointwise; blk_ext [idx t]

/-- Row `k` of point `t`'s block of edge features is the features of edge `640 t + k`. -/
theorem ablk (c : Dev nD) (t : Fin cfg0.N) (i : S640x5.Idx) (j : Fin 800000) (hj : (j : ℕ) = t.val * 640 + (i 0).val) :
    iblk m c 2 t i = m ((c : Thread nD τ).loc main_arg2) (ix2 j (i 1)) := by
  blk_ext [iblk, V, idx t]

/-- What grid point `t` stores at index `y` of its block is the reference's value at the array index there. -/
theorem point (h : Cert.Pre_Att1Ideal m) (c : Dev nD) (t : Fin cfg0.N) (y) :
    k0_pay4 (iblk m c 2 t) (iblk m c 5 t) (iblk m c 6 t) (rowsOf (n := 50000) (N := 640) (B := 128) (iblk m c 3 t) (iblk m c 1 t))
      (rowsOf (n := 50000) (N := 640) (B := 128) (iblk m c 4 t) (iblk m c 0 t)) y
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 7).blk t).view.emb y) := by
  pointwise [k0_pay4, REF, val_main_v28, val_main_v27, val_main_v26, val_main_v25, val_main_cst_3, val_main_v24, val_main_cst, val_main_v23,
    val_main_v15, val_main_v7, val_main_v6, val_main_v5, val_main_v4]
  have ht : t.val < 1250 := t.isLt
  have hy : (y 0).val < 640 := (y 0).isLt
  obtain ⟨e, he⟩ : ∃ e : Fin 800000, e.val = t.val * 640 + (y 0).val := ⟨⟨_, by omega⟩, rfl⟩
  have ee : (((cfg0.win 7).blk t).view.emb y) 0 = e := by
    refine Fin.ext (Eq.trans ?_ he.symm)
    blk_ext [idx t]
  have g := fun k => gather_at (m ((c : Thread nD τ).loc main_arg1)) (m ((c : Thread nD τ).loc main_arg3)) (bound m h c) e k
  have g' := fun k => gather_at (m ((c : Thread nD τ).loc main_arg0)) (m ((c : Thread nD τ).loc main_arg3)) (bound m h c) e k
  have f0 : ∀ k, rowsOf (n := 50000) (N := 640) (B := 128) (iblk m c 4 t) (iblk m c 0 t) (ix2 (y 0) k) = _ := fun k =>
    (((wblk m c t).2.1 _).trans (congrArg (fun w => m ((c : Thread nD τ).loc main_arg1) (ix2 (row 50000 w) k))
      (word0 m c t (ix2 (0 : Fin 1) (y 0)) e he))).trans (g k).1.symm
  have f1 : ∀ k, rowsOf (n := 50000) (N := 640) (B := 128) (iblk m c 3 t) (iblk m c 1 t) (ix2 (y 0) k) = _ := fun k =>
    (((wblk m c t).1 _).trans (congrArg (fun w => m ((c : Thread nD τ).loc main_arg0) (ix2 (row 50000 w) k))
      (word1 m c t (ix2 (0 : Fin 1) (y 0)) e he))).trans (g' k).2.symm
  refine congrArg₂ Ideal.div (Finset.sum_congr rfl fun x _ => congrArg₂ (· * ·) ((f1 x).trans (by rw [← ee]))
    (congrArg₂ (· + ·) ((f0 x).trans (by rw [← ee])) (congrArg₂ (· + ·) (Finset.sum_congr rfl fun z _ => congrArg₂ (· * ·) ?_ ?_) (bblk m c t x)))) rfl
  · exact (ablk m c t (ix2 (y 0) z) e he).trans (by rw [← ee]; rfl)
  · exact (wblk m c t).2.2 _

/-- What grid point `t` leaves in the scores' block. -/
theorem scores (hH : Hyps m) (c : Dev nD) (t : Fin cfg0.N) (y) : (outsAt0 m hH c t.val t.isLt).1 y
    = k0_pay4 (iblk m c 2 t) (iblk m c 5 t) (iblk m c 6 t) (rowsOf (n := 50000) (N := 640) (B := 128) (iblk m c 3 t) (iblk m c 1 t))
      (rowsOf (n := 50000) (N := 640) (B := 128) (iblk m c 4 t) (iblk m c 0 t)) y := by
  by_cases h0 : t.val % 1250 = 0
  · rw [outsAt0_A m hH c t h0]
    unfold out0_A_7
    frame_out
    rw [View.readCov_eq_canon', View.readCov_eq_canon',
      show Scf.trips (0#32) (Scalar.addi 0#32 640#32) 1#32 = 640 by decide +kernel]
    exact congrArg₂ (fun a b => k0_pay4 (iblk m c 2 t) (iblk m c 5 t) (iblk m c 6 t) a b y)
      (load_whole _ _ _ (gathered1 m hH c t)) (load_whole _ _ _ (gathered0 m hH c t))
  · rw [outsAt0_B m hH c t h0]
    unfold out0_B_7
    frame_out
    rw [View.readCov_eq_canon', View.readCov_eq_canon',
      show Scf.trips (0#32) (Scalar.addi 0#32 640#32) 1#32 = 640 by decide +kernel]
    exact congrArg₂ (fun a b => k0_pay4 (iblk m c 2 t) (iblk m c 5 t) (iblk m c 6 t) a b y)
      (load_whole _ _ _ (gathered1 m hH c t)) (load_whole _ _ _ (gathered0 m hH c t))

/-- The scores after the run are the reference of the arguments. -/
theorem final (h : Cert.Pre_Att1Ideal m) (c : Dev nD) : (dats m (hyps_of_pre m h) 0 c).arrAt 7 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m _ 0 c).arrAt_eq_of_covers 7 _ (by decide +kernel) fun t _ y => ?_
  blk_simp
  rw [after0_7]
  exact (scores m (hyps_of_pre m h) c t y).trans (point m h c t y)

/-- The two programs, run from memories that agree on the arguments, end with equal results and unchanged
    arguments. -/
theorem algebraic : Cert.algebraic_Att1Ideal_Att1RefIdeal := by
  pair_intro
  · run_from Cert.Att1Ideal.Gen.run_main m g (hyps_of_pre m hpre)
  · run_from Cert.Att1RefIdeal.Value.run m' g'
    refine (Cert.Att1RefIdeal.Read.val_main_v28_eq _ _ _ _ _ _).trans ?_
    exact (final m hpre c).symm

end Cert.Att1Ideal.Att

end
-- ==== Proof.Att2Value.lean ====
/- The second call of the edge attention: the exponentials of the logits less their target's largest, and the sums of the
   exponentials by target, are the reference's. -/
module

public import proofs.«01_k».proof.Proof.Gen.Att2Ideal.Value
public import proofs.«01_k».proof.Proof.Gen.Att2RefIdeal.Run
public import proofs.«01_k».proof.Proof.Gen.Att2RefIdeal.Read
public import proofs.«01_k».proof.Proof.Gen.Pre_att2_in_range
public import proofs.«01_k».proof.Proof.Gather
public import proofs.«01_k».proof.Proof.SegSum
public import proofs.«01_k».proof.Defs
public import Idealize.ShloMosaic.Lib.Pipeline.ValueKit
public import Idealize.ShloMosaic.Lib.Routing.Ops
public import Idealize.ShloMosaic.Lib.Routing.OpsSet
public import Idealize.ShloMosaic.Lib.Claim

@[expose] public section

set_option maxRecDepth 16384

noncomputable section

namespace Cert.Att2Ideal.Att

open Cert.Att2Ideal Cert.Att2Ideal.Gen Idealize.ShloMosaic Idealize.ShloMosaic.TcCoe Idealize.SL.Sem
open Idealize.ShloMosaic.Pipeline (Dat)
open Cert.Att2RefIdeal.Read Cert.Rows Cert.Gather Cert.SegSum

variable (m : (ℓ : Loc nD τ sig) → Buf (Elt Ideal) ℓ)

/-- Every window's block index at every grid point. -/
theorem idx : ∀ t : Fin cfg0.N, win0_0.index t = ![0, t.val] ∧ win0_1.index t = ![t.val, 0] ∧ win0_2.index t = ![0, 0]
    ∧ win0_3.index t = ![t.val, 0] ∧ win0_4.index t = ![0, 0] :=
  (by decide +kernel : ∀ t : Fin grid0.N, _)

/-- Target `k` of point `t`'s block is the target of edge `640 t + k`. -/
theorem word (c : Dev nD) (t : Fin cfg0.N) (i : S1x640.Idx) (j : Fin 800000) (hj : (j : ℕ) = t.val * 640 + (i 1).val) :
    iblk m c 0 t i = m ((c : Thread nD τ).loc main_arg2) (ix2 (1 : Fin 2) j) := by
  unfold iblk
  entry_read
  blk_simp
  pointwise
  blk_ext [idx t]

/-- Logit `k` of point `t`'s block is the logit of edge `640 t + k`. -/
theorem lblk (c : Dev nD) (t : Fin cfg0.N) (i : S640x1.Idx) (j : Fin 800000) (hj : (j : ℕ) = t.val * 640 + (i 0).val) :
    iblk m c 1 t i = m ((c : Thread nD τ).loc main_arg0) (ix2 j (i 1)) := by
  blk_ext [iblk, V, idx t]

/-- The maxima's block is the maxima. -/
theorem mblk (c : Dev nD) (t : Fin cfg0.N) (i) : iblk m c 2 t i = m ((c : Thread nD τ).loc main_arg1) i := by
  blk_ext [iblk, V, idx t]

/-- Under the precondition every index is below the number of nodes. -/
theorem bound (h : Cert.Pre_Att2Ideal m) (c : Dev nD) (y : S2x800000.Idx) :
    BitVec.toNat (m ((c : Thread nD τ).loc main_arg2) y) < 50000 :=
  toNat_lt_of_tests 50000 (by decide) (congrFun (h c) y)

/-- The side conditions of the loops' loads and stores follow from the precondition. -/
theorem hyps_of_pre (h : Cert.Pre_Att2Ideal m) : Hyps m := by
  have hw : ∀ (c : Dev nD) (t : Fin cfg0.N) (i : S1x640.Idx), BitVec.toNat (iblk m c 0 t i) < 50000 := fun c t i => by
    have ht : t.val < 1250 := t.isLt
    have hi : (i 1).val < 640 := (i 1).isLt
    exact (congrArg BitVec.toNat (word m c t i ⟨t.val * 640 + (i 1).val, by omega⟩ rfl)).trans_lt (bound m h c _)
  have chk1 : ∀ v : BitVec 32, v.toNat < 50000 → k0_chk1 v := fun v hv => by
    have hd := toNat_div128 (v := v) (by omega)
    unfold k0_chk1 k0_off2; intro a; fin_cases a
    · show (Scalar.divsi v 128#32).toNat + 1 ≤ 392
      omega
    · exact le_rfl
  have chk2 : ∀ v : BitVec 32, v.toNat < 50000 → k0_chk2 v := fun v hv => by
    have hd := toNat_div128 (v := v) (by omega)
    unfold k0_chk2 k0_off6; intro a; fin_cases a
    · show (Scalar.divsi v 128#32).toNat + 1 ≤ 392
      omega
    · exact le_rfl
  refine Hyps.of (fun c t kq hkq => ?_) (fun c t kq hkq => ?_)
  · rw [View.readAt_apply, Memref.IsWhole.read_unread]; exact chk1 _ (hw c t _)
  · rw [View.readAt_apply, Memref.IsWhole.read_unread]; exact chk2 _ (hw c t _)

/-- A word of a block is below the number of nodes. -/
theorem word_lt (h : Cert.Pre_Att2Ideal m) (c : Dev nD) (t : Fin cfg0.N) (i : S1x640.Idx) : BitVec.toNat (iblk m c 0 t i) < 50000 := by
  have ht : t.val < 1250 := t.isLt
  have hi : (i 1).val < 640 := (i 1).isLt
  exact (congrArg BitVec.toNat (word m c t i ⟨t.val * 640 + (i 1).val, by omega⟩ rfl)).trans_lt (bound m h c _)

/-- The stored entry: the entry of the loaded row in the word's lane. -/
theorem pay_get (v : BitVec 32) (hv : v.toNat < 2 ^ 31) (r : FVec Ideal S1x128 .f32) (x : S1x1.Idx) :
    k0_pay2 v r x = r (ix2 (0 : Fin 1) (⟨v.toNat % 128, Nat.mod_lt _ (by decide)⟩ : Fin 128)) := by
  pointwise [k0_pay2]
  refine (Finset.sum_eq_single (⟨v.toNat % 128, Nat.mod_lt _ (by decide)⟩ : Fin 128) (fun z _ hz => ?_)
    fun hq => absurd (Finset.mem_univ _) hq).trans ?_
  · exact (lane hv z.isLt _ _).trans (if_neg fun e => hz (Fin.ext e))
  · exact (lane hv (Nat.mod_lt _ (by decide)) _ _).trans (if_pos rfl)

/-- The stored row: the row read, the addend added in the word's lane. -/
theorem pay_add (v : BitVec 32) (hv : v.toNat < 2 ^ 31) (a : FVec Ideal S1x1 .f32) (r : FVec Ideal S1x128 .f32) (x : S1x128.Idx) :
    k0_pay4 v a r x = r x + if (x 1).val = v.toNat % 128 then a (ix2 (0 : Fin 1) (0 : Fin 1)) else 0 := by
  pointwise [k0_pay4]
  refine (lane hv (x 1).isLt _ _).trans ?_
  split
  · rfl
  · exact (add_zero _).symm

/-- The target words of point `t`'s block. -/
abbrev dst (c : Dev nD) (t : Fin cfg0.N) : IVec S1x640 32 := iblk m c 0 t

/-- The maxima of the targets of point `t`'s block. -/
abbrev maxima (c : Dev nD) (t : Fin cfg0.N) : FVec Ideal S640x1 .f32 :=
  fun y => entry (n := 392) (iblk m c 2 t) (dst m c t (ix2 (0 : Fin 1) (y 0))).toNat

/-- The exponentials of point `t`'s block. -/
abbrev exps (c : Dev nD) (t : Fin cfg0.N) : FVec Ideal S640x1 .f32 := k0_pay3 (iblk m c 1 t) (maxima m c t)

/-- The pieces the first loop's first `n` trips store at point `t`. -/
abbrev pieces (hH : Hyps m) (c : Dev nD) (t : Fin cfg0.N) (n : ℕ) :=
  pb_k0_t1 (F := Ideal) Variants.none c none (grid0.coords t) (ms0_0 t) (hs0_0 t) (ms0_1 t) (hs0_1 t) (ms0_2 t) (hs0_2 t) (ms0_3 t) (hs0_3 t)
    (ms0_4 t) (hs0_4 t) scM0_0 (Memref.isWhole_whole _)
    ((hs0_0 t).unread (iblk m c 0 t)) ((hs0_2 t).unread (iblk m c 2 t)) (Hyps.c0 hH c t) n

/-- The word a trip of the first loop reads is the block's word of that number. -/
theorem word_at (W : IVec S1x640 32) (k : ℕ) (hk : k < 640) :
    W ((Rect.unit (s := S1x640) (k0_off1 ⟨k, hk⟩) S1x1.size (k0_off1_inb ⟨k, hk⟩)).toLoadRect.idx
      (Shape.Idx.first (numel1_S1x1.symm ▸ Nat.one_pos))) = W (ix2 (0 : Fin 1) (⟨k, hk⟩ : Fin 640)) := by
  refine congrArg W (funext fun a => ?_)
  match a with
  | ⟨0, _⟩ => exact Subsingleton.elim (α := Fin 1) _ _
  | ⟨1, _⟩ => exact Fin.ext (by show k0_off1 ⟨k, hk⟩ 1 + 1 * 0 = k; rw [k0_off1_eq]; rfl)

/-- The word trip `k` of the first loop reads. -/
abbrev read1 (c : Dev nD) (t : Fin cfg0.N) (k : ℕ) (hk : k < 640) : BitVec 32 :=
  (ms0_0 t).view.readAt (Elt Ideal) (Rect.unit (s := S1x640) (k0_off1 ⟨k, hk⟩) S1x1.size (k0_off1_inb ⟨k, hk⟩)).toLoadRect
    ((hs0_0 t).unread (iblk m c 0 t)) (Shape.Idx.first (numel1_S1x1.symm ▸ Nat.one_pos))

/-- After the first loop the scratch buffer holds the maxima of the targets. -/
theorem gathered (h : Cert.Pre_Att2Ideal m) (c : Dev nD) (t : Fin cfg0.N) :
    View.canon (pieces m (hyps_of_pre m h) c t 640) = maxima m c t := by
  refine canon_of_trips _ 640 (fun n => pieces m (hyps_of_pre m h) c t n)
    (fun k hk => ⟨Rect.unit (s := S640x1) (k0_off3 ⟨k, hk⟩) S1x1.size (k0_off3_inb ⟨k, hk⟩),
      k0_pay2 (read1 m c t k hk) ((ms0_2 t).view.readAt (Elt Ideal) (Rect.unit (s := S392x128) (k0_off2 _) S1x128.size (k0_off2_inb _ (Hyps.c0 (hyps_of_pre m h) c t k hk))).toLoadRect ((hs0_2 t).unread (iblk m c 2 t)))⟩)
    rfl (fun k hk => ?_) (fun k hk x => ?_) fun y => ⟨(y 0).val, (y 0).isLt, row_covered (N := 640) (B := 1) y _ (k0_off3_eq ⟨(y 0).val, (y 0).isLt⟩) (k0_off3_inb _)⟩
  · refine (pb_k0_t1_succ (F := Ideal) Variants.none c none (grid0.coords t) (ms0_0 t) (hs0_0 t) (ms0_1 t) (hs0_1 t) (ms0_2 t) (hs0_2 t) (ms0_3 t) (hs0_3 t)
      (ms0_4 t) (hs0_4 t) scM0_0 (Memref.isWhole_whole _)
      ((hs0_0 t).unread (iblk m c 0 t)) ((hs0_2 t).unread (iblk m c 2 t)) (Hyps.c0 (hyps_of_pre m h) c t) ⟨k, hk⟩).trans ?_
    unfold tripL_k0_t1 trip_k0_t1
    rfl
  · dsimp only
    have r0 : read1 m c t k hk = dst m c t (ix2 (0 : Fin 1) (⟨k, hk⟩ : Fin 640)) := by
      unfold read1
      rw [View.readAt_apply, Memref.IsWhole.read_unread]; exact word_at _ k hk
    have hl := word_lt m h c t (ix2 (0 : Fin 1) (⟨k, hk⟩ : Fin 640))
    have e0 : (Rect.unit (s := S640x1) (k0_off3 ⟨k, hk⟩) S1x1.size (k0_off3_inb ⟨k, hk⟩)).emb x 0 = (⟨k, hk⟩ : Fin 640) := Fin.ext (by
      have hx : (x 0).val < 1 := (x 0).isLt
      have ho : k0_off3 ⟨k, hk⟩ 0 = k := congrFun (k0_off3_eq ⟨k, hk⟩) 0
      show k0_off3 ⟨k, hk⟩ 0 + 1 * (x 0).val = k
      omega)
    refine (pay_get _ ((congrArg BitVec.toNat r0).trans_lt (hl.trans (by decide))) _ x).trans ?_
    rw [View.readAt_apply, Memref.IsWhole.read_unread]
    refine (entry_load (n := 392) (iblk m c 2 t) _ ((congrArg BitVec.toNat r0).trans_lt (hl.trans (by decide)))
      ((congrArg BitVec.toNat r0).trans_lt (hl.trans (by decide))) _ rfl _).trans ?_
    refine (congrArg (fun w : BitVec 32 => entry (n := 392) (iblk m c 2 t) w.toNat) r0).trans ?_
    unfold maxima
    rw [e0]

/-- What grid point `t` leaves in the exponentials' block. -/
theorem stored (h : Cert.Pre_Att2Ideal m) (c : Dev nD) (t : Fin cfg0.N) (y) :
    (outsAt0 m (hyps_of_pre m h) c t.val t.isLt).1 y = exps m c t y := by
  by_cases h0 : t.val % 1250 = 0
  · rw [outsAt0_A m (hyps_of_pre m h) c t h0]
    unfold out0_A_3
    frame_out
    rw [View.readCov_eq_canon',
      show Scf.trips (0#32) (Scalar.addi 0#32 640#32) 1#32 = 640 by decide +kernel]
    exact congrArg (fun a => k0_pay3 (iblk m c 1 t) a y) (load_whole _ _ _ (gathered m h c t))
  · rw [outsAt0_B m (hyps_of_pre m h) c t h0]
    unfold out0_B_3
    frame_out
    rw [View.readCov_eq_canon',
      show Scf.trips (0#32) (Scalar.addi 0#32 640#32) 1#32 = 640 by decide +kernel]
    exact congrArg (fun a => k0_pay3 (iblk m c 1 t) a y) (load_whole _ _ _ (gathered m h c t))

/-- What the edges of point `t`'s block add at an index. -/
abbrev term (c : Dev nD) (t : Fin cfg0.N) (y : S392x128.Idx) : EReal :=
  ∑ k : Fin 640, edge (n := 392) ((dst m c t (ix2 (0 : Fin 1) k)).toNat / 128)
    (fun z : Fin 128 => if z.val = (dst m c t (ix2 (0 : Fin 1) k)).toNat % 128 then exps m c t (ix2 k (0 : Fin 1)) else 0) y

/-- The pieces the second loop's first `N` trips store at point `t`, over contents `f`, the exponentials in `g`. -/
abbrev sums (hH : Hyps m) (c : Dev nD) (t : Fin cfg0.N) (g : (ms0_3 t).view.ty.Contents (Elt Ideal)) (f : (ms0_4 t).view.ty.Contents (Elt Ideal)) (N : ℕ) :=
  pb_k0_t2 (F := Ideal) Variants.none c none (grid0.coords t) (ms0_0 t) (hs0_0 t) (ms0_1 t) (hs0_1 t) (ms0_2 t) (hs0_2 t) (ms0_3 t) (hs0_3 t)
    (ms0_4 t) (hs0_4 t) scM0_0 (Memref.isWhole_whole _)
    ((hs0_0 t).unread (iblk m c 0 t)) g f (Hyps.c1 hH c t) N

/-- The block the first point clears is zero. -/
theorem pay_zero (y : S392x128.Idx) : k0_pay1 (F := Ideal) y = 0 := by
  pointwise [k0_pay1]

/-- The second loop adds the block's exponentials to what the output held. -/
theorem loop_adds (h : Cert.Pre_Att2Ideal m) (c : Dev nD) (t : Fin cfg0.N) (g : (ms0_3 t).view.ty.Contents (Elt Ideal))
    (hg : (ms0_3 t).view.read (Elt Ideal) g = exps m c t) (f : (ms0_4 t).view.ty.Contents (Elt Ideal)) (y : S392x128.Idx) :
    (ms0_4 t).view.read (Elt Ideal) ((ms0_4 t).view.writes (Elt Ideal) f (sums m (hyps_of_pre m h) c t g f 640)) y
      = (ms0_4 t).view.read (Elt Ideal) f y + term m c t y := by
  refine read_trips (n := 392) (B := 128) (ms0_4 t).view f 640 (sums m (hyps_of_pre m h) c t g f) _ _ rfl (fun k y => ?_) y
  have r0 : (ms0_0 t).view.readAt (Elt Ideal) (Rect.unit (s := S1x640) (k0_off4 ⟨k.val, k.isLt⟩) S1x1.size (k0_off4_inb ⟨k.val, k.isLt⟩)).toLoadRect
      ((hs0_0 t).unread (iblk m c 0 t)) (Shape.Idx.first (numel1_S1x1.symm ▸ Nat.one_pos)) = dst m c t (ix2 (0 : Fin 1) k) := by
    rw [View.readAt_apply, Memref.IsWhole.read_unread]; exact word_at _ k.val k.isLt
  have hl := word_lt m h c t (ix2 (0 : Fin 1) k)
  have hd := toNat_div128 (v := dst m c t (ix2 (0 : Fin 1) k)) (hl.trans (by decide))
  rw [show sums m (hyps_of_pre m h) c t g f (k.val + 1) = _ from pb_k0_t2_succ (F := Ideal) Variants.none c none (grid0.coords t) (ms0_0 t) (hs0_0 t) (ms0_1 t) (hs0_1 t) (ms0_2 t) (hs0_2 t) (ms0_3 t) (hs0_3 t)
    (ms0_4 t) (hs0_4 t) scM0_0 (Memref.isWhole_whole _) ((hs0_0 t).unread (iblk m c 0 t)) g f (Hyps.c1 (hyps_of_pre m h) c t) k]
  unfold tripL_k0_t2 trip_k0_t2
  dsimp only
  rw [List.singleton_append]
  refine read_add_row (n := 392) (B := 128) (ms0_4 t).view f _ _ _ ?_ _ _ _ (fun z x hx hz => ?_) y
  · exact congrArg (fun n : ℕ => ![n, 0]) ((congrArg (fun w : BitVec 32 => (Scalar.divsi w 128#32).toNat) r0).trans hd)
  · refine (pay_add _ ((congrArg BitVec.toNat r0).trans_lt (hl.trans (by decide))) _ _ _).trans (congrArg₂ (· + ·) ?_ ?_)
    · rw [View.readAt_apply]
      refine congrArg _ (funext fun a => Fin.ext ?_)
      match a with
      | ⟨0, _⟩ => exact ((congrArg (fun w : BitVec 32 => (Scalar.divsi w 128#32).toNat) r0).trans hd).trans hx.symm
      | ⟨1, _⟩ => exact (show 0 + 1 * z.val = (x 1).val by omega)
    · refine (congrArg (fun w : BitVec 32 => if z.val = w.toNat % 128 then _ else (0 : EReal)) r0).trans ?_
      refine congrArg (fun a : EReal => if z.val = (dst m c t (ix2 (0 : Fin 1) k)).toNat % 128 then a else 0) ?_
      rw [View.readAt_apply, hg]
      refine congrArg (exps m c t) (funext fun a => Fin.ext ?_)
      match a with
      | ⟨0, _⟩ => show k0_off5 ⟨k.val, k.isLt⟩ 0 + 1 * 0 = k.val; rw [k0_off5_eq]; rfl
      | ⟨1, _⟩ => show k0_off5 ⟨k.val, k.isLt⟩ 1 + 1 * 0 = 0; rw [k0_off5_eq]; rfl

/-- The first point starts from zeros. -/
theorem first (h : Cert.Pre_Att2Ideal m) (c : Dev nD) (t : Fin cfg0.N) (h0 : t.val % 1250 = 0) (y : S392x128.Idx) :
    (outsAt0 m (hyps_of_pre m h) c t.val t.isLt).2 y = 0 + term m c t y := by
  rw [outsAt0_A m (hyps_of_pre m h) c t h0]
  dsimp only
  unfold out0_A_4
  rw [← View.read_writes_of_cover (ms0_4 t).view (ms0_4 t).view.junk _ _ _ (cover0_A_4 c _ _ _ _ _ _ _ _ _ _ _ _ _ _ _ _ _ _ _)]
  unfold kernelRun0_A
  dsimp only
  rw [show Scf.trips (0#32) (Scalar.addi 0#32 640#32) 1#32 = 640 by decide +kernel, View.writes_append]
  refine (loop_adds m h c t _ ?_ _ y).trans (congrArg (· + _) ?_)
  · funext z
    have st := stored m h c t z
    rw [outsAt0_A m (hyps_of_pre m h) c t h0] at st
    dsimp only at st
    unfold out0_A_3 at st
    rw [← View.read_writes_of_cover (ms0_3 t).view (ms0_3 t).view.junk _ _ _ (cover0_A_3 c _ _ _ _ _ _ _ _ _ _ _ _ _ _ _ _ _ _ _)] at st
    exact st
  refine (View.read_writes_cons_rows_of_mem (o := 0) (size := ![392, 128]) _ _ _ _ [] y y rfl (Nat.zero_add _).symm rfl).trans ?_
  exact pay_zero y

/-- A later point adds to what the point before left. -/
theorem later (h : Cert.Pre_Att2Ideal m) (c : Dev nD) (t : Fin cfg0.N) (h0 : ¬ t.val % 1250 = 0) (y : S392x128.Idx) :
    (outsAt0 m (hyps_of_pre m h) c t.val t.isLt).2 y
      = (outsAt0 m (hyps_of_pre m h) c (t.val - 1) (Nat.lt_of_le_of_lt (Nat.sub_le _ _) t.isLt)).2 y + term m c t y := by
  rw [outsAt0_B m (hyps_of_pre m h) c t h0]
  dsimp only
  unfold out0_B_4 kernelRun0_B
  dsimp only
  rw [show Scf.trips (0#32) (Scalar.addi 0#32 640#32) 1#32 = 640 by decide +kernel]
  refine (loop_adds m h c t _ ?_ _ y).trans (congrArg (· + _) ?_)
  · funext z
    have st := stored m h c t z
    rw [outsAt0_B m (hyps_of_pre m h) c t h0] at st
    dsimp only at st
    unfold out0_B_3 at st
    rw [← View.read_writes_of_cover (ms0_3 t).view (ms0_3 t).view.junk _ _ _ (cover0_B_3 c _ _ _ _ _ _ _ _ _ _ _ _ _ _ _ _ _ _ _ _)] at st
    exact st
  rw [Memref.IsWhole.read_unread]

/-- The reference's largest logits, taken by target. -/
theorem gather_at (X : FVec Ideal S392x128 .f32) (E : IVec S2x800000 32) (hE : ∀ y, (E y).toNat < 50000) (e : Fin 800000) :
    val_main_v10 (F := Ideal) X E (ix1 e) = entry (n := 392) X (E (ix2 (1 : Fin 2) e)).toNat := by
  have hl := hE (ix2 (1 : Fin 2) e)
  refine (Routing.gather_take1 _ rfl rfl rfl rfl (val_main_v2 (F := Ideal) X) (val_main_v9 (F := Ideal) E) e
    (⟨(E (ix2 (1 : Fin 2) e)).toNat, by omega⟩ : Fin 50176) ?_ (by decide)).trans ?_
  · pointwise [val_main_v9, val_main_v8, val_main_v7, val_main_v6, val_main_v5, val_main_v4, val_main_v1, val_main_v0, val_main_c, val_main_c_0]
    refine (wrap_of_lt _ (hl.trans (by decide))).trans ?_
    exact BitVec.eq_of_toNat_eq (by rw [BitVec.toNat_ofNat, Nat.mod_eq_of_lt (by omega)])
  · pointwise [val_main_v2]
    refine congrArg X (funext fun a => Fin.ext ?_)
    match a with
    | ⟨0, _⟩ => exact (Nat.mod_eq_of_lt (show (E (ix2 (1 : Fin 2) e)).toNat / 128 < 392 by omega)).symm
    | ⟨1, _⟩ => rfl

/-- The reference's exponential of an edge. -/
abbrev expRef (L : FVec Ideal S800000x1 .f32) (X : FVec Ideal S392x128 .f32) (E : IVec S2x800000 32) (e : Fin 800000) : EReal :=
  val_main_v12 (F := Ideal) L X E (ix1 e)

/-- Exponential `k` of point `t`'s block is the reference's of edge `640 t + k`. -/
theorem point (h : Cert.Pre_Att2Ideal m) (c : Dev nD) (t : Fin cfg0.N) (y : S640x1.Idx) (e : Fin 800000) (he : (e : ℕ) = t.val * 640 + (y 0).val) :
    exps m c t y = expRef (m ((c : Thread nD τ).loc main_arg0)) (m ((c : Thread nD τ).loc main_arg1)) (m ((c : Thread nD τ).loc main_arg2)) e := by
  pointwise [exps, k0_pay3, expRef, val_main_v12, val_main_v11, val_main_v3]
  refine congrArg Ideal.exp (congrArg₂ (· - ·) ?_ ?_)
  · exact (lblk m c t y e he).trans (congrArg (fun z : Fin 1 => m ((c : Thread nD τ).loc main_arg0) (ix2 e z)) (Subsingleton.elim (α := Fin 1) _ _))
  · exact ((mblk m c t _).trans (congrArg (fun w : BitVec 32 => entry (n := 392) (m ((c : Thread nD τ).loc main_arg1)) w.toNat)
      (word m c t (ix2 (0 : Fin 1) (y 0)) e he))).trans (gather_at _ _ (bound m h c) e).symm

/-- The exponentials after the run are the reference of the arguments. -/
theorem final_exps (h : Cert.Pre_Att2Ideal m) (c : Dev nD) : (dats m (hyps_of_pre m h) 0 c).arrAt 3 (cfgs 0).N
    = val_main_v16 (F := Ideal) (m ((c : Thread nD τ).loc main_arg0)) (m ((c : Thread nD τ).loc main_arg1)) (m ((c : Thread nD τ).loc main_arg2)) := by
  refine (dats m _ 0 c).arrAt_eq_of_covers 3 _ (by decide +kernel) fun t _ y => ?_
  blk_simp
  rw [after0_3]
  have ht : t.val < 1250 := t.isLt
  have hy : (y 0).val < 640 := (y 0).isLt
  obtain ⟨e, he⟩ : ∃ e : Fin 800000, e.val = t.val * 640 + (y 0).val := ⟨⟨_, by omega⟩, rfl⟩
  have ee : (((cfg0.win 3).blk t).view.emb y) 0 = e := by
    refine Fin.ext (Eq.trans ?_ he.symm)
    blk_ext [idx t]
  have place : ∀ z : S800000x1.Idx, z 0 = e → e.val = (z 0).val * 1 + (z 1).val := fun z hz => by
    have h1 : (z 1).val < 1 := (z 1).isLt
    have h0 := congrArg Fin.val hz
    omega
  refine ((stored m h c t y).trans (point m h c t y e he)).trans ?_
  refine Eq.trans ?_ (val_main_v16_apply (F := Ideal) _ _ _ _).symm
  refine congrArg (val_main_v12 (F := Ideal) _ _ _) (funext fun a => Fin.ext ?_)
  match a with
  | ⟨0, _⟩ => exact place _ ee

/-- The reference's sums at an index: the sum of the exponentials of the edges whose target the place is. -/
theorem ref_at (L : FVec Ideal S800000x1 .f32) (X : FVec Ideal S392x128 .f32) (E : IVec S2x800000 32) (hE : ∀ y, (E y).toNat < 50000)
    (r : Fin 392) (q : Fin 128) :
    val_main_v17 (F := Ideal) L X E (ix2 r q)
      = 0 + ∑ e : Fin 800000, edge (n := 392) ((E (ix2 (1 : Fin 2) e)).toNat / 128)
        (fun z : Fin 128 => if z.val = (E (ix2 (1 : Fin 2) e)).toNat % 128 then expRef L X E e else 0) (ix2 r q) := by
  have hd : ∀ e : Fin 800000, val_main_v14 (F := Ideal) E (ix2 e (0 : Fin 1)) = E (ix2 (1 : Fin 2) e) := fun e => by
    pointwise [val_main_v14, val_main_v1, val_main_v0]
  obtain ⟨p, hp⟩ : ∃ p : Fin 50176, p.val = r.val * 128 + q.val := ⟨⟨r.val * 128 + q.val, by omega⟩, rfl⟩
  have hz : val_main_v13 (F := Ideal) (ix1 p) = 0 := by
    pointwise [val_main_v13, val_main_cst]
  have hi : val_main_v17 (F := Ideal) L X E (ix2 r q) = val_main_v15 (F := Ideal) L X E (ix1 p) := by
    rw [val_main_v17_apply]
    refine congrArg (val_main_v15 (F := Ideal) L X E) (funext fun a => Fin.ext ?_)
    match a with
    | ⟨0, _⟩ => exact hp.symm
  refine hi.trans ((scatter_entries _ rfl rfl rfl rfl (val_main_v13 (F := Ideal)) (val_main_v14 (F := Ideal) E) (val_main_v12 (F := Ideal) L X E)
    (fun e => by rw [hd]; exact (hE _).trans (by decide)) p).trans ?_)
  rw [hz]
  refine congrArg (_ + ·) (Finset.sum_congr rfl fun e _ => ?_)
  rw [hd]
  have hq := q.isLt
  show (if p.val = _ then _ else (0 : EReal)) = if r.val = _ then (if q.val = _ then _ else 0) else 0
  rw [← ite_and]
  refine if_congr ?_ rfl rfl
  omega

/-- The last point of the grid. -/
abbrev last : Fin cfg0.N := ⟨1249, by decide⟩

/-- After the last point the second output holds the sums over all the edges. -/
theorem total (h : Cert.Pre_Att2Ideal m) (c : Dev nD) (r : Fin 392) (q : Fin 128) :
    (outsAt0 m (hyps_of_pre m h) c last.val last.isLt).2 (ix2 r q)
      = val_main_v17 (F := Ideal) (m ((c : Thread nD τ).loc main_arg0)) (m ((c : Thread nD τ).loc main_arg1)) (m ((c : Thread nD τ).loc main_arg2)) (ix2 r q) := by
  refine Eq.trans ?_ (ref_at _ _ _ (bound m h c) r q).symm
  rw [Pipeline.eq_sum_fin_of_reset_step_apply_of_flush
    (fun n hn (y : S392x128.Idx) => (outsAt0 m (hyps_of_pre m h) c n hn).2 y) 1250 (fun _ => 0) (fun t y => term m c t y)
    (fun t h0 y => first m h c t h0 y) (fun t h0 y => later m h c t h0 y) last (by decide) (ix2 r q)]
  refine congrArg (_ + ·) (Fin.sum_mul_add_congr fun s k hl => ?_)
  have e0 := word m c ⟨1250 * (last.val / 1250) + s.val, Pipeline.run_point_lt_of_flush last (by decide) s⟩ (ix2 (0 : Fin 1) k)
    ⟨s.val * 640 + k.val, hl⟩ (by show s.val * 640 + k.val = (1250 * (1249 / 1250) + s.val) * 640 + k.val; omega)
  have e1 := point m h c ⟨1250 * (last.val / 1250) + s.val, Pipeline.run_point_lt_of_flush last (by decide) s⟩ (ix2 k (0 : Fin 1))
    ⟨s.val * 640 + k.val, hl⟩ (by show s.val * 640 + k.val = (1250 * (1249 / 1250) + s.val) * 640 + k.val; omega)
  rw [e1]
  unfold dst
  rw [e0]

/-- The sums' block is the whole array. -/
theorem whole_blk (t : Fin cfg0.N) (y : S392x128.Idx) : y = ((cfg0.win 4).blk t).view.emb y := by
  blk_ext [idx t]

/-- The sums after the run are the reference of the arguments. -/
theorem final_sums (h : Cert.Pre_Att2Ideal m) (c : Dev nD) : (dats m (hyps_of_pre m h) 0 c).arrAt 4 (cfgs 0).N
    = val_main_v17 (F := Ideal) (m ((c : Thread nD τ).loc main_arg0)) (m ((c : Thread nD τ).loc main_arg1)) (m ((c : Thread nD τ).loc main_arg2)) := by
  refine (dats m _ 0 c).arrAt_eq_of_covers 4 _ (by decide +kernel) fun t hf y => ?_
  have ht : t = last := Fin.ext (by have := (flush0_4 t).mp hf; have : t.val < 1250 := t.isLt; show t.val = 1249; omega)
  subst ht
  blk_simp
  rw [after0_4]
  have e : (outsAt0 m (hyps_of_pre m h) c last.val last.isLt).2 y = (outsAt0 m (hyps_of_pre m h) c last.val last.isLt).2 (((cfg0.win 4).blk last).view.emb y) :=
    congrArg (outsAt0 m (hyps_of_pre m h) c last.val last.isLt).2 (whole_blk last y)
  refine e.trans ?_
  have key : ∀ z : S392x128.Idx, (outsAt0 m (hyps_of_pre m h) c last.val last.isLt).2 z
      = val_main_v17 (F := Ideal) (m ((c : Thread nD τ).loc main_arg0)) (m ((c : Thread nD τ).loc main_arg1)) (m ((c : Thread nD τ).loc main_arg2)) z := fun z => by
    rw [← ix2_eta (n0 := 392) (n1 := 128) z]
    exact total m h c (z 0) (z 1)
  exact key _

/-- The two programs, run from memories that agree on the arguments, end with equal results and unchanged
    arguments. -/
theorem algebraic : Cert.algebraic_Att2Ideal_Att2RefIdeal := by
  pair_intro
  · run_from Cert.Att2Ideal.Gen.run_main m g (hyps_of_pre m hpre)
  · refine θ_run_mono (Cert.Att2RefIdeal.Value.run m' g') fun r hr c => ?_
    obtain ⟨h1, h2, h3⟩ := hr c
    refine ⟨?_, ?_, h3⟩
    · have e := h1.trans (Cert.Att2RefIdeal.Read.val_main_v16_eq (F := Ideal) _ _ _)
      rw [(hagree c).1, (hagree c).2.1, (hagree c).2.2] at e
      exact e.trans (final_exps m hpre c).symm
    · have e := h2.trans (Cert.Att2RefIdeal.Read.val_main_v17_eq (F := Ideal) _ _ _)
      rw [(hagree c).1, (hagree c).2.1, (hagree c).2.2] at e
      exact e.trans (final_sums m hpre c).symm

end Cert.Att2Ideal.Att

end
-- ==== Proof.MeanValue.lean ====
/- The mean of each group of nodes: the array the kernel leaves is the reference's quotient of the groups' sums by their
   sizes, a size below one counted as one. -/
module

public import proofs.«01_k».proof.Proof.Gen.MeanIdeal.Value
public import proofs.«01_k».proof.Proof.Gen.MeanRefIdeal.Run
public import proofs.«01_k».proof.Proof.Gen.MeanRefIdeal.Read
public import proofs.«01_k».proof.Defs
public import Idealize.ShloMosaic.Lib.Pipeline.ValueKit
public import Idealize.ShloMosaic.Lib.Claim

@[expose] public section

set_option maxRecDepth 16384

noncomputable section

namespace Cert.MeanIdeal.Mean

open Cert.MeanIdeal Cert.MeanIdeal.Gen Idealize.ShloMosaic Idealize.ShloMosaic.TcCoe Idealize.SL.Sem
open Idealize.ShloMosaic.Pipeline (Dat)
open Cert.MeanRefIdeal.Read

variable (m : (ℓ : Loc nD τ sig) → Buf (Elt Ideal) ℓ)

/-- The reference's quotient. -/
abbrev REF (s : FVec Ideal S10000x128 .f32) (n : FVec Ideal S10000x1 .f32) : FVec Ideal S10000x128 .f32 :=
  Cert.MeanRefIdeal.Read.val_main_v2 (F := Ideal) s n

/-- Every window's block index at every grid point. -/
theorem idx : ∀ t : Fin cfg0.N, win0_0.index t = ![t.val, 0] ∧ win0_1.index t = ![t.val, 0] ∧ win0_2.index t = ![t.val, 0] :=
  (by decide +kernel : ∀ t : Fin grid0.N, _)

/-- What grid point `t` leaves in the means' block. -/
theorem means (c : Dev nD) (t : Fin cfg0.N) (y) : (outsAt0 m c t.val t.isLt).1 y = k0_pay2 (iblk m c 0 t) (iblk m c 1 t) y := by
  by_cases h0 : t.val % 10 = 0
  · rw [outsAt0_A m c t h0]
    unfold out0_A_2
    frame_out
  · rw [outsAt0_B m c t h0]
    unfold out0_B_2
    frame_out

/-- The means after the run are the reference of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2, means]
  pointwise [k0_pay2, REF, val_main_v2, val_main_v1, val_main_v0, val_main_call0_v1, val_main_call0_v0, val_main_cst]
  refine congrArg₂ Ideal.div ?_ ((max_comm _ _).trans (congrArg₂ max ?_ ?_))
  · blk_point [iblk, V, idx t]
  · exact Ideal.ofBits_one_f32.symm
  · blk_ext [iblk, V, idx t]

/-- The two programs, run from memories that agree on the arguments, end with equal results and unchanged
    arguments. -/
theorem algebraic : Cert.algebraic_MeanIdeal_MeanRefIdeal := by
  pair_intro
  · run_from Cert.MeanIdeal.Gen.run_main m g
  · run_from Cert.MeanRefIdeal.Value.run m' g'
    refine (Cert.MeanRefIdeal.Read.val_main_v2_eq _ _).trans ?_
    exact (final m c).symm

end Cert.MeanIdeal.Mean

end
-- ==== Proof.PairHeadHyps.lean ====
/- The side conditions of the pair head's two gathers, for the program over the machine's floats. -/
module

public import proofs.«01_k».proof.Proof.Gen.PairHead.Frame
public import proofs.«01_k».proof.Proof.Gen.Pre_pairs_in_range
public import proofs.«01_k».proof.Proof.Rows
public import proofs.«01_k».proof.Defs
public import Idealize.ShloMosaic.Lib.Pipeline.ValueKit
public import Idealize.ShloMosaic.Lib.Claim

@[expose] public section

set_option maxRecDepth 16384

noncomputable section

namespace Cert.PairHead.Head

open Cert.PairHead Cert.PairHead.Gen Idealize.ShloMosaic Idealize.ShloMosaic.TcCoe Idealize.SL.Sem
open Idealize.ShloMosaic.Pipeline (Dat)
open Cert.Rows

variable (m : (ℓ : Loc nD τ sig) → Buf (Elt Bits) ℓ)

/-- Every window's block index at every grid point. -/
theorem idx : ∀ t : Fin cfg0.N, win0_0.index t = ![0, t.val] ∧ win0_1.index t = ![0, t.val] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- The first index of pair `k` of point `t`'s block is the first index of every second column of the argument. -/
theorem word0 (c : Dev nD) (t : Fin cfg0.N) (i : S1x3200.Idx) (j : Fin 160000) (hj : (j : ℕ) = 2 * (t.val * 3200 + (i 1).val)) :
    iblk m c 0 t i = m ((c : Thread nD τ).loc main_arg1) (ix2 (0 : Fin 2) j) := by
  unfold iblk
  entry_read
  blk_simp
  pointwise
  blk_ext [idx t]

/-- The second index of pair `k` of point `t`'s block is the second index of every second column of the argument. -/
theorem word1 (c : Dev nD) (t : Fin cfg0.N) (i : S1x3200.Idx) (j : Fin 160000) (hj : (j : ℕ) = 2 * (t.val * 3200 + (i 1).val)) :
    iblk m c 1 t i = m ((c : Thread nD τ).loc main_arg1) (ix2 (1 : Fin 2) j) := by
  unfold iblk
  entry_read
  blk_simp
  pointwise
  blk_ext [idx t]

/-- Under the precondition every index is below the number of rows. -/
theorem bound (h : Cert.Pre_PairHead m) (c : Dev nD) (y : S2x160000.Idx) :
    BitVec.toNat (m ((c : Thread nD τ).loc main_arg1) y) < 10000 :=
  toNat_lt_of_tests 10000 (by decide) (congrFun (h c) y)

/-- The side conditions of the two gathers follow from the precondition. -/
theorem hyps_of_pre (h : Cert.Pre_PairHead m) : Hyps m := by
  have hw0 : ∀ (c : Dev nD) (t : Fin cfg0.N) (i : S1x3200.Idx), BitVec.toNat (iblk m c 0 t i) < 10000 := fun c t i => by
    have ht : t.val < 25 := t.isLt
    have hi : (i 1).val < 3200 := (i 1).isLt
    exact (congrArg BitVec.toNat (word0 m c t i ⟨2 * (t.val * 3200 + (i 1).val), by omega⟩ rfl)).trans_lt (bound m h c _)
  have hw1 : ∀ (c : Dev nD) (t : Fin cfg0.N) (i : S1x3200.Idx), BitVec.toNat (iblk m c 1 t i) < 10000 := fun c t i => by
    have ht : t.val < 25 := t.isLt
    have hi : (i 1).val < 3200 := (i 1).isLt
    exact (congrArg BitVec.toNat (word1 m c t i ⟨2 * (t.val * 3200 + (i 1).val), by omega⟩ rfl)).trans_lt (bound m h c _)
  have chk1 : ∀ v : BitVec 32, v.toNat < 10000 → k0_chk1 v := fun v hv => by
    unfold k0_chk1 k0_off2; intro a; fin_cases a <;> simp [Scalar.indexCast] <;> omega
  have chk2 : ∀ v : BitVec 32, v.toNat < 10000 → k0_chk2 v := fun v hv => by
    unfold k0_chk2 k0_off4; intro a; fin_cases a <;> simp [Scalar.indexCast] <;> omega
  refine Hyps.of (fun c t kq hkq => ?_) (fun c t kq hkq => ?_)
  · rw [View.readAt_apply, Memref.IsWhole.read_unread]; exact chk1 _ (hw0 c t _)
  · rw [View.readAt_apply, Memref.IsWhole.read_unread]; exact chk2 _ (hw1 c t _)

end Cert.PairHead.Head

end
-- ==== Proof.SegAHyps.lean ====
/- The side conditions of the message sum's loads and stores over the larger graph, for the program over the machine's floats. -/
module

public import proofs.«01_k».proof.Proof.Gen.SegA.Frame
public import proofs.«01_k».proof.Proof.Gen.Pre_inner_in_range
public import proofs.«01_k».proof.Proof.Rows
public import proofs.«01_k».proof.Defs
public import Idealize.ShloMosaic.Lib.Pipeline.ValueKit
public import Idealize.ShloMosaic.Lib.Claim

@[expose] public section

set_option maxRecDepth 16384

noncomputable section

namespace Cert.SegA.Seg

open Cert.SegA Cert.SegA.Gen Idealize.ShloMosaic Idealize.ShloMosaic.TcCoe Idealize.SL.Sem
open Idealize.ShloMosaic.Pipeline (Dat)
open Cert.Rows

variable (m : (ℓ : Loc nD τ sig) → Buf (Elt Bits) ℓ)

/-- Every window's block index at every grid point. -/
theorem idx : ∀ t : Fin cfg0.N, win0_0.index t = ![0, t.val] ∧ win0_1.index t = ![0, t.val] ∧ win0_2.index t = ![0, 0]
    ∧ win0_3.index t = ![0, 0] :=
  (by decide +kernel : ∀ t : Fin grid0.N, _)

/-- Source `k` of point `t`'s block is the source of edge `640 t + k`. -/
theorem word0 (c : Dev nD) (t : Fin cfg0.N) (i : S1x640.Idx) (j : Fin 800000) (hj : (j : ℕ) = t.val * 640 + (i 1).val) :
    iblk m c 0 t i = m ((c : Thread nD τ).loc main_arg1) (ix2 (0 : Fin 2) j) := by
  unfold iblk
  entry_read
  blk_simp
  pointwise
  blk_ext [idx t]

/-- Target `k` of point `t`'s block is the target of edge `640 t + k`. -/
theorem word1 (c : Dev nD) (t : Fin cfg0.N) (i : S1x640.Idx) (j : Fin 800000) (hj : (j : ℕ) = t.val * 640 + (i 1).val) :
    iblk m c 1 t i = m ((c : Thread nD τ).loc main_arg1) (ix2 (1 : Fin 2) j) := by
  unfold iblk
  entry_read
  blk_simp
  pointwise
  blk_ext [idx t]

/-- Under the precondition every index is below the number of rows. -/
theorem bound (h : Cert.Pre_SegA m) (c : Dev nD) (y : S2x800000.Idx) :
    BitVec.toNat (m ((c : Thread nD τ).loc main_arg1) y) < 50000 :=
  toNat_lt_of_tests 50000 (by decide) (congrFun (h c) y)

/-- The side conditions of the loop's loads and stores follow from the precondition. -/
theorem hyps_of_pre (h : Cert.Pre_SegA m) : Hyps m := by
  have hw0 : ∀ (c : Dev nD) (t : Fin cfg0.N) (i : S1x640.Idx), BitVec.toNat (iblk m c 0 t i) < 50000 := fun c t i => by
    have ht : t.val < 1250 := t.isLt
    have hi : (i 1).val < 640 := (i 1).isLt
    exact (congrArg BitVec.toNat (word0 m c t i ⟨t.val * 640 + (i 1).val, by omega⟩ rfl)).trans_lt (bound m h c _)
  have hw1 : ∀ (c : Dev nD) (t : Fin cfg0.N) (i : S1x640.Idx), BitVec.toNat (iblk m c 1 t i) < 50000 := fun c t i => by
    have ht : t.val < 1250 := t.isLt
    have hi : (i 1).val < 640 := (i 1).isLt
    exact (congrArg BitVec.toNat (word1 m c t i ⟨t.val * 640 + (i 1).val, by omega⟩ rfl)).trans_lt (bound m h c _)
  have chk2 : ∀ v : BitVec 32, v.toNat < 50000 → k0_chk2 v := fun v hv => by
    unfold k0_chk2 k0_off3; intro a; fin_cases a <;> simp [Scalar.indexCast] <;> omega
  have chk1 : ∀ v : BitVec 32, v.toNat < 50000 → k0_chk1 v := fun v hv => by
    unfold k0_chk1 k0_off2 k0_off4; constructor <;> intro a <;> fin_cases a <;> simp [Scalar.indexCast] <;> omega
  refine Hyps.of (fun c t kq hkq => ?_) (fun c t kq hkq => ?_)
  · rw [View.readAt_apply, Memref.IsWhole.read_unread]; exact chk2 _ (hw0 c t _)
  · rw [View.readAt_apply, Memref.IsWhole.read_unread]; exact chk1 _ (hw1 c t _)

end Cert.SegA.Seg

end
-- ==== Proof.SegBHyps.lean ====
/- The side conditions of the message sum's loads and stores over the smaller graph, for the program over the machine's floats. -/
module

public import proofs.«01_k».proof.Proof.Gen.SegB.Frame
public import proofs.«01_k».proof.Proof.Gen.Pre_edges_in_range
public import proofs.«01_k».proof.Proof.Rows
public import proofs.«01_k».proof.Defs
public import Idealize.ShloMosaic.Lib.Pipeline.ValueKit
public import Idealize.ShloMosaic.Lib.Claim

@[expose] public section

set_option maxRecDepth 16384

noncomputable section

namespace Cert.SegB.Seg

open Cert.SegB Cert.SegB.Gen Idealize.ShloMosaic Idealize.ShloMosaic.TcCoe Idealize.SL.Sem
open Idealize.ShloMosaic.Pipeline (Dat)
open Cert.Rows

variable (m : (ℓ : Loc nD τ sig) → Buf (Elt Bits) ℓ)

/-- Every window's block index at every grid point. -/
theorem idx : ∀ t : Fin cfg0.N, win0_0.index t = ![0, t.val] ∧ win0_1.index t = ![0, t.val] ∧ win0_2.index t = ![0, 0]
    ∧ win0_3.index t = ![0, 0] :=
  (by decide +kernel : ∀ t : Fin grid0.N, _)

/-- Source `k` of point `t`'s block is the source of edge `640 t + k`. -/
theorem word0 (c : Dev nD) (t : Fin cfg0.N) (i : S1x640.Idx) (j : Fin 160000) (hj : (j : ℕ) = t.val * 640 + (i 1).val) :
    iblk m c 0 t i = m ((c : Thread nD τ).loc main_arg1) (ix2 (0 : Fin 2) j) := by
  unfold iblk
  entry_read
  blk_simp
  pointwise
  blk_ext [idx t]

/-- Target `k` of point `t`'s block is the target of edge `640 t + k`. -/
theorem word1 (c : Dev nD) (t : Fin cfg0.N) (i : S1x640.Idx) (j : Fin 160000) (hj : (j : ℕ) = t.val * 640 + (i 1).val) :
    iblk m c 1 t i = m ((c : Thread nD τ).loc main_arg1) (ix2 (1 : Fin 2) j) := by
  unfold iblk
  entry_read
  blk_simp
  pointwise
  blk_ext [idx t]

/-- Under the precondition every index is below the number of rows. -/
theorem bound (h : Cert.Pre_SegB m) (c : Dev nD) (y : S2x160000.Idx) :
    BitVec.toNat (m ((c : Thread nD τ).loc main_arg1) y) < 10000 :=
  toNat_lt_of_tests 10000 (by decide) (congrFun (h c) y)

/-- The side conditions of the loop's loads and stores follow from the precondition. -/
theorem hyps_of_pre (h : Cert.Pre_SegB m) : Hyps m := by
  have hw0 : ∀ (c : Dev nD) (t : Fin cfg0.N) (i : S1x640.Idx), BitVec.toNat (iblk m c 0 t i) < 10000 := fun c t i => by
    have ht : t.val < 250 := t.isLt
    have hi : (i 1).val < 640 := (i 1).isLt
    exact (congrArg BitVec.toNat (word0 m c t i ⟨t.val * 640 + (i 1).val, by omega⟩ rfl)).trans_lt (bound m h c _)
  have hw1 : ∀ (c : Dev nD) (t : Fin cfg0.N) (i : S1x640.Idx), BitVec.toNat (iblk m c 1 t i) < 10000 := fun c t i => by
    have ht : t.val < 250 := t.isLt
    have hi : (i 1).val < 640 := (i 1).isLt
    exact (congrArg BitVec.toNat (word1 m c t i ⟨t.val * 640 + (i 1).val, by omega⟩ rfl)).trans_lt (bound m h c _)
  have chk2 : ∀ v : BitVec 32, v.toNat < 10000 → k0_chk2 v := fun v hv => by
    unfold k0_chk2 k0_off3; intro a; fin_cases a <;> simp [Scalar.indexCast] <;> omega
  have chk1 : ∀ v : BitVec 32, v.toNat < 10000 → k0_chk1 v := fun v hv => by
    unfold k0_chk1 k0_off2 k0_off4; constructor <;> intro a <;> fin_cases a <;> simp [Scalar.indexCast] <;> omega
  refine Hyps.of (fun c t kq hkq => ?_) (fun c t kq hkq => ?_)
  · rw [View.readAt_apply, Memref.IsWhole.read_unread]; exact chk2 _ (hw0 c t _)
  · rw [View.readAt_apply, Memref.IsWhole.read_unread]; exact chk1 _ (hw1 c t _)

end Cert.SegB.Seg

end
-- ==== Proof.Att1Hyps.lean ====
/- The side conditions of the edge scores' loads and stores, for the program over the machine's floats. -/
module

public import proofs.«01_k».proof.Proof.Gen.Att1.Frame
public import proofs.«01_k».proof.Proof.Gen.Pre_att1_in_range
public import proofs.«01_k».proof.Proof.Gather
public import proofs.«01_k».proof.Defs
public import Idealize.ShloMosaic.Lib.Pipeline.ValueKit
public import Idealize.ShloMosaic.Lib.Claim

@[expose] public section

set_option maxRecDepth 16384

noncomputable section

namespace Cert.Att1.Att

open Cert.Att1 Cert.Att1.Gen Idealize.ShloMosaic Idealize.ShloMosaic.TcCoe Idealize.SL.Sem
open Idealize.ShloMosaic.Pipeline (Dat)
open Cert.Rows Cert.Gather

variable (m : (ℓ : Loc nD τ sig) → Buf (Elt Bits) ℓ)

/-- Every window's block index at every grid point. -/
theorem idx : ∀ t : Fin cfg0.N, win0_0.index t = ![0, t.val] ∧ win0_1.index t = ![0, t.val] ∧ win0_2.index t = ![t.val, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- Source `k` of point `t`'s block is the source of edge `640 t + k`. -/
theorem word0 (c : Dev nD) (t : Fin cfg0.N) (i : S1x640.Idx) (j : Fin 800000) (hj : (j : ℕ) = t.val * 640 + (i 1).val) :
    iblk m c 0 t i = m ((c : Thread nD τ).loc main_arg3) (ix2 (0 : Fin 2) j) := by
  unfold iblk
  entry_read
  blk_simp
  pointwise
  blk_ext [idx t]

/-- Target `k` of point `t`'s block is the target of edge `640 t + k`. -/
theorem word1 (c : Dev nD) (t : Fin cfg0.N) (i : S1x640.Idx) (j : Fin 800000) (hj : (j : ℕ) = t.val * 640 + (i 1).val) :
    iblk m c 1 t i = m ((c : Thread nD τ).loc main_arg3) (ix2 (1 : Fin 2) j) := by
  unfold iblk
  entry_read
  blk_simp
  pointwise
  blk_ext [idx t]

/-- Under the precondition every index is below the number of rows. -/
theorem bound (h : Cert.Pre_Att1 m) (c : Dev nD) (y : S2x800000.Idx) :
    BitVec.toNat (m ((c : Thread nD τ).loc main_arg3) y) < 50000 :=
  toNat_lt_of_tests 50000 (by decide) (congrFun (h c) y)

/-- The side conditions of the loops' loads and stores follow from the precondition. -/
theorem hyps_of_pre (h : Cert.Pre_Att1 m) : Hyps m := by
  have hw0 : ∀ (c : Dev nD) (t : Fin cfg0.N) (i : S1x640.Idx), BitVec.toNat (iblk m c 0 t i) < 50000 := fun c t i => by
    have ht : t.val < 1250 := t.isLt
    have hi : (i 1).val < 640 := (i 1).isLt
    exact (congrArg BitVec.toNat (word0 m c t i ⟨t.val * 640 + (i 1).val, by omega⟩ rfl)).trans_lt (bound m h c _)
  have hw1 : ∀ (c : Dev nD) (t : Fin cfg0.N) (i : S1x640.Idx), BitVec.toNat (iblk m c 1 t i) < 50000 := fun c t i => by
    have ht : t.val < 1250 := t.isLt
    have hi : (i 1).val < 640 := (i 1).isLt
    exact (congrArg BitVec.toNat (word1 m c t i ⟨t.val * 640 + (i 1).val, by omega⟩ rfl)).trans_lt (bound m h c _)
  have chk1 : ∀ v : BitVec 32, v.toNat < 50000 → k0_chk1 v := fun v hv => by
    unfold k0_chk1 k0_off2; intro a; fin_cases a <;> simp [Scalar.indexCast] <;> omega
  have chk2 : ∀ v : BitVec 32, v.toNat < 50000 → k0_chk2 v := fun v hv => by
    unfold k0_chk2 k0_off4; intro a; fin_cases a <;> simp [Scalar.indexCast] <;> omega
  have chk3 : ∀ v : BitVec 32, v.toNat < 50000 → k0_chk3 v := fun v hv => by
    have hd := toNat_div128 (v := v) (by omega)
    unfold k0_chk3 k0_off8; intro a; fin_cases a
    · show (Scalar.divsi v 128#32).toNat + 1 ≤ 392
      omega
    · exact le_rfl
  refine Hyps.of (fun c t kq hkq => ?_) (fun c t kq hkq => ?_) (fun c t kq hkq => ?_)
  · rw [View.readAt_apply, Memref.IsWhole.read_unread]; exact chk1 _ (hw0 c t _)
  · rw [View.readAt_apply, Memref.IsWhole.read_unread]; exact chk2 _ (hw1 c t _)
  · rw [View.readAt_apply, Memref.IsWhole.read_unread]; exact chk3 _ (hw1 c t _)

end Cert.Att1.Att

end
-- ==== Proof.Att2Hyps.lean ====
/- The side conditions of the second attention call's loads and stores, for the program over the machine's floats. -/
module

public import proofs.«01_k».proof.Proof.Gen.Att2.Frame
public import proofs.«01_k».proof.Proof.Gen.Pre_att2_in_range
public import proofs.«01_k».proof.Proof.Gather
public import proofs.«01_k».proof.Defs
public import Idealize.ShloMosaic.Lib.Pipeline.ValueKit
public import Idealize.ShloMosaic.Lib.Claim

@[expose] public section

set_option maxRecDepth 16384

noncomputable section

namespace Cert.Att2.Att

open Cert.Att2 Cert.Att2.Gen Idealize.ShloMosaic Idealize.ShloMosaic.TcCoe Idealize.SL.Sem
open Idealize.ShloMosaic.Pipeline (Dat)
open Cert.Rows Cert.Gather

variable (m : (ℓ : Loc nD τ sig) → Buf (Elt Bits) ℓ)

/-- Every window's block index at every grid point. -/
theorem idx : ∀ t : Fin cfg0.N, win0_0.index t = ![0, t.val] ∧ win0_1.index t = ![t.val, 0] ∧ win0_2.index t = ![0, 0]
    ∧ win0_3.index t = ![t.val, 0] ∧ win0_4.index t = ![0, 0] :=
  (by decide +kernel : ∀ t : Fin grid0.N, _)

/-- Target `k` of point `t`'s block is the target of edge `640 t + k`. -/
theorem word (c : Dev nD) (t : Fin cfg0.N) (i : S1x640.Idx) (j : Fin 800000) (hj : (j : ℕ) = t.val * 640 + (i 1).val) :
    iblk m c 0 t i = m ((c : Thread nD τ).loc main_arg2) (ix2 (1 : Fin 2) j) := by
  unfold iblk
  entry_read
  blk_simp
  pointwise
  blk_ext [idx t]

/-- Under the precondition every index is below the number of nodes. -/
theorem bound (h : Cert.Pre_Att2 m) (c : Dev nD) (y : S2x800000.Idx) :
    BitVec.toNat (m ((c : Thread nD τ).loc main_arg2) y) < 50000 :=
  toNat_lt_of_tests 50000 (by decide) (congrFun (h c) y)

/-- The side conditions of the loops' loads and stores follow from the precondition. -/
theorem hyps_of_pre (h : Cert.Pre_Att2 m) : Hyps m := by
  have hw : ∀ (c : Dev nD) (t : Fin cfg0.N) (i : S1x640.Idx), BitVec.toNat (iblk m c 0 t i) < 50000 := fun c t i => by
    have ht : t.val < 1250 := t.isLt
    have hi : (i 1).val < 640 := (i 1).isLt
    exact (congrArg BitVec.toNat (word m c t i ⟨t.val * 640 + (i 1).val, by omega⟩ rfl)).trans_lt (bound m h c _)
  have chk1 : ∀ v : BitVec 32, v.toNat < 50000 → k0_chk1 v := fun v hv => by
    have hd := toNat_div128 (v := v) (by omega)
    unfold k0_chk1 k0_off2; intro a; fin_cases a
    · show (Scalar.divsi v 128#32).toNat + 1 ≤ 392
      omega
    · exact le_rfl
  have chk2 : ∀ v : BitVec 32, v.toNat < 50000 → k0_chk2 v := fun v hv => by
    have hd := toNat_div128 (v := v) (by omega)
    unfold k0_chk2 k0_off6; intro a; fin_cases a
    · show (Scalar.divsi v 128#32).toNat + 1 ≤ 392
      omega
    · exact le_rfl
  refine Hyps.of (fun c t kq hkq => ?_) (fun c t kq hkq => ?_)
  · rw [View.readAt_apply, Memref.IsWhole.read_unread]; exact chk1 _ (hw c t _)
  · rw [View.readAt_apply, Memref.IsWhole.read_unread]; exact chk2 _ (hw c t _)

end Cert.Att2.Att

end
-- ==== Proof.lean ====
/- The certificate's claim, put together: for each call of the kernel its runs and the reference's (the arguments
   unchanged, the machine quiescent at the end), and the equality of their results over the extended reals. -/
module

public import proofs.«01_k».proof.Defs
public import proofs.«01_k».proof.Proof.Gen.GruA.Frame
public import proofs.«01_k».proof.Proof.Gen.GruAIdeal.Value
public import proofs.«01_k».proof.Proof.Gen.GruARefIdeal.Run
public import proofs.«01_k».proof.Proof.Gen.GruARefIdeal.Read
public import proofs.«01_k».proof.Proof.GruAValue
public import proofs.«01_k».proof.Proof.Gen.GruB.Frame
public import proofs.«01_k».proof.Proof.Gen.GruBIdeal.Value
public import proofs.«01_k».proof.Proof.Gen.GruBRefIdeal.Run
public import proofs.«01_k».proof.Proof.Gen.GruBRefIdeal.Read
public import proofs.«01_k».proof.Proof.GruBValue
public import proofs.«01_k».proof.Proof.Gen.MatA.Frame
public import proofs.«01_k».proof.Proof.Gen.MatAIdeal.Value
public import proofs.«01_k».proof.Proof.Gen.MatARefIdeal.Run
public import proofs.«01_k».proof.Proof.Gen.MatARefIdeal.Read
public import proofs.«01_k».proof.Proof.MatAValue
public import proofs.«01_k».proof.Proof.Gen.MatB.Frame
public import proofs.«01_k».proof.Proof.Gen.MatBIdeal.Value
public import proofs.«01_k».proof.Proof.Gen.MatBRefIdeal.Run
public import proofs.«01_k».proof.Proof.Gen.MatBRefIdeal.Read
public import proofs.«01_k».proof.Proof.MatBValue
public import proofs.«01_k».proof.Proof.Gen.AddMat.Frame
public import proofs.«01_k».proof.Proof.Gen.AddMatIdeal.Value
public import proofs.«01_k».proof.Proof.Gen.AddMatRefIdeal.Run
public import proofs.«01_k».proof.Proof.Gen.AddMatRefIdeal.Read
public import proofs.«01_k».proof.Proof.AddMatValue
public import proofs.«01_k».proof.Proof.Gen.PairHead.Frame
public import proofs.«01_k».proof.Proof.Gen.PairHeadIdeal.Value
public import proofs.«01_k».proof.Proof.Gen.PairHeadRefIdeal.Run
public import proofs.«01_k».proof.Proof.Gen.PairHeadRefIdeal.Read
public import proofs.«01_k».proof.Proof.PairHeadValue
public import proofs.«01_k».proof.Proof.Gen.SegA.Frame
public import proofs.«01_k».proof.Proof.Gen.SegAIdeal.Value
public import proofs.«01_k».proof.Proof.Gen.SegARefIdeal.Run
public import proofs.«01_k».proof.Proof.Gen.SegARefIdeal.Read
public import proofs.«01_k».proof.Proof.SegAValue
public import proofs.«01_k».proof.Proof.Gen.SegB.Frame
public import proofs.«01_k».proof.Proof.Gen.SegBIdeal.Value
public import proofs.«01_k».proof.Proof.Gen.SegBRefIdeal.Run
public import proofs.«01_k».proof.Proof.Gen.SegBRefIdeal.Read
public import proofs.«01_k».proof.Proof.SegBValue
public import proofs.«01_k».proof.Proof.Gen.BnProj.Frame
public import proofs.«01_k».proof.Proof.Gen.BnProjIdeal.Frame
public import proofs.«01_k».proof.Proof.Gen.BnProjRefIdeal.Run
public import proofs.«01_k».proof.Proof.Gen.BnProjRefIdeal.Read
public import proofs.«01_k».proof.Proof.BnProjValue
public import proofs.«01_k».proof.Proof.Gen.Att1.Frame
public import proofs.«01_k».proof.Proof.Gen.Att1Ideal.Value
public import proofs.«01_k».proof.Proof.Gen.Att1RefIdeal.Run
public import proofs.«01_k».proof.Proof.Gen.Att1RefIdeal.Read
public import proofs.«01_k».proof.Proof.Att1Value
public import proofs.«01_k».proof.Proof.Gen.Att2.Frame
public import proofs.«01_k».proof.Proof.Gen.Att2Ideal.Value
public import proofs.«01_k».proof.Proof.Gen.Att2RefIdeal.Run
public import proofs.«01_k».proof.Proof.Gen.Att2RefIdeal.Read
public import proofs.«01_k».proof.Proof.Att2Value
public import proofs.«01_k».proof.Proof.Gen.Mean.Frame
public import proofs.«01_k».proof.Proof.Gen.MeanIdeal.Value
public import proofs.«01_k».proof.Proof.Gen.MeanRefIdeal.Run
public import proofs.«01_k».proof.Proof.Gen.MeanRefIdeal.Read
public import proofs.«01_k».proof.Proof.MeanValue
public import proofs.«01_k».proof.Proof.Gen.Pre_pairs_in_range
public import proofs.«01_k».proof.Proof.Gen.Pre_inner_in_range
public import proofs.«01_k».proof.Proof.Gen.Pre_edges_in_range
public import proofs.«01_k».proof.Proof.Gen.Pre_features_finite
public import proofs.«01_k».proof.Proof.Gen.Pre_att1_in_range
public import proofs.«01_k».proof.Proof.Gen.Pre_att2_in_range
public import proofs.«01_k».proof.Proof.PairHeadHyps
public import proofs.«01_k».proof.Proof.SegAHyps
public import proofs.«01_k».proof.Proof.SegBHyps
public import proofs.«01_k».proof.Proof.Att1Hyps
public import proofs.«01_k».proof.Proof.Att2Hyps
public import Idealize.ShloMosaic.Adequacy
public import Idealize.ShloMosaic.Init
public import Idealize.ShloMosaic.Lib.Claim

@[expose] public section

noncomputable section

namespace Cert.Proof

open Idealize.ShloMosaic Idealize.SL.Sem

/-- The reference of `GruA` runs, its arguments unchanged, the machine quiescent at the end. -/
theorem ref_GruA : Cert.quiescent_GruARefIdeal := fun m ρ _ =>
  (θ_run Cert.GruARefIdeal.defs _ _).mono (fun r h => ⟨fun c => (h c).2, sem_eq_zero_of_no_sems (by decide) r.2⟩)
    (Cert.GruARefIdeal.Value.run (F := Ideal) m ρ)

/-- The reference of `GruB` runs, its arguments unchanged, the machine quiescent at the end. -/
theorem ref_GruB : Cert.quiescent_GruBRefIdeal := fun m ρ _ =>
  (θ_run Cert.GruBRefIdeal.defs _ _).mono (fun r h => ⟨fun c => (h c).2, sem_eq_zero_of_no_sems (by decide) r.2⟩)
    (Cert.GruBRefIdeal.Value.run (F := Ideal) m ρ)

/-- The reference of `MatA` runs, its arguments unchanged, the machine quiescent at the end. -/
theorem ref_MatA : Cert.quiescent_MatARefIdeal := fun m ρ _ =>
  (θ_run Cert.MatARefIdeal.defs _ _).mono (fun r h => ⟨fun c => (h c).2, sem_eq_zero_of_no_sems (by decide) r.2⟩)
    (Cert.MatARefIdeal.Value.run (F := Ideal) m ρ)

/-- The reference of `MatB` runs, its arguments unchanged, the machine quiescent at the end. -/
theorem ref_MatB : Cert.quiescent_MatBRefIdeal := fun m ρ _ =>
  (θ_run Cert.MatBRefIdeal.defs _ _).mono (fun r h => ⟨fun c => (h c).2, sem_eq_zero_of_no_sems (by decide) r.2⟩)
    (Cert.MatBRefIdeal.Value.run (F := Ideal) m ρ)

/-- The reference of `AddMat` runs, its arguments unchanged, the machine quiescent at the end. -/
theorem ref_AddMat : Cert.quiescent_AddMatRefIdeal := fun m ρ _ =>
  (θ_run Cert.AddMatRefIdeal.defs _ _).mono (fun r h => ⟨fun c => (h c).2.2, sem_eq_zero_of_no_sems (by decide) r.2⟩)
    (Cert.AddMatRefIdeal.Value.run (F := Ideal) m ρ)

/-- The reference of `PairHead` runs, its arguments unchanged, the machine quiescent at the end. -/
theorem ref_PairHead : Cert.quiescent_PairHeadRefIdeal := fun m ρ _ =>
  (θ_run Cert.PairHeadRefIdeal.defs _ _).mono (fun r h => ⟨fun c => (h c).2, sem_eq_zero_of_no_sems (by decide) r.2⟩)
    (Cert.PairHeadRefIdeal.Value.run (F := Ideal) m ρ)

/-- The reference of `SegA` runs, its arguments unchanged, the machine quiescent at the end. -/
theorem ref_SegA : Cert.quiescent_SegARefIdeal := fun m ρ _ =>
  (θ_run Cert.SegARefIdeal.defs _ _).mono (fun r h => ⟨fun c => (h c).2, sem_eq_zero_of_no_sems (by decide) r.2⟩)
    (Cert.SegARefIdeal.Value.run (F := Ideal) m ρ)

/-- The reference of `SegB` runs, its arguments unchanged, the machine quiescent at the end. -/
theorem ref_SegB : Cert.quiescent_SegBRefIdeal := fun m ρ _ =>
  (θ_run Cert.SegBRefIdeal.defs _ _).mono (fun r h => ⟨fun c => (h c).2, sem_eq_zero_of_no_sems (by decide) r.2⟩)
    (Cert.SegBRefIdeal.Value.run (F := Ideal) m ρ)

/-- The reference of `BnProj` runs, its arguments unchanged, the machine quiescent at the end. -/
theorem ref_BnProj : Cert.quiescent_BnProjRefIdeal := fun m ρ _ =>
  (θ_run Cert.BnProjRefIdeal.defs _ _).mono (fun r h => ⟨fun c => (h c).2.2.2.2, sem_eq_zero_of_no_sems (by decide) r.2⟩)
    (Cert.BnProjRefIdeal.Value.run (F := Ideal) m ρ)

/-- The reference of `Att1` runs, its arguments unchanged, the machine quiescent at the end. -/
theorem ref_Att1 : Cert.quiescent_Att1RefIdeal := fun m ρ _ =>
  (θ_run Cert.Att1RefIdeal.defs _ _).mono (fun r h => ⟨fun c => (h c).2, sem_eq_zero_of_no_sems (by decide) r.2⟩)
    (Cert.Att1RefIdeal.Value.run (F := Ideal) m ρ)

/-- The reference of `Att2` runs, its arguments unchanged, the machine quiescent at the end. -/
theorem ref_Att2 : Cert.quiescent_Att2RefIdeal := fun m ρ _ =>
  (θ_run Cert.Att2RefIdeal.defs _ _).mono (fun r h => ⟨fun c => (h c).2.2, sem_eq_zero_of_no_sems (by decide) r.2⟩)
    (Cert.Att2RefIdeal.Value.run (F := Ideal) m ρ)

/-- The reference of `Mean` runs, its arguments unchanged, the machine quiescent at the end. -/
theorem ref_Mean : Cert.quiescent_MeanRefIdeal := fun m ρ _ =>
  (θ_run Cert.MeanRefIdeal.defs _ _).mono (fun r h => ⟨fun c => (h c).2, sem_eq_zero_of_no_sems (by decide) r.2⟩)
    (Cert.MeanRefIdeal.Value.run (F := Ideal) m ρ)

/-- Everything the certificate claims. -/
theorem claim : Cert.Claim :=
  ⟨Cert.GruA.Gen.facts, Cert.GruAIdeal.Gen.facts, Cert.GruARefIdeal.Gen.facts, Cert.GruB.Gen.facts, Cert.GruBIdeal.Gen.facts, Cert.GruBRefIdeal.Gen.facts, Cert.MatA.Gen.facts, Cert.MatAIdeal.Gen.facts, Cert.MatARefIdeal.Gen.facts, Cert.MatB.Gen.facts, Cert.MatBIdeal.Gen.facts, Cert.MatBRefIdeal.Gen.facts, Cert.AddMat.Gen.facts, Cert.AddMatIdeal.Gen.facts, Cert.AddMatRefIdeal.Gen.facts, Cert.PairHead.Gen.facts, Cert.PairHeadIdeal.Gen.facts, Cert.PairHeadRefIdeal.Gen.facts, Cert.SegA.Gen.facts, Cert.SegAIdeal.Gen.facts, Cert.SegARefIdeal.Gen.facts, Cert.SegB.Gen.facts, Cert.SegBIdeal.Gen.facts, Cert.SegBRefIdeal.Gen.facts, Cert.BnProj.Gen.facts, Cert.BnProjIdeal.Gen.facts, Cert.BnProjRefIdeal.Gen.facts, Cert.Att1.Gen.facts, Cert.Att1Ideal.Gen.facts, Cert.Att1RefIdeal.Gen.facts, Cert.Att2.Gen.facts, Cert.Att2Ideal.Gen.facts, Cert.Att2RefIdeal.Gen.facts, Cert.Mean.Gen.facts, Cert.MeanIdeal.Gen.facts, Cert.MeanRefIdeal.Gen.facts, Cert.Pre_pairs_in_range.Gen.facts, Cert.Pre_inner_in_range.Gen.facts, Cert.Pre_edges_in_range.Gen.facts, Cert.Pre_features_finite.Gen.facts, Cert.Pre_att1_in_range.Gen.facts, Cert.Pre_att2_in_range.Gen.facts,
    fun m ρ _ => Cert.GruA.Gen.frame m ρ,
    fun m ρ _ => Cert.GruAIdeal.Gen.frame m ρ,
    ref_GruA,
    fun m ρ _ => Cert.GruB.Gen.frame m ρ,
    fun m ρ _ => Cert.GruBIdeal.Gen.frame m ρ,
    ref_GruB,
    fun m ρ _ => Cert.MatA.Gen.frame m ρ,
    fun m ρ _ => Cert.MatAIdeal.Gen.frame m ρ,
    ref_MatA,
    fun m ρ _ => Cert.MatB.Gen.frame m ρ,
    fun m ρ _ => Cert.MatBIdeal.Gen.frame m ρ,
    ref_MatB,
    fun m ρ _ => Cert.AddMat.Gen.frame m ρ,
    fun m ρ _ => Cert.AddMatIdeal.Gen.frame m ρ,
    ref_AddMat,
    fun m ρ h => Cert.PairHead.Gen.frame m ρ (Cert.PairHead.Head.hyps_of_pre m h),
    fun m ρ h => Cert.PairHeadIdeal.Gen.frame m ρ (Cert.PairHeadIdeal.Head.hyps_of_pre m h),
    ref_PairHead,
    fun m ρ h => Cert.SegA.Gen.frame m ρ (Cert.SegA.Seg.hyps_of_pre m h),
    fun m ρ h => Cert.SegAIdeal.Gen.frame m ρ (Cert.SegAIdeal.Seg.hyps_of_pre m h),
    ref_SegA,
    fun m ρ h => Cert.SegB.Gen.frame m ρ (Cert.SegB.Seg.hyps_of_pre m h),
    fun m ρ h => Cert.SegBIdeal.Gen.frame m ρ (Cert.SegBIdeal.Seg.hyps_of_pre m h),
    ref_SegB,
    fun m ρ _ => Cert.BnProj.Gen.frame m ρ,
    fun m ρ _ => Cert.BnProjIdeal.Gen.frame m ρ,
    ref_BnProj,
    fun m ρ h => Cert.Att1.Gen.frame m ρ (Cert.Att1.Att.hyps_of_pre m h),
    fun m ρ h => Cert.Att1Ideal.Gen.frame m ρ (Cert.Att1Ideal.Att.hyps_of_pre m h),
    ref_Att1,
    fun m ρ h => Cert.Att2.Gen.frame m ρ (Cert.Att2.Att.hyps_of_pre m h),
    fun m ρ h => Cert.Att2Ideal.Gen.frame m ρ (Cert.Att2Ideal.Att.hyps_of_pre m h),
    ref_Att2,
    fun m ρ _ => Cert.Mean.Gen.frame m ρ,
    fun m ρ _ => Cert.MeanIdeal.Gen.frame m ρ,
    ref_Mean,
    trivial,
    Cert.GruAIdeal.Cell.algebraic,
    trivial,
    Cert.GruBIdeal.Cell.algebraic,
    trivial,
    Cert.MatAIdeal.Product.algebraic,
    trivial,
    Cert.MatBIdeal.Product.algebraic,
    trivial,
    Cert.AddMatIdeal.Product.algebraic,
    trivial,
    Cert.PairHeadIdeal.Head.algebraic,
    trivial,
    Cert.SegAIdeal.Seg.algebraic,
    trivial,
    Cert.SegBIdeal.Seg.algebraic,
    trivial,
    Cert.BnProjIdeal.Bn.algebraic,
    trivial,
    Cert.Att1Ideal.Att.algebraic,
    trivial,
    Cert.Att2Ideal.Att.algebraic,
    trivial,
    Cert.MeanIdeal.Mean.algebraic⟩

end Cert.Proof

end
